-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_keys_finite [hPre_keys_finite : Cert.Pre_keys_finite.Facts] (m : (ℓ : Loc Cert.AttnIdeal.nD Cert.AttnIdeal.τ Cert.AttnIdeal.sig) → Buf (Elt Ideal) ℓ) : Prop :=
  ∀ c : Dev Cert.AttnIdeal.nD,
    (Cert.Pre_keys_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).1 = (fun _ => 1#1)
    ∧ (Cert.Pre_keys_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.1 = (fun _ => 1#1)
    ∧ (Cert.Pre_keys_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_keys_finite [hPre_keys_finite : Cert.Pre_keys_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_keys_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).1 = (fun _ => 1#1)
    ∧ (Cert.Pre_keys_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.1 = (fun _ => 1#1)
    ∧ (Cert.Pre_keys_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.2 = (fun _ => 1#1)

def Pre_FirstAttn (m : (ℓ : Loc Cert.FirstAttn.nD Cert.FirstAttn.τ Cert.FirstAttn.sig) → Buf (Elt Bits) ℓ) : Prop :=
  True

def Pre_FirstAttnIdeal (m : (ℓ : Loc Cert.FirstAttnIdeal.nD Cert.FirstAttnIdeal.τ Cert.FirstAttnIdeal.sig) → Buf (Elt Ideal) ℓ) : Prop :=
  True

def Pre_FirstAttnIdeal_first_keys_finite [hPre_first_keys_finite : Cert.Pre_first_keys_finite.Facts] (m : (ℓ : Loc Cert.FirstAttnIdeal.nD Cert.FirstAttnIdeal.τ Cert.FirstAttnIdeal.sig) → Buf (Elt Ideal) ℓ) : Prop :=
  ∀ c : Dev Cert.FirstAttnIdeal.nD,
    (Cert.Pre_first_keys_finite.fn (F := Ideal) (m ((c.tc : Thread Cert.FirstAttnIdeal.nD Cert.FirstAttnIdeal.τ).loc Cert.FirstAttnIdeal.main_arg0)) (m ((c.tc : Thread Cert.FirstAttnIdeal.nD Cert.FirstAttnIdeal.τ).loc Cert.FirstAttnIdeal.main_arg1)) (m ((c.tc : Thread Cert.FirstAttnIdeal.nD Cert.FirstAttnIdeal.τ).loc Cert.FirstAttnIdeal.main_arg2)) (m ((c.tc : Thread Cert.FirstAttnIdeal.nD Cert.FirstAttnIdeal.τ).loc Cert.FirstAttnIdeal.main_arg3)) (m ((c.tc : Thread Cert.FirstAttnIdeal.nD Cert.FirstAttnIdeal.τ).loc Cert.FirstAttnIdeal.main_arg4)) (m ((c.tc : Thread Cert.FirstAttnIdeal.nD Cert.FirstAttnIdeal.τ).loc Cert.FirstAttnIdeal.main_arg5)) (m ((c.tc : Thread Cert.FirstAttnIdeal.nD Cert.FirstAttnIdeal.τ).loc Cert.FirstAttnIdeal.main_arg6))).1 = (fun _ => 1#1)
    ∧ (Cert.Pre_first_keys_finite.fn (F := Ideal) (m ((c.tc : Thread Cert.FirstAttnIdeal.nD Cert.FirstAttnIdeal.τ).loc Cert.FirstAttnIdeal.main_arg0)) (m ((c.tc : Thread Cert.FirstAttnIdeal.nD Cert.FirstAttnIdeal.τ).loc Cert.FirstAttnIdeal.main_arg1)) (m ((c.tc : Thread Cert.FirstAttnIdeal.nD Cert.FirstAttnIdeal.τ).loc Cert.FirstAttnIdeal.main_arg2)) (m ((c.tc : Thread Cert.FirstAttnIdeal.nD Cert.FirstAttnIdeal.τ).loc Cert.FirstAttnIdeal.main_arg3)) (m ((c.tc : Thread Cert.FirstAttnIdeal.nD Cert.FirstAttnIdeal.τ).loc Cert.FirstAttnIdeal.main_arg4)) (m ((c.tc : Thread Cert.FirstAttnIdeal.nD Cert.FirstAttnIdeal.τ).loc Cert.FirstAttnIdeal.main_arg5)) (m ((c.tc : Thread Cert.FirstAttnIdeal.nD Cert.FirstAttnIdeal.τ).loc Cert.FirstAttnIdeal.main_arg6))).2.1 = (fun _ => 1#1)
    ∧ (Cert.Pre_first_keys_finite.fn (F := Ideal) (m ((c.tc : Thread Cert.FirstAttnIdeal.nD Cert.FirstAttnIdeal.τ).loc Cert.FirstAttnIdeal.main_arg0)) (m ((c.tc : Thread Cert.FirstAttnIdeal.nD Cert.FirstAttnIdeal.τ).loc Cert.FirstAttnIdeal.main_arg1)) (m ((c.tc : Thread Cert.FirstAttnIdeal.nD Cert.FirstAttnIdeal.τ).loc Cert.FirstAttnIdeal.main_arg2)) (m ((c.tc : Thread Cert.FirstAttnIdeal.nD Cert.FirstAttnIdeal.τ).loc Cert.FirstAttnIdeal.main_arg3)) (m ((c.tc : Thread Cert.FirstAttnIdeal.nD Cert.FirstAttnIdeal.τ).loc Cert.FirstAttnIdeal.main_arg4)) (m ((c.tc : Thread Cert.FirstAttnIdeal.nD Cert.FirstAttnIdeal.τ).loc Cert.FirstAttnIdeal.main_arg5)) (m ((c.tc : Thread Cert.FirstAttnIdeal.nD Cert.FirstAttnIdeal.τ).loc Cert.FirstAttnIdeal.main_arg6))).2.2 = (fun _ => 1#1)

def Pre_FirstAttnRefIdeal (m : (ℓ : Loc Cert.FirstAttnRefIdeal.nD Cert.FirstAttnRefIdeal.τ Cert.FirstAttnRefIdeal.sig) → Buf (Elt Ideal) ℓ) : Prop :=
  True

def Pre_FirstAttnRefIdeal_first_keys_finite [hPre_first_keys_finite : Cert.Pre_first_keys_finite.Facts] (m : (ℓ : Loc Cert.FirstAttnRefIdeal.nD Cert.FirstAttnRefIdeal.τ Cert.FirstAttnRefIdeal.sig) → Buf (Elt Ideal) ℓ) : Prop :=
  ∀ c : Dev Cert.FirstAttnRefIdeal.nD,
    (Cert.Pre_first_keys_finite.fn (F := Ideal) (m ((c.tc : Thread Cert.FirstAttnRefIdeal.nD Cert.FirstAttnRefIdeal.τ).loc Cert.FirstAttnRefIdeal.main_arg0)) (m ((c.tc : Thread Cert.FirstAttnRefIdeal.nD Cert.FirstAttnRefIdeal.τ).loc Cert.FirstAttnRefIdeal.main_arg1)) (m ((c.tc : Thread Cert.FirstAttnRefIdeal.nD Cert.FirstAttnRefIdeal.τ).loc Cert.FirstAttnRefIdeal.main_arg2)) (m ((c.tc : Thread Cert.FirstAttnRefIdeal.nD Cert.FirstAttnRefIdeal.τ).loc Cert.FirstAttnRefIdeal.main_arg3)) (m ((c.tc : Thread Cert.FirstAttnRefIdeal.nD Cert.FirstAttnRefIdeal.τ).loc Cert.FirstAttnRefIdeal.main_arg4)) (m ((c.tc : Thread Cert.FirstAttnRefIdeal.nD Cert.FirstAttnRefIdeal.τ).loc Cert.FirstAttnRefIdeal.main_arg5)) (m ((c.tc : Thread Cert.FirstAttnRefIdeal.nD Cert.FirstAttnRefIdeal.τ).loc Cert.FirstAttnRefIdeal.main_arg6))).1 = (fun _ => 1#1)
    ∧ (Cert.Pre_first_keys_finite.fn (F := Ideal) (m ((c.tc : Thread Cert.FirstAttnRefIdeal.nD Cert.FirstAttnRefIdeal.τ).loc Cert.FirstAttnRefIdeal.main_arg0)) (m ((c.tc : Thread Cert.FirstAttnRefIdeal.nD Cert.FirstAttnRefIdeal.τ).loc Cert.FirstAttnRefIdeal.main_arg1)) (m ((c.tc : Thread Cert.FirstAttnRefIdeal.nD Cert.FirstAttnRefIdeal.τ).loc Cert.FirstAttnRefIdeal.main_arg2)) (m ((c.tc : Thread Cert.FirstAttnRefIdeal.nD Cert.FirstAttnRefIdeal.τ).loc Cert.FirstAttnRefIdeal.main_arg3)) (m ((c.tc : Thread Cert.FirstAttnRefIdeal.nD Cert.FirstAttnRefIdeal.τ).loc Cert.FirstAttnRefIdeal.main_arg4)) (m ((c.tc : Thread Cert.FirstAttnRefIdeal.nD Cert.FirstAttnRefIdeal.τ).loc Cert.FirstAttnRefIdeal.main_arg5)) (m ((c.tc : Thread Cert.FirstAttnRefIdeal.nD Cert.FirstAttnRefIdeal.τ).loc Cert.FirstAttnRefIdeal.main_arg6))).2.1 = (fun _ => 1#1)
    ∧ (Cert.Pre_first_keys_finite.fn (F := Ideal) (m ((c.tc : Thread Cert.FirstAttnRefIdeal.nD Cert.FirstAttnRefIdeal.τ).loc Cert.FirstAttnRefIdeal.main_arg0)) (m ((c.tc : Thread Cert.FirstAttnRefIdeal.nD Cert.FirstAttnRefIdeal.τ).loc Cert.FirstAttnRefIdeal.main_arg1)) (m ((c.tc : Thread Cert.FirstAttnRefIdeal.nD Cert.FirstAttnRefIdeal.τ).loc Cert.FirstAttnRefIdeal.main_arg2)) (m ((c.tc : Thread Cert.FirstAttnRefIdeal.nD Cert.FirstAttnRefIdeal.τ).loc Cert.FirstAttnRefIdeal.main_arg3)) (m ((c.tc : Thread Cert.FirstAttnRefIdeal.nD Cert.FirstAttnRefIdeal.τ).loc Cert.FirstAttnRefIdeal.main_arg4)) (m ((c.tc : Thread Cert.FirstAttnRefIdeal.nD Cert.FirstAttnRefIdeal.τ).loc Cert.FirstAttnRefIdeal.main_arg5)) (m ((c.tc : Thread Cert.FirstAttnRefIdeal.nD Cert.FirstAttnRefIdeal.τ).loc Cert.FirstAttnRefIdeal.main_arg6))).2.2 = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_ShortConv (m : (ℓ : Loc Cert.ShortConv.nD Cert.ShortConv.τ Cert.ShortConv.sig) → Buf (Elt Bits) ℓ) : Prop :=
  True

def Pre_ShortConvIdeal (m : (ℓ : Loc Cert.ShortConvIdeal.nD Cert.ShortConvIdeal.τ Cert.ShortConvIdeal.sig) → Buf (Elt Ideal) ℓ) : Prop :=
  True

def Pre_ShortConvRefIdeal (m : (ℓ : Loc Cert.ShortConvRefIdeal.nD Cert.ShortConvRefIdeal.τ Cert.ShortConvRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnIdeal_pre_keys_finite [hAttnIdeal : Cert.AttnIdeal.Facts] [hPre_keys_finite : Cert.Pre_keys_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_keys_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_AttnRefIdeal_pre_keys_finite [hAttnRefIdeal : Cert.AttnRefIdeal.Facts] [hPre_keys_finite : Cert.Pre_keys_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_keys_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_FirstAttn [hFirstAttn : Cert.FirstAttn.Facts] : Prop :=
  ∀ (m : (ℓ : Loc Cert.FirstAttn.nD Cert.FirstAttn.τ Cert.FirstAttn.sig) → Buf (Elt Bits) ℓ) (g : Dev Cert.FirstAttn.nD → PrngReg), Pre_FirstAttn m →
    θ_run (Cert.FirstAttn.defs (F := Bits)) (onTc (τ := Cert.FirstAttn.τ) (Cert.FirstAttn.main (F := Bits))) ⟨m, fun _ => 0, g⟩ (fun r => (∀ c : Dev Cert.FirstAttn.nD,
      r.2.mem ((c.tc : Thread Cert.FirstAttn.nD Cert.FirstAttn.τ).loc Cert.FirstAttn.main_arg0) = m ((c.tc : Thread Cert.FirstAttn.nD Cert.FirstAttn.τ).loc Cert.FirstAttn.main_arg0)
      ∧ r.2.mem ((c.tc : Thread Cert.FirstAttn.nD Cert.FirstAttn.τ).loc Cert.FirstAttn.main_arg1) = m ((c.tc : Thread Cert.FirstAttn.nD Cert.FirstAttn.τ).loc Cert.FirstAttn.main_arg1)
      ∧ r.2.mem ((c.tc : Thread Cert.FirstAttn.nD Cert.FirstAttn.τ).loc Cert.FirstAttn.main_arg2) = m ((c.tc : Thread Cert.FirstAttn.nD Cert.FirstAttn.τ).loc Cert.FirstAttn.main_arg2)
      ∧ r.2.mem ((c.tc : Thread Cert.FirstAttn.nD Cert.FirstAttn.τ).loc Cert.FirstAttn.main_arg3) = m ((c.tc : Thread Cert.FirstAttn.nD Cert.FirstAttn.τ).loc Cert.FirstAttn.main_arg3)
      ∧ r.2.mem ((c.tc : Thread Cert.FirstAttn.nD Cert.FirstAttn.τ).loc Cert.FirstAttn.main_arg4) = m ((c.tc : Thread Cert.FirstAttn.nD Cert.FirstAttn.τ).loc Cert.FirstAttn.main_arg4)
      ∧ r.2.mem ((c.tc : Thread Cert.FirstAttn.nD Cert.FirstAttn.τ).loc Cert.FirstAttn.main_arg5) = m ((c.tc : Thread Cert.FirstAttn.nD Cert.FirstAttn.τ).loc Cert.FirstAttn.main_arg5)
      ∧ r.2.mem ((c.tc : Thread Cert.FirstAttn.nD Cert.FirstAttn.τ).loc Cert.FirstAttn.main_arg6) = m ((c.tc : Thread Cert.FirstAttn.nD Cert.FirstAttn.τ).loc Cert.FirstAttn.main_arg6))
      ∧ r.2.sem = fun _ => 0)

def quiescent_FirstAttnIdeal [hFirstAttnIdeal : Cert.FirstAttnIdeal.Facts] : Prop :=
  ∀ (m : (ℓ : Loc Cert.FirstAttnIdeal.nD Cert.FirstAttnIdeal.τ Cert.FirstAttnIdeal.sig) → Buf (Elt Ideal) ℓ) (g : Dev Cert.FirstAttnIdeal.nD → PrngReg), Pre_FirstAttnIdeal m →
    θ_run (Cert.FirstAttnIdeal.defs (F := Ideal)) (onTc (τ := Cert.FirstAttnIdeal.τ) (Cert.FirstAttnIdeal.main (F := Ideal))) ⟨m, fun _ => 0, g⟩ (fun r => (∀ c : Dev Cert.FirstAttnIdeal.nD,
      r.2.mem ((c.tc : Thread Cert.FirstAttnIdeal.nD Cert.FirstAttnIdeal.τ).loc Cert.FirstAttnIdeal.main_arg0) = m ((c.tc : Thread Cert.FirstAttnIdeal.nD Cert.FirstAttnIdeal.τ).loc Cert.FirstAttnIdeal.main_arg0)
      ∧ r.2.mem ((c.tc : Thread Cert.FirstAttnIdeal.nD Cert.FirstAttnIdeal.τ).loc Cert.FirstAttnIdeal.main_arg1) = m ((c.tc : Thread Cert.FirstAttnIdeal.nD Cert.FirstAttnIdeal.τ).loc Cert.FirstAttnIdeal.main_arg1)
      ∧ r.2.mem ((c.tc : Thread Cert.FirstAttnIdeal.nD Cert.FirstAttnIdeal.τ).loc Cert.FirstAttnIdeal.main_arg2) = m ((c.tc : Thread Cert.FirstAttnIdeal.nD Cert.FirstAttnIdeal.τ).loc Cert.FirstAttnIdeal.main_arg2)
      ∧ r.2.mem ((c.tc : Thread Cert.FirstAttnIdeal.nD Cert.FirstAttnIdeal.τ).loc Cert.FirstAttnIdeal.main_arg3) = m ((c.tc : Thread Cert.FirstAttnIdeal.nD Cert.FirstAttnIdeal.τ).loc Cert.FirstAttnIdeal.main_arg3)
      ∧ r.2.mem ((c.tc : Thread Cert.FirstAttnIdeal.nD Cert.FirstAttnIdeal.τ).loc Cert.FirstAttnIdeal.main_arg4) = m ((c.tc : Thread Cert.FirstAttnIdeal.nD Cert.FirstAttnIdeal.τ).loc Cert.FirstAttnIdeal.main_arg4)
      ∧ r.2.mem ((c.tc : Thread Cert.FirstAttnIdeal.nD Cert.FirstAttnIdeal.τ).loc Cert.FirstAttnIdeal.main_arg5) = m ((c.tc : Thread Cert.FirstAttnIdeal.nD Cert.FirstAttnIdeal.τ).loc Cert.FirstAttnIdeal.main_arg5)
      ∧ r.2.mem ((c.tc : Thread Cert.FirstAttnIdeal.nD Cert.FirstAttnIdeal.τ).loc Cert.FirstAttnIdeal.main_arg6) = m ((c.tc : Thread Cert.FirstAttnIdeal.nD Cert.FirstAttnIdeal.τ).loc Cert.FirstAttnIdeal.main_arg6))
      ∧ r.2.sem = fun _ => 0)

def quiescent_FirstAttnIdeal_pre_first_keys_finite [hFirstAttnIdeal : Cert.FirstAttnIdeal.Facts] [hPre_first_keys_finite : Cert.Pre_first_keys_finite.Facts] : Prop :=
  ∀ (m : (ℓ : Loc Cert.FirstAttnIdeal.nD Cert.FirstAttnIdeal.τ Cert.FirstAttnIdeal.sig) → Buf (Elt Ideal) ℓ) (g : Dev Cert.FirstAttnIdeal.nD → PrngReg), Pre_FirstAttnIdeal_first_keys_finite m →
    θ_run (Cert.FirstAttnIdeal.defs (F := Ideal)) (onTc (τ := Cert.FirstAttnIdeal.τ) (Cert.FirstAttnIdeal.main (F := Ideal))) ⟨m, fun _ => 0, g⟩ (fun r => (∀ c : Dev Cert.FirstAttnIdeal.nD,
      r.2.mem ((c.tc : Thread Cert.FirstAttnIdeal.nD Cert.FirstAttnIdeal.τ).loc Cert.FirstAttnIdeal.main_arg0) = m ((c.tc : Thread Cert.FirstAttnIdeal.nD Cert.FirstAttnIdeal.τ).loc Cert.FirstAttnIdeal.main_arg0)
      ∧ r.2.mem ((c.tc : Thread Cert.FirstAttnIdeal.nD Cert.FirstAttnIdeal.τ).loc Cert.FirstAttnIdeal.main_arg1) = m ((c.tc : Thread Cert.FirstAttnIdeal.nD Cert.FirstAttnIdeal.τ).loc Cert.FirstAttnIdeal.main_arg1)
      ∧ r.2.mem ((c.tc : Thread Cert.FirstAttnIdeal.nD Cert.FirstAttnIdeal.τ).loc Cert.FirstAttnIdeal.main_arg2) = m ((c.tc : Thread Cert.FirstAttnIdeal.nD Cert.FirstAttnIdeal.τ).loc Cert.FirstAttnIdeal.main_arg2)
      ∧ r.2.mem ((c.tc : Thread Cert.FirstAttnIdeal.nD Cert.FirstAttnIdeal.τ).loc Cert.FirstAttnIdeal.main_arg3) = m ((c.tc : Thread Cert.FirstAttnIdeal.nD Cert.FirstAttnIdeal.τ).loc Cert.FirstAttnIdeal.main_arg3)
      ∧ r.2.mem ((c.tc : Thread Cert.FirstAttnIdeal.nD Cert.FirstAttnIdeal.τ).loc Cert.FirstAttnIdeal.main_arg4) = m ((c.tc : Thread Cert.FirstAttnIdeal.nD Cert.FirstAttnIdeal.τ).loc Cert.FirstAttnIdeal.main_arg4)
      ∧ r.2.mem ((c.tc : Thread Cert.FirstAttnIdeal.nD Cert.FirstAttnIdeal.τ).loc Cert.FirstAttnIdeal.main_arg5) = m ((c.tc : Thread Cert.FirstAttnIdeal.nD Cert.FirstAttnIdeal.τ).loc Cert.FirstAttnIdeal.main_arg5)
      ∧ r.2.mem ((c.tc : Thread Cert.FirstAttnIdeal.nD Cert.FirstAttnIdeal.τ).loc Cert.FirstAttnIdeal.main_arg6) = m ((c.tc : Thread Cert.FirstAttnIdeal.nD Cert.FirstAttnIdeal.τ).loc Cert.FirstAttnIdeal.main_arg6))
      ∧ r.2.sem = fun _ => 0)

def quiescent_FirstAttnRefIdeal [hFirstAttnRefIdeal : Cert.FirstAttnRefIdeal.Facts] : Prop :=
  ∀ (m : (ℓ : Loc Cert.FirstAttnRefIdeal.nD Cert.FirstAttnRefIdeal.τ Cert.FirstAttnRefIdeal.sig) → Buf (Elt Ideal) ℓ) (g : Dev Cert.FirstAttnRefIdeal.nD → PrngReg), Pre_FirstAttnRefIdeal m →
    θ_run (Cert.FirstAttnRefIdeal.defs (F := Ideal)) (onTc (τ := Cert.FirstAttnRefIdeal.τ) (Cert.FirstAttnRefIdeal.main (F := Ideal))) ⟨m, fun _ => 0, g⟩ (fun r => (∀ c : Dev Cert.FirstAttnRefIdeal.nD,
      r.2.mem ((c.tc : Thread Cert.FirstAttnRefIdeal.nD Cert.FirstAttnRefIdeal.τ).loc Cert.FirstAttnRefIdeal.main_arg0) = m ((c.tc : Thread Cert.FirstAttnRefIdeal.nD Cert.FirstAttnRefIdeal.τ).loc Cert.FirstAttnRefIdeal.main_arg0)
      ∧ r.2.mem ((c.tc : Thread Cert.FirstAttnRefIdeal.nD Cert.FirstAttnRefIdeal.τ).loc Cert.FirstAttnRefIdeal.main_arg1) = m ((c.tc : Thread Cert.FirstAttnRefIdeal.nD Cert.FirstAttnRefIdeal.τ).loc Cert.FirstAttnRefIdeal.main_arg1)
      ∧ r.2.mem ((c.tc : Thread Cert.FirstAttnRefIdeal.nD Cert.FirstAttnRefIdeal.τ).loc Cert.FirstAttnRefIdeal.main_arg2) = m ((c.tc : Thread Cert.FirstAttnRefIdeal.nD Cert.FirstAttnRefIdeal.τ).loc Cert.FirstAttnRefIdeal.main_arg2)
      ∧ r.2.mem ((c.tc : Thread Cert.FirstAttnRefIdeal.nD Cert.FirstAttnRefIdeal.τ).loc Cert.FirstAttnRefIdeal.main_arg3) = m ((c.tc : Thread Cert.FirstAttnRefIdeal.nD Cert.FirstAttnRefIdeal.τ).loc Cert.FirstAttnRefIdeal.main_arg3)
      ∧ r.2.mem ((c.tc : Thread Cert.FirstAttnRefIdeal.nD Cert.FirstAttnRefIdeal.τ).loc Cert.FirstAttnRefIdeal.main_arg4) = m ((c.tc : Thread Cert.FirstAttnRefIdeal.nD Cert.FirstAttnRefIdeal.τ).loc Cert.FirstAttnRefIdeal.main_arg4)
      ∧ r.2.mem ((c.tc : Thread Cert.FirstAttnRefIdeal.nD Cert.FirstAttnRefIdeal.τ).loc Cert.FirstAttnRefIdeal.main_arg5) = m ((c.tc : Thread Cert.FirstAttnRefIdeal.nD Cert.FirstAttnRefIdeal.τ).loc Cert.FirstAttnRefIdeal.main_arg5)
      ∧ r.2.mem ((c.tc : Thread Cert.FirstAttnRefIdeal.nD Cert.FirstAttnRefIdeal.τ).loc Cert.FirstAttnRefIdeal.main_arg6) = m ((c.tc : Thread Cert.FirstAttnRefIdeal.nD Cert.FirstAttnRefIdeal.τ).loc Cert.FirstAttnRefIdeal.main_arg6))
      ∧ r.2.sem = fun _ => 0)

def quiescent_FirstAttnRefIdeal_pre_first_keys_finite [hFirstAttnRefIdeal : Cert.FirstAttnRefIdeal.Facts] [hPre_first_keys_finite : Cert.Pre_first_keys_finite.Facts] : Prop :=
  ∀ (m : (ℓ : Loc Cert.FirstAttnRefIdeal.nD Cert.FirstAttnRefIdeal.τ Cert.FirstAttnRefIdeal.sig) → Buf (Elt Ideal) ℓ) (g : Dev Cert.FirstAttnRefIdeal.nD → PrngReg), Pre_FirstAttnRefIdeal_first_keys_finite m →
    θ_run (Cert.FirstAttnRefIdeal.defs (F := Ideal)) (onTc (τ := Cert.FirstAttnRefIdeal.τ) (Cert.FirstAttnRefIdeal.main (F := Ideal))) ⟨m, fun _ => 0, g⟩ (fun r => (∀ c : Dev Cert.FirstAttnRefIdeal.nD,
      r.2.mem ((c.tc : Thread Cert.FirstAttnRefIdeal.nD Cert.FirstAttnRefIdeal.τ).loc Cert.FirstAttnRefIdeal.main_arg0) = m ((c.tc : Thread Cert.FirstAttnRefIdeal.nD Cert.FirstAttnRefIdeal.τ).loc Cert.FirstAttnRefIdeal.main_arg0)
      ∧ r.2.mem ((c.tc : Thread Cert.FirstAttnRefIdeal.nD Cert.FirstAttnRefIdeal.τ).loc Cert.FirstAttnRefIdeal.main_arg1) = m ((c.tc : Thread Cert.FirstAttnRefIdeal.nD Cert.FirstAttnRefIdeal.τ).loc Cert.FirstAttnRefIdeal.main_arg1)
      ∧ r.2.mem ((c.tc : Thread Cert.FirstAttnRefIdeal.nD Cert.FirstAttnRefIdeal.τ).loc Cert.FirstAttnRefIdeal.main_arg2) = m ((c.tc : Thread Cert.FirstAttnRefIdeal.nD Cert.FirstAttnRefIdeal.τ).loc Cert.FirstAttnRefIdeal.main_arg2)
      ∧ r.2.mem ((c.tc : Thread Cert.FirstAttnRefIdeal.nD Cert.FirstAttnRefIdeal.τ).loc Cert.FirstAttnRefIdeal.main_arg3) = m ((c.tc : Thread Cert.FirstAttnRefIdeal.nD Cert.FirstAttnRefIdeal.τ).loc Cert.FirstAttnRefIdeal.main_arg3)
      ∧ r.2.mem ((c.tc : Thread Cert.FirstAttnRefIdeal.nD Cert.FirstAttnRefIdeal.τ).loc Cert.FirstAttnRefIdeal.main_arg4) = m ((c.tc : Thread Cert.FirstAttnRefIdeal.nD Cert.FirstAttnRefIdeal.τ).loc Cert.FirstAttnRefIdeal.main_arg4)
      ∧ r.2.mem ((c.tc : Thread Cert.FirstAttnRefIdeal.nD Cert.FirstAttnRefIdeal.τ).loc Cert.FirstAttnRefIdeal.main_arg5) = m ((c.tc : Thread Cert.FirstAttnRefIdeal.nD Cert.FirstAttnRefIdeal.τ).loc Cert.FirstAttnRefIdeal.main_arg5)
      ∧ r.2.mem ((c.tc : Thread Cert.FirstAttnRefIdeal.nD Cert.FirstAttnRefIdeal.τ).loc Cert.FirstAttnRefIdeal.main_arg6) = m ((c.tc : Thread Cert.FirstAttnRefIdeal.nD Cert.FirstAttnRefIdeal.τ).loc Cert.FirstAttnRefIdeal.main_arg6))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_ShortConv [hShortConv : Cert.ShortConv.Facts] : Prop :=
  ∀ (m : (ℓ : Loc Cert.ShortConv.nD Cert.ShortConv.τ Cert.ShortConv.sig) → Buf (Elt Bits) ℓ) (g : Dev Cert.ShortConv.nD → PrngReg), Pre_ShortConv m →
    θ_run (Cert.ShortConv.defs (F := Bits)) (onTc (τ := Cert.ShortConv.τ) (Cert.ShortConv.main (F := Bits))) ⟨m, fun _ => 0, g⟩ (fun r => (∀ c : Dev Cert.ShortConv.nD,
      r.2.mem ((c.tc : Thread Cert.ShortConv.nD Cert.ShortConv.τ).loc Cert.ShortConv.main_arg0) = m ((c.tc : Thread Cert.ShortConv.nD Cert.ShortConv.τ).loc Cert.ShortConv.main_arg0)
      ∧ r.2.mem ((c.tc : Thread Cert.ShortConv.nD Cert.ShortConv.τ).loc Cert.ShortConv.main_arg1) = m ((c.tc : Thread Cert.ShortConv.nD Cert.ShortConv.τ).loc Cert.ShortConv.main_arg1)
      ∧ r.2.mem ((c.tc : Thread Cert.ShortConv.nD Cert.ShortConv.τ).loc Cert.ShortConv.main_arg2) = m ((c.tc : Thread Cert.ShortConv.nD Cert.ShortConv.τ).loc Cert.ShortConv.main_arg2)
      ∧ r.2.mem ((c.tc : Thread Cert.ShortConv.nD Cert.ShortConv.τ).loc Cert.ShortConv.main_arg3) = m ((c.tc : Thread Cert.ShortConv.nD Cert.ShortConv.τ).loc Cert.ShortConv.main_arg3)
      ∧ r.2.mem ((c.tc : Thread Cert.ShortConv.nD Cert.ShortConv.τ).loc Cert.ShortConv.main_arg4) = m ((c.tc : Thread Cert.ShortConv.nD Cert.ShortConv.τ).loc Cert.ShortConv.main_arg4)
      ∧ r.2.mem ((c.tc : Thread Cert.ShortConv.nD Cert.ShortConv.τ).loc Cert.ShortConv.main_arg5) = m ((c.tc : Thread Cert.ShortConv.nD Cert.ShortConv.τ).loc Cert.ShortConv.main_arg5)
      ∧ r.2.mem ((c.tc : Thread Cert.ShortConv.nD Cert.ShortConv.τ).loc Cert.ShortConv.main_arg6) = m ((c.tc : Thread Cert.ShortConv.nD Cert.ShortConv.τ).loc Cert.ShortConv.main_arg6)
      ∧ r.2.mem ((c.tc : Thread Cert.ShortConv.nD Cert.ShortConv.τ).loc Cert.ShortConv.main_arg7) = m ((c.tc : Thread Cert.ShortConv.nD Cert.ShortConv.τ).loc Cert.ShortConv.main_arg7))
      ∧ r.2.sem = fun _ => 0)

def quiescent_ShortConvIdeal [hShortConvIdeal : Cert.ShortConvIdeal.Facts] : Prop :=
  ∀ (m : (ℓ : Loc Cert.ShortConvIdeal.nD Cert.ShortConvIdeal.τ Cert.ShortConvIdeal.sig) → Buf (Elt Ideal) ℓ) (g : Dev Cert.ShortConvIdeal.nD → PrngReg), Pre_ShortConvIdeal m →
    θ_run (Cert.ShortConvIdeal.defs (F := Ideal)) (onTc (τ := Cert.ShortConvIdeal.τ) (Cert.ShortConvIdeal.main (F := Ideal))) ⟨m, fun _ => 0, g⟩ (fun r => (∀ c : Dev Cert.ShortConvIdeal.nD,
      r.2.mem ((c.tc : Thread Cert.ShortConvIdeal.nD Cert.ShortConvIdeal.τ).loc Cert.ShortConvIdeal.main_arg0) = m ((c.tc : Thread Cert.ShortConvIdeal.nD Cert.ShortConvIdeal.τ).loc Cert.ShortConvIdeal.main_arg0)
      ∧ r.2.mem ((c.tc : Thread Cert.ShortConvIdeal.nD Cert.ShortConvIdeal.τ).loc Cert.ShortConvIdeal.main_arg1) = m ((c.tc : Thread Cert.ShortConvIdeal.nD Cert.ShortConvIdeal.τ).loc Cert.ShortConvIdeal.main_arg1)
      ∧ r.2.mem ((c.tc : Thread Cert.ShortConvIdeal.nD Cert.ShortConvIdeal.τ).loc Cert.ShortConvIdeal.main_arg2) = m ((c.tc : Thread Cert.ShortConvIdeal.nD Cert.ShortConvIdeal.τ).loc Cert.ShortConvIdeal.main_arg2)
      ∧ r.2.mem ((c.tc : Thread Cert.ShortConvIdeal.nD Cert.ShortConvIdeal.τ).loc Cert.ShortConvIdeal.main_arg3) = m ((c.tc : Thread Cert.ShortConvIdeal.nD Cert.ShortConvIdeal.τ).loc Cert.ShortConvIdeal.main_arg3)
      ∧ r.2.mem ((c.tc : Thread Cert.ShortConvIdeal.nD Cert.ShortConvIdeal.τ).loc Cert.ShortConvIdeal.main_arg4) = m ((c.tc : Thread Cert.ShortConvIdeal.nD Cert.ShortConvIdeal.τ).loc Cert.ShortConvIdeal.main_arg4)
      ∧ r.2.mem ((c.tc : Thread Cert.ShortConvIdeal.nD Cert.ShortConvIdeal.τ).loc Cert.ShortConvIdeal.main_arg5) = m ((c.tc : Thread Cert.ShortConvIdeal.nD Cert.ShortConvIdeal.τ).loc Cert.ShortConvIdeal.main_arg5)
      ∧ r.2.mem ((c.tc : Thread Cert.ShortConvIdeal.nD Cert.ShortConvIdeal.τ).loc Cert.ShortConvIdeal.main_arg6) = m ((c.tc : Thread Cert.ShortConvIdeal.nD Cert.ShortConvIdeal.τ).loc Cert.ShortConvIdeal.main_arg6)
      ∧ r.2.mem ((c.tc : Thread Cert.ShortConvIdeal.nD Cert.ShortConvIdeal.τ).loc Cert.ShortConvIdeal.main_arg7) = m ((c.tc : Thread Cert.ShortConvIdeal.nD Cert.ShortConvIdeal.τ).loc Cert.ShortConvIdeal.main_arg7))
      ∧ r.2.sem = fun _ => 0)

def quiescent_ShortConvRefIdeal [hShortConvRefIdeal : Cert.ShortConvRefIdeal.Facts] : Prop :=
  ∀ (m : (ℓ : Loc Cert.ShortConvRefIdeal.nD Cert.ShortConvRefIdeal.τ Cert.ShortConvRefIdeal.sig) → Buf (Elt Ideal) ℓ) (g : Dev Cert.ShortConvRefIdeal.nD → PrngReg), Pre_ShortConvRefIdeal m →
    θ_run (Cert.ShortConvRefIdeal.defs (F := Ideal)) (onTc (τ := Cert.ShortConvRefIdeal.τ) (Cert.ShortConvRefIdeal.main (F := Ideal))) ⟨m, fun _ => 0, g⟩ (fun r => (∀ c : Dev Cert.ShortConvRefIdeal.nD,
      r.2.mem ((c.tc : Thread Cert.ShortConvRefIdeal.nD Cert.ShortConvRefIdeal.τ).loc Cert.ShortConvRefIdeal.main_arg0) = m ((c.tc : Thread Cert.ShortConvRefIdeal.nD Cert.ShortConvRefIdeal.τ).loc Cert.ShortConvRefIdeal.main_arg0)
      ∧ r.2.mem ((c.tc : Thread Cert.ShortConvRefIdeal.nD Cert.ShortConvRefIdeal.τ).loc Cert.ShortConvRefIdeal.main_arg1) = m ((c.tc : Thread Cert.ShortConvRefIdeal.nD Cert.ShortConvRefIdeal.τ).loc Cert.ShortConvRefIdeal.main_arg1)
      ∧ r.2.mem ((c.tc : Thread Cert.ShortConvRefIdeal.nD Cert.ShortConvRefIdeal.τ).loc Cert.ShortConvRefIdeal.main_arg2) = m ((c.tc : Thread Cert.ShortConvRefIdeal.nD Cert.ShortConvRefIdeal.τ).loc Cert.ShortConvRefIdeal.main_arg2)
      ∧ r.2.mem ((c.tc : Thread Cert.ShortConvRefIdeal.nD Cert.ShortConvRefIdeal.τ).loc Cert.ShortConvRefIdeal.main_arg3) = m ((c.tc : Thread Cert.ShortConvRefIdeal.nD Cert.ShortConvRefIdeal.τ).loc Cert.ShortConvRefIdeal.main_arg3)
      ∧ r.2.mem ((c.tc : Thread Cert.ShortConvRefIdeal.nD Cert.ShortConvRefIdeal.τ).loc Cert.ShortConvRefIdeal.main_arg4) = m ((c.tc : Thread Cert.ShortConvRefIdeal.nD Cert.ShortConvRefIdeal.τ).loc Cert.ShortConvRefIdeal.main_arg4)
      ∧ r.2.mem ((c.tc : Thread Cert.ShortConvRefIdeal.nD Cert.ShortConvRefIdeal.τ).loc Cert.ShortConvRefIdeal.main_arg5) = m ((c.tc : Thread Cert.ShortConvRefIdeal.nD Cert.ShortConvRefIdeal.τ).loc Cert.ShortConvRefIdeal.main_arg5)
      ∧ r.2.mem ((c.tc : Thread Cert.ShortConvRefIdeal.nD Cert.ShortConvRefIdeal.τ).loc Cert.ShortConvRefIdeal.main_arg6) = m ((c.tc : Thread Cert.ShortConvRefIdeal.nD Cert.ShortConvRefIdeal.τ).loc Cert.ShortConvRefIdeal.main_arg6)
      ∧ r.2.mem ((c.tc : Thread Cert.ShortConvRefIdeal.nD Cert.ShortConvRefIdeal.τ).loc Cert.ShortConvRefIdeal.main_arg7) = m ((c.tc : Thread Cert.ShortConvRefIdeal.nD Cert.ShortConvRefIdeal.τ).loc Cert.ShortConvRefIdeal.main_arg7))
      ∧ r.2.sem = fun _ => 0)

def preserves_Attn_AttnIdeal : Prop :=
  True

def algebraic_AttnIdeal_AttnRefIdeal_pre_keys_finite [hAttnIdeal : Cert.AttnIdeal.Facts] [hAttnRefIdeal : Cert.AttnRefIdeal.Facts] [hPre_keys_finite : Cert.Pre_keys_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_keys_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)) →
    ∃ (v0 : (c : Dev Cert.AttnIdeal.nD) → Buf (Elt Ideal) ((c.tc : Thread Cert.AttnIdeal.nD Cert.AttnIdeal.τ).loc Cert.AttnIdeal.main_v3)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v3) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v81) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6))

def preserves_FirstAttn_FirstAttnIdeal : Prop :=
  True

def algebraic_FirstAttnIdeal_FirstAttnRefIdeal_pre_first_keys_finite [hFirstAttnIdeal : Cert.FirstAttnIdeal.Facts] [hFirstAttnRefIdeal : Cert.FirstAttnRefIdeal.Facts] [hPre_first_keys_finite : Cert.Pre_first_keys_finite.Facts] : Prop :=
  ∀ (m : (ℓ : Loc Cert.FirstAttnIdeal.nD Cert.FirstAttnIdeal.τ Cert.FirstAttnIdeal.sig) → Buf (Elt Ideal) ℓ) (g : Dev Cert.FirstAttnIdeal.nD → PrngReg)
    (m' : (ℓ : Loc Cert.FirstAttnRefIdeal.nD Cert.FirstAttnRefIdeal.τ Cert.FirstAttnRefIdeal.sig) → Buf (Elt Ideal) ℓ) (g' : Dev Cert.FirstAttnRefIdeal.nD → PrngReg), Pre_FirstAttnIdeal_first_keys_finite m →
    (∀ c : Dev Cert.FirstAttnIdeal.nD,
      m' ((c.tc : Thread Cert.FirstAttnRefIdeal.nD Cert.FirstAttnRefIdeal.τ).loc Cert.FirstAttnRefIdeal.main_arg0) = m ((c.tc : Thread Cert.FirstAttnIdeal.nD Cert.FirstAttnIdeal.τ).loc Cert.FirstAttnIdeal.main_arg0)
      ∧ m' ((c.tc : Thread Cert.FirstAttnRefIdeal.nD Cert.FirstAttnRefIdeal.τ).loc Cert.FirstAttnRefIdeal.main_arg1) = m ((c.tc : Thread Cert.FirstAttnIdeal.nD Cert.FirstAttnIdeal.τ).loc Cert.FirstAttnIdeal.main_arg1)
      ∧ m' ((c.tc : Thread Cert.FirstAttnRefIdeal.nD Cert.FirstAttnRefIdeal.τ).loc Cert.FirstAttnRefIdeal.main_arg2) = m ((c.tc : Thread Cert.FirstAttnIdeal.nD Cert.FirstAttnIdeal.τ).loc Cert.FirstAttnIdeal.main_arg2)
      ∧ m' ((c.tc : Thread Cert.FirstAttnRefIdeal.nD Cert.FirstAttnRefIdeal.τ).loc Cert.FirstAttnRefIdeal.main_arg3) = m ((c.tc : Thread Cert.FirstAttnIdeal.nD Cert.FirstAttnIdeal.τ).loc Cert.FirstAttnIdeal.main_arg3)
      ∧ m' ((c.tc : Thread Cert.FirstAttnRefIdeal.nD Cert.FirstAttnRefIdeal.τ).loc Cert.FirstAttnRefIdeal.main_arg4) = m ((c.tc : Thread Cert.FirstAttnIdeal.nD Cert.FirstAttnIdeal.τ).loc Cert.FirstAttnIdeal.main_arg4)
      ∧ m' ((c.tc : Thread Cert.FirstAttnRefIdeal.nD Cert.FirstAttnRefIdeal.τ).loc Cert.FirstAttnRefIdeal.main_arg5) = m ((c.tc : Thread Cert.FirstAttnIdeal.nD Cert.FirstAttnIdeal.τ).loc Cert.FirstAttnIdeal.main_arg5)
      ∧ m' ((c.tc : Thread Cert.FirstAttnRefIdeal.nD Cert.FirstAttnRefIdeal.τ).loc Cert.FirstAttnRefIdeal.main_arg6) = m ((c.tc : Thread Cert.FirstAttnIdeal.nD Cert.FirstAttnIdeal.τ).loc Cert.FirstAttnIdeal.main_arg6)) →
    ∃ (v0 : (c : Dev Cert.FirstAttnIdeal.nD) → Buf (Elt Ideal) ((c.tc : Thread Cert.FirstAttnIdeal.nD Cert.FirstAttnIdeal.τ).loc Cert.FirstAttnIdeal.main_v3)),
      θ_run (Cert.FirstAttnIdeal.defs (F := Ideal)) (onTc (τ := Cert.FirstAttnIdeal.τ) (Cert.FirstAttnIdeal.main (F := Ideal))) ⟨m, fun _ => 0, g⟩ (fun r => ∀ c : Dev Cert.FirstAttnIdeal.nD,
          r.2.mem ((c.tc : Thread Cert.FirstAttnIdeal.nD Cert.FirstAttnIdeal.τ).loc Cert.FirstAttnIdeal.main_v3) = v0 c
          ∧ r.2.mem ((c.tc : Thread Cert.FirstAttnIdeal.nD Cert.FirstAttnIdeal.τ).loc Cert.FirstAttnIdeal.main_arg0) = m ((c.tc : Thread Cert.FirstAttnIdeal.nD Cert.FirstAttnIdeal.τ).loc Cert.FirstAttnIdeal.main_arg0)
          ∧ r.2.mem ((c.tc : Thread Cert.FirstAttnIdeal.nD Cert.FirstAttnIdeal.τ).loc Cert.FirstAttnIdeal.main_arg1) = m ((c.tc : Thread Cert.FirstAttnIdeal.nD Cert.FirstAttnIdeal.τ).loc Cert.FirstAttnIdeal.main_arg1)
          ∧ r.2.mem ((c.tc : Thread Cert.FirstAttnIdeal.nD Cert.FirstAttnIdeal.τ).loc Cert.FirstAttnIdeal.main_arg2) = m ((c.tc : Thread Cert.FirstAttnIdeal.nD Cert.FirstAttnIdeal.τ).loc Cert.FirstAttnIdeal.main_arg2)
          ∧ r.2.mem ((c.tc : Thread Cert.FirstAttnIdeal.nD Cert.FirstAttnIdeal.τ).loc Cert.FirstAttnIdeal.main_arg3) = m ((c.tc : Thread Cert.FirstAttnIdeal.nD Cert.FirstAttnIdeal.τ).loc Cert.FirstAttnIdeal.main_arg3)
          ∧ r.2.mem ((c.tc : Thread Cert.FirstAttnIdeal.nD Cert.FirstAttnIdeal.τ).loc Cert.FirstAttnIdeal.main_arg4) = m ((c.tc : Thread Cert.FirstAttnIdeal.nD Cert.FirstAttnIdeal.τ).loc Cert.FirstAttnIdeal.main_arg4)
          ∧ r.2.mem ((c.tc : Thread Cert.FirstAttnIdeal.nD Cert.FirstAttnIdeal.τ).loc Cert.FirstAttnIdeal.main_arg5) = m ((c.tc : Thread Cert.FirstAttnIdeal.nD Cert.FirstAttnIdeal.τ).loc Cert.FirstAttnIdeal.main_arg5)
          ∧ r.2.mem ((c.tc : Thread Cert.FirstAttnIdeal.nD Cert.FirstAttnIdeal.τ).loc Cert.FirstAttnIdeal.main_arg6) = m ((c.tc : Thread Cert.FirstAttnIdeal.nD Cert.FirstAttnIdeal.τ).loc Cert.FirstAttnIdeal.main_arg6))
      ∧ θ_run (Cert.FirstAttnRefIdeal.defs (F := Ideal)) (onTc (τ := Cert.FirstAttnRefIdeal.τ) (Cert.FirstAttnRefIdeal.main (F := Ideal))) ⟨m', fun _ => 0, g'⟩ (fun r => ∀ c : Dev Cert.FirstAttnRefIdeal.nD,
          r.2.mem ((c.tc : Thread Cert.FirstAttnRefIdeal.nD Cert.FirstAttnRefIdeal.τ).loc Cert.FirstAttnRefIdeal.main_v81) = v0 c
          ∧ r.2.mem ((c.tc : Thread Cert.FirstAttnRefIdeal.nD Cert.FirstAttnRefIdeal.τ).loc Cert.FirstAttnRefIdeal.main_arg0) = m' ((c.tc : Thread Cert.FirstAttnRefIdeal.nD Cert.FirstAttnRefIdeal.τ).loc Cert.FirstAttnRefIdeal.main_arg0)
          ∧ r.2.mem ((c.tc : Thread Cert.FirstAttnRefIdeal.nD Cert.FirstAttnRefIdeal.τ).loc Cert.FirstAttnRefIdeal.main_arg1) = m' ((c.tc : Thread Cert.FirstAttnRefIdeal.nD Cert.FirstAttnRefIdeal.τ).loc Cert.FirstAttnRefIdeal.main_arg1)
          ∧ r.2.mem ((c.tc : Thread Cert.FirstAttnRefIdeal.nD Cert.FirstAttnRefIdeal.τ).loc Cert.FirstAttnRefIdeal.main_arg2) = m' ((c.tc : Thread Cert.FirstAttnRefIdeal.nD Cert.FirstAttnRefIdeal.τ).loc Cert.FirstAttnRefIdeal.main_arg2)
          ∧ r.2.mem ((c.tc : Thread Cert.FirstAttnRefIdeal.nD Cert.FirstAttnRefIdeal.τ).loc Cert.FirstAttnRefIdeal.main_arg3) = m' ((c.tc : Thread Cert.FirstAttnRefIdeal.nD Cert.FirstAttnRefIdeal.τ).loc Cert.FirstAttnRefIdeal.main_arg3)
          ∧ r.2.mem ((c.tc : Thread Cert.FirstAttnRefIdeal.nD Cert.FirstAttnRefIdeal.τ).loc Cert.FirstAttnRefIdeal.main_arg4) = m' ((c.tc : Thread Cert.FirstAttnRefIdeal.nD Cert.FirstAttnRefIdeal.τ).loc Cert.FirstAttnRefIdeal.main_arg4)
          ∧ r.2.mem ((c.tc : Thread Cert.FirstAttnRefIdeal.nD Cert.FirstAttnRefIdeal.τ).loc Cert.FirstAttnRefIdeal.main_arg5) = m' ((c.tc : Thread Cert.FirstAttnRefIdeal.nD Cert.FirstAttnRefIdeal.τ).loc Cert.FirstAttnRefIdeal.main_arg5)
          ∧ r.2.mem ((c.tc : Thread Cert.FirstAttnRefIdeal.nD Cert.FirstAttnRefIdeal.τ).loc Cert.FirstAttnRefIdeal.main_arg6) = m' ((c.tc : Thread Cert.FirstAttnRefIdeal.nD Cert.FirstAttnRefIdeal.τ).loc Cert.FirstAttnRefIdeal.main_arg6))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v2)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v2) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v40) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v2)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v2) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v10) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_ShortConv_ShortConvIdeal : Prop :=
  True

def algebraic_ShortConvIdeal_ShortConvRefIdeal [hShortConvIdeal : Cert.ShortConvIdeal.Facts] [hShortConvRefIdeal : Cert.ShortConvRefIdeal.Facts] : Prop :=
  ∀ (m : (ℓ : Loc Cert.ShortConvIdeal.nD Cert.ShortConvIdeal.τ Cert.ShortConvIdeal.sig) → Buf (Elt Ideal) ℓ) (g : Dev Cert.ShortConvIdeal.nD → PrngReg)
    (m' : (ℓ : Loc Cert.ShortConvRefIdeal.nD Cert.ShortConvRefIdeal.τ Cert.ShortConvRefIdeal.sig) → Buf (Elt Ideal) ℓ) (g' : Dev Cert.ShortConvRefIdeal.nD → PrngReg), Pre_ShortConvIdeal m →
    (∀ c : Dev Cert.ShortConvIdeal.nD,
      m' ((c.tc : Thread Cert.ShortConvRefIdeal.nD Cert.ShortConvRefIdeal.τ).loc Cert.ShortConvRefIdeal.main_arg0) = m ((c.tc : Thread Cert.ShortConvIdeal.nD Cert.ShortConvIdeal.τ).loc Cert.ShortConvIdeal.main_arg0)
      ∧ m' ((c.tc : Thread Cert.ShortConvRefIdeal.nD Cert.ShortConvRefIdeal.τ).loc Cert.ShortConvRefIdeal.main_arg1) = m ((c.tc : Thread Cert.ShortConvIdeal.nD Cert.ShortConvIdeal.τ).loc Cert.ShortConvIdeal.main_arg1)
      ∧ m' ((c.tc : Thread Cert.ShortConvRefIdeal.nD Cert.ShortConvRefIdeal.τ).loc Cert.ShortConvRefIdeal.main_arg2) = m ((c.tc : Thread Cert.ShortConvIdeal.nD Cert.ShortConvIdeal.τ).loc Cert.ShortConvIdeal.main_arg2)
      ∧ m' ((c.tc : Thread Cert.ShortConvRefIdeal.nD Cert.ShortConvRefIdeal.τ).loc Cert.ShortConvRefIdeal.main_arg3) = m ((c.tc : Thread Cert.ShortConvIdeal.nD Cert.ShortConvIdeal.τ).loc Cert.ShortConvIdeal.main_arg3)
      ∧ m' ((c.tc : Thread Cert.ShortConvRefIdeal.nD Cert.ShortConvRefIdeal.τ).loc Cert.ShortConvRefIdeal.main_arg4) = m ((c.tc : Thread Cert.ShortConvIdeal.nD Cert.ShortConvIdeal.τ).loc Cert.ShortConvIdeal.main_arg4)
      ∧ m' ((c.tc : Thread Cert.ShortConvRefIdeal.nD Cert.ShortConvRefIdeal.τ).loc Cert.ShortConvRefIdeal.main_arg5) = m ((c.tc : Thread Cert.ShortConvIdeal.nD Cert.ShortConvIdeal.τ).loc Cert.ShortConvIdeal.main_arg5)
      ∧ m' ((c.tc : Thread Cert.ShortConvRefIdeal.nD Cert.ShortConvRefIdeal.τ).loc Cert.ShortConvRefIdeal.main_arg6) = m ((c.tc : Thread Cert.ShortConvIdeal.nD Cert.ShortConvIdeal.τ).loc Cert.ShortConvIdeal.main_arg6)
      ∧ m' ((c.tc : Thread Cert.ShortConvRefIdeal.nD Cert.ShortConvRefIdeal.τ).loc Cert.ShortConvRefIdeal.main_arg7) = m ((c.tc : Thread Cert.ShortConvIdeal.nD Cert.ShortConvIdeal.τ).loc Cert.ShortConvIdeal.main_arg7)) →
    ∃ (v0 : (c : Dev Cert.ShortConvIdeal.nD) → Buf (Elt Ideal) ((c.tc : Thread Cert.ShortConvIdeal.nD Cert.ShortConvIdeal.τ).loc Cert.ShortConvIdeal.main_v49)),
      θ_run (Cert.ShortConvIdeal.defs (F := Ideal)) (onTc (τ := Cert.ShortConvIdeal.τ) (Cert.ShortConvIdeal.main (F := Ideal))) ⟨m, fun _ => 0, g⟩ (fun r => ∀ c : Dev Cert.ShortConvIdeal.nD,
          r.2.mem ((c.tc : Thread Cert.ShortConvIdeal.nD Cert.ShortConvIdeal.τ).loc Cert.ShortConvIdeal.main_v49) = v0 c
          ∧ r.2.mem ((c.tc : Thread Cert.ShortConvIdeal.nD Cert.ShortConvIdeal.τ).loc Cert.ShortConvIdeal.main_arg0) = m ((c.tc : Thread Cert.ShortConvIdeal.nD Cert.ShortConvIdeal.τ).loc Cert.ShortConvIdeal.main_arg0)
          ∧ r.2.mem ((c.tc : Thread Cert.ShortConvIdeal.nD Cert.ShortConvIdeal.τ).loc Cert.ShortConvIdeal.main_arg1) = m ((c.tc : Thread Cert.ShortConvIdeal.nD Cert.ShortConvIdeal.τ).loc Cert.ShortConvIdeal.main_arg1)
          ∧ r.2.mem ((c.tc : Thread Cert.ShortConvIdeal.nD Cert.ShortConvIdeal.τ).loc Cert.ShortConvIdeal.main_arg2) = m ((c.tc : Thread Cert.ShortConvIdeal.nD Cert.ShortConvIdeal.τ).loc Cert.ShortConvIdeal.main_arg2)
          ∧ r.2.mem ((c.tc : Thread Cert.ShortConvIdeal.nD Cert.ShortConvIdeal.τ).loc Cert.ShortConvIdeal.main_arg3) = m ((c.tc : Thread Cert.ShortConvIdeal.nD Cert.ShortConvIdeal.τ).loc Cert.ShortConvIdeal.main_arg3)
          ∧ r.2.mem ((c.tc : Thread Cert.ShortConvIdeal.nD Cert.ShortConvIdeal.τ).loc Cert.ShortConvIdeal.main_arg4) = m ((c.tc : Thread Cert.ShortConvIdeal.nD Cert.ShortConvIdeal.τ).loc Cert.ShortConvIdeal.main_arg4)
          ∧ r.2.mem ((c.tc : Thread Cert.ShortConvIdeal.nD Cert.ShortConvIdeal.τ).loc Cert.ShortConvIdeal.main_arg5) = m ((c.tc : Thread Cert.ShortConvIdeal.nD Cert.ShortConvIdeal.τ).loc Cert.ShortConvIdeal.main_arg5)
          ∧ r.2.mem ((c.tc : Thread Cert.ShortConvIdeal.nD Cert.ShortConvIdeal.τ).loc Cert.ShortConvIdeal.main_arg6) = m ((c.tc : Thread Cert.ShortConvIdeal.nD Cert.ShortConvIdeal.τ).loc Cert.ShortConvIdeal.main_arg6)
          ∧ r.2.mem ((c.tc : Thread Cert.ShortConvIdeal.nD Cert.ShortConvIdeal.τ).loc Cert.ShortConvIdeal.main_arg7) = m ((c.tc : Thread Cert.ShortConvIdeal.nD Cert.ShortConvIdeal.τ).loc Cert.ShortConvIdeal.main_arg7))
      ∧ θ_run (Cert.ShortConvRefIdeal.defs (F := Ideal)) (onTc (τ := Cert.ShortConvRefIdeal.τ) (Cert.ShortConvRefIdeal.main (F := Ideal))) ⟨m', fun _ => 0, g'⟩ (fun r => ∀ c : Dev Cert.ShortConvRefIdeal.nD,
          r.2.mem ((c.tc : Thread Cert.ShortConvRefIdeal.nD Cert.ShortConvRefIdeal.τ).loc Cert.ShortConvRefIdeal.main_v44) = v0 c
          ∧ r.2.mem ((c.tc : Thread Cert.ShortConvRefIdeal.nD Cert.ShortConvRefIdeal.τ).loc Cert.ShortConvRefIdeal.main_arg0) = m' ((c.tc : Thread Cert.ShortConvRefIdeal.nD Cert.ShortConvRefIdeal.τ).loc Cert.ShortConvRefIdeal.main_arg0)
          ∧ r.2.mem ((c.tc : Thread Cert.ShortConvRefIdeal.nD Cert.ShortConvRefIdeal.τ).loc Cert.ShortConvRefIdeal.main_arg1) = m' ((c.tc : Thread Cert.ShortConvRefIdeal.nD Cert.ShortConvRefIdeal.τ).loc Cert.ShortConvRefIdeal.main_arg1)
          ∧ r.2.mem ((c.tc : Thread Cert.ShortConvRefIdeal.nD Cert.ShortConvRefIdeal.τ).loc Cert.ShortConvRefIdeal.main_arg2) = m' ((c.tc : Thread Cert.ShortConvRefIdeal.nD Cert.ShortConvRefIdeal.τ).loc Cert.ShortConvRefIdeal.main_arg2)
          ∧ r.2.mem ((c.tc : Thread Cert.ShortConvRefIdeal.nD Cert.ShortConvRefIdeal.τ).loc Cert.ShortConvRefIdeal.main_arg3) = m' ((c.tc : Thread Cert.ShortConvRefIdeal.nD Cert.ShortConvRefIdeal.τ).loc Cert.ShortConvRefIdeal.main_arg3)
          ∧ r.2.mem ((c.tc : Thread Cert.ShortConvRefIdeal.nD Cert.ShortConvRefIdeal.τ).loc Cert.ShortConvRefIdeal.main_arg4) = m' ((c.tc : Thread Cert.ShortConvRefIdeal.nD Cert.ShortConvRefIdeal.τ).loc Cert.ShortConvRefIdeal.main_arg4)
          ∧ r.2.mem ((c.tc : Thread Cert.ShortConvRefIdeal.nD Cert.ShortConvRefIdeal.τ).loc Cert.ShortConvRefIdeal.main_arg5) = m' ((c.tc : Thread Cert.ShortConvRefIdeal.nD Cert.ShortConvRefIdeal.τ).loc Cert.ShortConvRefIdeal.main_arg5)
          ∧ r.2.mem ((c.tc : Thread Cert.ShortConvRefIdeal.nD Cert.ShortConvRefIdeal.τ).loc Cert.ShortConvRefIdeal.main_arg6) = m' ((c.tc : Thread Cert.ShortConvRefIdeal.nD Cert.ShortConvRefIdeal.τ).loc Cert.ShortConvRefIdeal.main_arg6)
          ∧ r.2.mem ((c.tc : Thread Cert.ShortConvRefIdeal.nD Cert.ShortConvRefIdeal.τ).loc Cert.ShortConvRefIdeal.main_arg7) = m' ((c.tc : Thread Cert.ShortConvRefIdeal.nD Cert.ShortConvRefIdeal.τ).loc Cert.ShortConvRefIdeal.main_arg7))

def Claim : Prop :=
  ∃ (hAttn : Cert.Attn.Facts) (hAttnIdeal : Cert.AttnIdeal.Facts) (hAttnRefIdeal : Cert.AttnRefIdeal.Facts) (hFirstAttn : Cert.FirstAttn.Facts) (hFirstAttnIdeal : Cert.FirstAttnIdeal.Facts) (hFirstAttnRefIdeal : Cert.FirstAttnRefIdeal.Facts) (hMlp : Cert.Mlp.Facts) (hMlpIdeal : Cert.MlpIdeal.Facts) (hMlpRefIdeal : Cert.MlpRefIdeal.Facts) (hKv : Cert.Kv.Facts) (hKvIdeal : Cert.KvIdeal.Facts) (hKvRefIdeal : Cert.KvRefIdeal.Facts) (hShortConv : Cert.ShortConv.Facts) (hShortConvIdeal : Cert.ShortConvIdeal.Facts) (hShortConvRefIdeal : Cert.ShortConvRefIdeal.Facts) (hPre_keys_finite : Cert.Pre_keys_finite.Facts) (hPre_first_keys_finite : Cert.Pre_first_keys_finite.Facts),
    quiescent_Attn (hAttn := hAttn)
    ∧ quiescent_AttnIdeal (hAttnIdeal := hAttnIdeal)
    ∧ quiescent_AttnIdeal_pre_keys_finite (hAttnIdeal := hAttnIdeal) (hPre_keys_finite := hPre_keys_finite)
    ∧ quiescent_AttnRefIdeal (hAttnRefIdeal := hAttnRefIdeal)
    ∧ quiescent_AttnRefIdeal_pre_keys_finite (hAttnRefIdeal := hAttnRefIdeal) (hPre_keys_finite := hPre_keys_finite)
    ∧ quiescent_FirstAttn (hFirstAttn := hFirstAttn)
    ∧ quiescent_FirstAttnIdeal (hFirstAttnIdeal := hFirstAttnIdeal)
    ∧ quiescent_FirstAttnIdeal_pre_first_keys_finite (hFirstAttnIdeal := hFirstAttnIdeal) (hPre_first_keys_finite := hPre_first_keys_finite)
    ∧ quiescent_FirstAttnRefIdeal (hFirstAttnRefIdeal := hFirstAttnRefIdeal)
    ∧ quiescent_FirstAttnRefIdeal_pre_first_keys_finite (hFirstAttnRefIdeal := hFirstAttnRefIdeal) (hPre_first_keys_finite := hPre_first_keys_finite)
    ∧ quiescent_Mlp (hMlp := hMlp)
    ∧ quiescent_MlpIdeal (hMlpIdeal := hMlpIdeal)
    ∧ quiescent_MlpRefIdeal (hMlpRefIdeal := hMlpRefIdeal)
    ∧ quiescent_Kv (hKv := hKv)
    ∧ quiescent_KvIdeal (hKvIdeal := hKvIdeal)
    ∧ quiescent_KvRefIdeal (hKvRefIdeal := hKvRefIdeal)
    ∧ quiescent_ShortConv (hShortConv := hShortConv)
    ∧ quiescent_ShortConvIdeal (hShortConvIdeal := hShortConvIdeal)
    ∧ quiescent_ShortConvRefIdeal (hShortConvRefIdeal := hShortConvRefIdeal)
    ∧ preserves_Attn_AttnIdeal
    ∧ algebraic_AttnIdeal_AttnRefIdeal_pre_keys_finite (hAttnIdeal := hAttnIdeal) (hAttnRefIdeal := hAttnRefIdeal) (hPre_keys_finite := hPre_keys_finite)
    ∧ preserves_FirstAttn_FirstAttnIdeal
    ∧ algebraic_FirstAttnIdeal_FirstAttnRefIdeal_pre_first_keys_finite (hFirstAttnIdeal := hFirstAttnIdeal) (hFirstAttnRefIdeal := hFirstAttnRefIdeal) (hPre_first_keys_finite := hPre_first_keys_finite)
    ∧ preserves_Mlp_MlpIdeal
    ∧ algebraic_MlpIdeal_MlpRefIdeal (hMlpIdeal := hMlpIdeal) (hMlpRefIdeal := hMlpRefIdeal)
    ∧ preserves_Kv_KvIdeal
    ∧ algebraic_KvIdeal_KvRefIdeal (hKvIdeal := hKvIdeal) (hKvRefIdeal := hKvRefIdeal)
    ∧ preserves_ShortConv_ShortConvIdeal
    ∧ algebraic_ShortConvIdeal_ShortConvRefIdeal (hShortConvIdeal := hShortConvIdeal) (hShortConvRefIdeal := hShortConvRefIdeal)
-- ==== Pre_first_keys_finite.lean ====
abbrev S16x2048x1024 : Shape := ⟨3, ![16, 2048, 1024]⟩
abbrev S16x2048x1536 : Shape := ⟨3, ![16, 2048, 1536]⟩
abbrev S2x16x256x2048 : Shape := ⟨4, ![2, 16, 256, 2048]⟩
abbrev S2x6x1024 : Shape := ⟨3, ![2, 6, 1024]⟩
abbrev S1536x1024 : Shape := ⟨2, ![1536, 1024]⟩
abbrev S2x1024x1024 : Shape := ⟨3, ![2, 1024, 1024]⟩
abbrev S_ : Shape := ⟨0, ![]⟩

class Facts : Prop where
  bitsLt_bf16_f32 : FTy.bits .bf16 < FTy.bits .f32
  bcast_S_S2x16x256x2048 : S_.BroadcastsInDim S2x16x256x2048 (![] : Fin 0 → Fin S2x16x256x2048.rank)
  bcast_S_S2x6x1024 : S_.BroadcastsInDim S2x6x1024 (![] : Fin 0 → Fin S2x6x1024.rank)
  bcast_S_S2x1024x1024 : S_.BroadcastsInDim S2x1024x1024 (![] : Fin 0 → Fin S2x1024x1024.rank)

variable [Facts]

def fn {F : FTy → Type} [FloatOps F] (main_arg0 : FVec F S16x2048x1024 .f32) (main_arg1 : FVec F S16x2048x1536 .bf16) (main_arg2 : FVec F S2x16x256x2048 .bf16) (main_arg3 : FVec F S2x6x1024 .f32) (main_arg4 : FVec F S1536x1024 .f32) (main_arg5 : FVec F S2x1024x1024 .f32) (main_arg6 : FVec F S2x1024x1024 .f32) : IVec S2x16x256x2048 1 × IVec S2x6x1024 1 × IVec S2x1024x1024 1 :=
  let main_v0 : FVec F S2x16x256x2048 .f32 := (extf .f32 · bitsLt_bf16_f32) main_arg2
  let main_v1 : FVec F S2x16x256x2048 .f32 := (extf .f32 · bitsLt_bf16_f32) main_arg2
  let main_v2 : FVec F S2x16x256x2048 .f32 := subf main_v0 main_v1
  let main_cst : FVec F S_ .f32 := constant S_ .f32 0x00000000#32
  let main_v3 : FVec F S2x16x256x2048 .f32 := broadcastInDim S2x16x256x2048 ![] bcast_S_S2x16x256x2048 main_cst
  let main_v4 : IVec S2x16x256x2048 1 := cmpf .oeq main_v2 main_v3
  let main_v5 : FVec F S2x6x1024 .f32 := subf main_arg3 main_arg3
  let main_cst_0 : FVec F S_ .f32 := constant S_ .f32 0x00000000#32
  let main_v6 : FVec F S2x6x1024 .f32 := broadcastInDim S2x6x1024 ![] bcast_S_S2x6x1024 main_cst_0
  let main_v7 : IVec S2x6x1024 1 := cmpf .oeq main_v5 main_v6
  let main_v8 : FVec F S2x1024x1024 .f32 := subf main_arg5 main_arg5
  let main_cst_1 : FVec F S_ .f32 := constant S_ .f32 0x00000000#32
  let main_v9 : FVec F S2x1024x1024 .f32 := broadcastInDim S2x1024x1024 ![] bcast_S_S2x1024x1024 main_cst_1
  let main_v10 : IVec S2x1024x1024 1 := cmpf .oeq main_v8 main_v9
  (main_v4, main_v7, main_v10)
-- ==== Pre_keys_finite.lean ====
abbrev S16x2048x1024 : Shape := ⟨3, ![16, 2048, 1024]⟩
abbrev S16x2048x2048 : Shape := ⟨3, ![16, 2048, 2048]⟩
abbrev S2x16x256x2048 : Shape := ⟨4, ![2, 16, 256, 2048]⟩
abbrev S2x6x1024 : Shape := ⟨3, ![2, 6, 1024]⟩
abbrev S2048x1024 : Shape := ⟨2, ![2048, 1024]⟩
abbrev S2x1024x1024 : Shape := ⟨3, ![2, 1024, 1024]⟩
abbrev S_ : Shape := ⟨0, ![]⟩

class Facts : Prop where
  bitsLt_bf16_f32 : FTy.bits .bf16 < FTy.bits .f32
  bcast_S_S2x16x256x2048 : S_.BroadcastsInDim S2x16x256x2048 (![] : Fin 0 → Fin S2x16x256x2048.rank)
  bcast_S_S2x6x1024 : S_.BroadcastsInDim S2x6x1024 (![] : Fin 0 → Fin S2x6x1024.rank)
  bcast_S_S2x1024x1024 : S_.BroadcastsInDim S2x1024x1024 (![] : Fin 0 → Fin S2x1024x1024.rank)

variable [Facts]

def fn {F : FTy → Type} [FloatOps F] (main_arg0 : FVec F S16x2048x1024 .f32) (main_arg1 : FVec F S16x2048x2048 .bf16) (main_arg2 : FVec F S2x16x256x2048 .bf16) (main_arg3 : FVec F S2x6x1024 .f32) (main_arg4 : FVec F S2048x1024 .f32) (main_arg5 : FVec F S2x1024x1024 .f32) (main_arg6 : FVec F S2x1024x1024 .f32) : IVec S2x16x256x2048 1 × IVec S2x6x1024 1 × IVec S2x1024x1024 1 :=
  let main_v0 : FVec F S2x16x256x2048 .f32 := (extf .f32 · bitsLt_bf16_f32) main_arg2
  let main_v1 : FVec F S2x16x256x2048 .f32 := (extf .f32 · bitsLt_bf16_f32) main_arg2
  let main_v2 : FVec F S2x16x256x2048 .f32 := subf main_v0 main_v1
  let main_cst : FVec F S_ .f32 := constant S_ .f32 0x00000000#32
  let main_v3 : FVec F S2x16x256x2048 .f32 := broadcastInDim S2x16x256x2048 ![] bcast_S_S2x16x256x2048 main_cst
  let main_v4 : IVec S2x16x256x2048 1 := cmpf .oeq main_v2 main_v3
  let main_v5 : FVec F S2x6x1024 .f32 := subf main_arg3 main_arg3
  let main_cst_0 : FVec F S_ .f32 := constant S_ .f32 0x00000000#32
  let main_v6 : FVec F S2x6x1024 .f32 := broadcastInDim S2x6x1024 ![] bcast_S_S2x6x1024 main_cst_0
  let main_v7 : IVec S2x6x1024 1 := cmpf .oeq main_v5 main_v6
  let main_v8 : FVec F S2x1024x1024 .f32 := subf main_arg5 main_arg5
  let main_cst_1 : FVec F S_ .f32 := constant S_ .f32 0x00000000#32
  let main_v9 : FVec F S2x1024x1024 .f32 := broadcastInDim S2x1024x1024 ![] bcast_S_S2x1024x1024 main_cst_1
  let main_v10 : IVec S2x1024x1024 1 := cmpf .oeq main_v8 main_v9
  (main_v4, main_v7, main_v10)
-- ==== Attn.lean ====
abbrev S16x2048x1024 : Shape := ⟨3, ![16, 2048, 1024]⟩
abbrev S16x2048x2048 : Shape := ⟨3, ![16, 2048, 2048]⟩
abbrev S2x16x256x2048 : Shape := ⟨4, ![2, 16, 256, 2048]⟩
abbrev S2x6x1024 : Shape := ⟨3, ![2, 6, 1024]⟩
abbrev S2048x1024 : Shape := ⟨2, ![2048, 1024]⟩
abbrev S2x1024x1024 : Shape := ⟨3, ![2, 1024, 1024]⟩
abbrev S1x1024x1024 : Shape := ⟨3, ![1, 1024, 1024]⟩
abbrev S1x1024x2048 : Shape := ⟨3, ![1, 1024, 2048]⟩
abbrev S1x1x256x2048 : Shape := ⟨4, ![1, 1, 256, 2048]⟩
abbrev S1x6x1024 : Shape := ⟨3, ![1, 6, 1024]⟩
abbrev S1x512x1024 : Shape := ⟨3, ![1, 512, 1024]⟩
abbrev S512x1024 : Shape := ⟨2, ![512, 1024]⟩
abbrev S1x512x2048 : Shape := ⟨3, ![1, 512, 2048]⟩
abbrev S512x2048 : Shape := ⟨2, ![512, 2048]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1024x1024 : Shape := ⟨2, ![1024, 1024]⟩
abbrev S1x1x256x256 : Shape := ⟨4, ![1, 1, 256, 256]⟩
abbrev S256x256 : Shape := ⟨2, ![256, 256]⟩
abbrev S512x256 : Shape := ⟨2, ![512, 256]⟩

abbrev nBuf : Space → Nat
  | .hbm => 11
  | .vmem => 12
  | .smem => 0
  | _ => 0

abbrev bufTy : (tb : Table) → Fin (tcTables nBuf tb) → BufTy
  | .hbm, ⟨0, _⟩ => ⟨S16x2048x1024, .f32⟩
  | .hbm, ⟨1, _⟩ => ⟨S16x2048x2048, .bf16⟩
  | .hbm, ⟨2, _⟩ => ⟨S2x16x256x2048, .bf16⟩
  | .hbm, ⟨3, _⟩ => ⟨S2x6x1024, .f32⟩
  | .hbm, ⟨4, _⟩ => ⟨S2048x1024, .f32⟩
  | .hbm, ⟨5, _⟩ => ⟨S2x1024x1024, .f32⟩
  | .hbm, ⟨6, _⟩ => ⟨S2x1024x1024, .f32⟩
  | .hbm, ⟨7, _⟩ => ⟨S2x1024x1024, .bf16⟩
  | .hbm, ⟨8, _⟩ => ⟨S2x1024x1024, .bf16⟩
  | .hbm, ⟨9, _⟩ => ⟨S2048x1024, .bf16⟩
  | .hbm, ⟨10, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1x1x256x2048, .bf16⟩
  | .local _ .vmem, ⟨5, _⟩ => ⟨S1x1x256x2048, .bf16⟩
  | .local _ .vmem, ⟨6, _⟩ => ⟨S1x6x1024, .f32⟩
  | .local _ .vmem, ⟨7, _⟩ => ⟨S2048x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .f32⟩
  | .local _ .vmem, ⟨11, _⟩ => ⟨S1x1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnRefIdeal.lean ====
abbrev S16x2048x1024 : Shape := ⟨3, ![16, 2048, 1024]⟩
abbrev S16x2048x2048 : Shape := ⟨3, ![16, 2048, 2048]⟩
abbrev S2x16x256x2048 : Shape := ⟨4, ![2, 16, 256, 2048]⟩
abbrev S2x6x1024 : Shape := ⟨3, ![2, 6, 1024]⟩
abbrev S2048x1024 : Shape := ⟨2, ![2048, 1024]⟩
abbrev S2x1024x1024 : Shape := ⟨3, ![2, 1024, 1024]⟩
abbrev S1x6x1024 : Shape := ⟨3, ![1, 6, 1024]⟩
abbrev S6x1024 : Shape := ⟨2, ![6, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x1024 : Shape := ⟨3, ![1, 1024, 1024]⟩
abbrev S1024x1024 : Shape := ⟨2, ![1024, 1024]⟩
abbrev S16x2048x4x256 : Shape := ⟨4, ![16, 2048, 4, 256]⟩
abbrev S1x16x256x2048 : Shape := ⟨4, ![1, 16, 256, 2048]⟩
abbrev S16x256x2048 : Shape := ⟨3, ![16, 256, 2048]⟩
abbrev S16x256x1024 : Shape := ⟨3, ![16, 256, 1024]⟩
abbrev S16x256x4x256 : Shape := ⟨4, ![16, 256, 4, 256]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x256x2048 : Shape := ⟨4, ![16, 4, 256, 2048]⟩

abbrev nBuf : Space → Nat
  | .hbm => 102
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x2048, .bf16⟩
  | .hbm, ⟨2, _⟩ => ⟨S2x16x256x2048, .bf16⟩
  | .hbm, ⟨3, _⟩ => ⟨S2x6x1024, .f32⟩
  | .hbm, ⟨4, _⟩ => ⟨S2048x1024, .f32⟩
  | .hbm, ⟨5, _⟩ => ⟨S2x1024x1024, .f32⟩
  | .hbm, ⟨6, _⟩ => ⟨S2x1024x1024, .f32⟩
  | .hbm, ⟨7, _⟩ => ⟨S1x6x1024, .f32⟩
  | .hbm, ⟨8, _⟩ => ⟨S6x1024, .f32⟩
  | .hbm, ⟨9, _⟩ => ⟨S16x2048x2048, .f32⟩
  | .hbm, ⟨10, _⟩ => ⟨S16x2048x1024, .f32⟩
  | .hbm, ⟨11, _⟩ => ⟨S1x1024, .f32⟩
  | .hbm, ⟨12, _⟩ => ⟨S1024, .f32⟩
  | .hbm, ⟨13, _⟩ => ⟨S16x2048x1024, .f32⟩
  | .hbm, ⟨14, _⟩ => ⟨S_, .f32⟩
  | .hbm, ⟨15, _⟩ => ⟨S16x2048, .f32⟩
  | .hbm, ⟨16, _⟩ => ⟨S16x2048x1, .f32⟩
  | .hbm, ⟨17, _⟩ => ⟨S_, .f32⟩
  | .hbm, ⟨18, _⟩ => ⟨S16x2048x1, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S16x2048x1, .f32⟩
  | .hbm, ⟨24, _⟩ => ⟨S16x2048x1024, .f32⟩
  | .hbm, ⟨25, _⟩ => ⟨S16x2048x1024, .f32⟩
  | .hbm, ⟨26, _⟩ => ⟨S1x1x1024, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S1x1024, .f32⟩
  | .hbm, ⟨31, _⟩ => ⟨S1024, .f32⟩
  | .hbm, ⟨32, _⟩ => ⟨S16x2048x1024, .f32⟩
  | .hbm, ⟨33, _⟩ => ⟨S_, .f32⟩
  | .hbm, ⟨34, _⟩ => ⟨S16x2048, .f32⟩
  | .hbm, ⟨35, _⟩ => ⟨S16x2048x1, .f32⟩
  | .hbm, ⟨36, _⟩ => ⟨S_, .f32⟩
  | .hbm, ⟨37, _⟩ => ⟨S16x2048x1, .f32⟩
  | .hbm, ⟨38, _⟩ => ⟨S16x2048x1, .f32⟩
  | .hbm, ⟨39, _⟩ => ⟨S_, .f32⟩
  | .hbm, ⟨40, _⟩ => ⟨S16x2048x1, .f32⟩
  | .hbm, ⟨41, _⟩ => ⟨S16x2048x1, .f32⟩
  | .hbm, ⟨42, _⟩ => ⟨S16x2048x1, .f32⟩
  | .hbm, ⟨43, _⟩ => ⟨S16x2048x1024, .f32⟩
  | .hbm, ⟨44, _⟩ => ⟨S16x2048x1024, .f32⟩
  | .hbm, ⟨45, _⟩ => ⟨S1x1x1024, .f32⟩
  | .hbm, ⟨46, _⟩ => ⟨S16x2048x1024, .f32⟩
  | .hbm, ⟨47, _⟩ => ⟨S16x2048x1024, .f32⟩
  | .hbm, ⟨48, _⟩ => ⟨S1x1024x1024, .f32⟩
  | .hbm, ⟨49, _⟩ => ⟨S1024x1024, .f32⟩
  | .hbm, ⟨50, _⟩ => ⟨S16x2048x1024, .f32⟩
  | .hbm, ⟨51, _⟩ => ⟨S16x2048x4x256, .f32⟩
  | .hbm, ⟨52, _⟩ => ⟨S1x16x256x2048, .bf16⟩
  | .hbm, ⟨53, _⟩ => ⟨S16x256x2048, .bf16⟩
  | .hbm, ⟨54, _⟩ => ⟨S16x256x2048, .f32⟩
  | .hbm, ⟨55, _⟩ => ⟨S16x256x1024, .f32⟩
  | .hbm, ⟨56, _⟩ => ⟨S16x256x4x256, .f32⟩
  | .hbm, ⟨57, _⟩ => ⟨S16x256x1024, .f32⟩
  | .hbm, ⟨58, _⟩ => ⟨S16x256x4x256, .f32⟩
  | .hbm, ⟨59, _⟩ => ⟨S16x4x2048x256, .f32⟩
  | .hbm, ⟨60, _⟩ => ⟨S_, .f32⟩
  | .hbm, ⟨61, _⟩ => ⟨S16x4x2048x256, .f32⟩
  | .hbm, ⟨62, _⟩ => ⟨S16x4x2048x256, .f32⟩
  | .hbm, ⟨63, _⟩ => ⟨S_, .f32⟩
  | .hbm, ⟨64, _⟩ => ⟨S16x4x2048, .f32⟩
  | .hbm, ⟨65, _⟩ => ⟨S_, .f32⟩
  | .hbm, ⟨66, _⟩ => ⟨S16x4x2048, .f32⟩
  | .hbm, ⟨67, _⟩ => ⟨S16x4x2048, .f32⟩
  | .hbm, ⟨68, _⟩ => ⟨S16x4x2048x1, .f32⟩
  | .hbm, ⟨69, _⟩ => ⟨S16x4x2048x256, .f32⟩
  | .hbm, ⟨70, _⟩ => ⟨S16x4x2048x256, .f32⟩
  | .hbm, ⟨71, _⟩ => ⟨S16x4x2048x256, .f32⟩
  | .hbm, ⟨72, _⟩ => ⟨S_, .f32⟩
  | .hbm, ⟨73, _⟩ => ⟨S16x4x2048, .f32⟩
  | .hbm, ⟨74, _⟩ => ⟨S16x4x2048x1, .f32⟩
  | .hbm, ⟨75, _⟩ => ⟨S16x4x2048x256, .f32⟩
  | .hbm, ⟨76, _⟩ => ⟨S16x4x2048x256, .f32⟩
  | .hbm, ⟨77, _⟩ => ⟨S16x4x256x2048, .f32⟩
  | .hbm, ⟨78, _⟩ => ⟨S16x2048x4x256, .f32⟩
  | .hbm, ⟨79, _⟩ => ⟨S16x2048x1024, .f32⟩
  | .hbm, ⟨80, _⟩ => ⟨S1x1024x1024, .f32⟩
  | .hbm, ⟨81, _⟩ => ⟨S1024x1024, .f32⟩
  | .hbm, ⟨82, _⟩ => ⟨S16x2048x1024, .f32⟩
  | .hbm, ⟨83, _⟩ => ⟨S1x1024, .f32⟩
  | .hbm, ⟨84, _⟩ => ⟨S1024, .f32⟩
  | .hbm, ⟨85, _⟩ => ⟨S16x2048x1024, .f32⟩
  | .hbm, ⟨86, _⟩ => ⟨S_, .f32⟩
  | .hbm, ⟨87, _⟩ => ⟨S16x2048, .f32⟩
  | .hbm, ⟨88, _⟩ => ⟨S16x2048x1, .f32⟩
  | .hbm, ⟨89, _⟩ => ⟨S_, .f32⟩
  | .hbm, ⟨90, _⟩ => ⟨S16x2048x1, .f32⟩
  | .hbm, ⟨91, _⟩ => ⟨S16x2048x1, .f32⟩
  | .hbm, ⟨92, _⟩ => ⟨S_, .f32⟩
  | .hbm, ⟨93, _⟩ => ⟨S16x2048x1, .f32⟩
  | .hbm, ⟨94, _⟩ => ⟨S16x2048x1, .f32⟩
  | .hbm, ⟨95, _⟩ => ⟨S16x2048x1, .f32⟩
  | .hbm, ⟨96, _⟩ => ⟨S16x2048x1024, .f32⟩
  | .hbm, ⟨97, _⟩ => ⟨S16x2048x1024, .f32⟩
  | .hbm, ⟨98, _⟩ => ⟨S1x1x1024, .f32⟩
  | .hbm, ⟨99, _⟩ => ⟨S16x2048x1024, .f32⟩
  | .hbm, ⟨100, _⟩ => ⟨S16x2048x1024, .f32⟩
  | .hbm, ⟨101, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_5 : Ref sig .tc := ⟨.hbm, 60, rfl⟩
abbrev main_v47 : Ref sig .tc := ⟨.hbm, 61, rfl⟩
abbrev main_v48 : Ref sig .tc := ⟨.hbm, 62, rfl⟩
abbrev main_cst_6 : Ref sig .tc := ⟨.hbm, 63, rfl⟩
abbrev main_v49 : Ref sig .tc := ⟨.hbm, 64, rfl⟩
abbrev main_cst_7 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_8 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_9 : Ref sig .tc := ⟨.hbm, 86, rfl⟩
abbrev main_v69 : Ref sig .tc := ⟨.hbm, 87, rfl⟩
abbrev main_v70 : Ref sig .tc := ⟨.hbm, 88, rfl⟩
abbrev main_cst_10 : Ref sig .tc := ⟨.hbm, 89, rfl⟩
abbrev main_v71 : Ref sig .tc := ⟨.hbm, 90, rfl⟩
abbrev main_v72 : Ref sig .tc := ⟨.hbm, 91, rfl⟩
abbrev main_cst_11 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩

abbrev nD : Nat := 1
abbrev τ : Topo := Topo.v7x

variable {F : FTy → Type} [FloatOps F]
-- ==== FirstAttn.lean ====
abbrev S16x2048x1024 : Shape := ⟨3, ![16, 2048, 1024]⟩
abbrev S16x2048x1536 : Shape := ⟨3, ![16, 2048, 1536]⟩
abbrev S2x16x256x2048 : Shape := ⟨4, ![2, 16, 256, 2048]⟩
abbrev S2x6x1024 : Shape := ⟨3, ![2, 6, 1024]⟩
abbrev S1536x1024 : Shape := ⟨2, ![1536, 1024]⟩
abbrev S2x1024x1024 : Shape := ⟨3, ![2, 1024, 1024]⟩
abbrev S1x1024x1024 : Shape := ⟨3, ![1, 1024, 1024]⟩
abbrev S1x1024x1536 : Shape := ⟨3, ![1, 1024, 1536]⟩
abbrev S1x1x256x2048 : Shape := ⟨4, ![1, 1, 256, 2048]⟩
abbrev S1x6x1024 : Shape := ⟨3, ![1, 6, 1024]⟩
abbrev S1x512x1024 : Shape := ⟨3, ![1, 512, 1024]⟩
abbrev S512x1024 : Shape := ⟨2, ![512, 1024]⟩
abbrev S1x512x1536 : Shape := ⟨3, ![1, 512, 1536]⟩
abbrev S512x1536 : Shape := ⟨2, ![512, 1536]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1024x1024 : Shape := ⟨2, ![1024, 1024]⟩
abbrev S1x1x256x256 : Shape := ⟨4, ![1, 1, 256, 256]⟩
abbrev S256x256 : Shape := ⟨2, ![256, 256]⟩
abbrev S512x256 : Shape := ⟨2, ![512, 256]⟩

abbrev nBuf : Space → Nat
  | .hbm => 11
  | .vmem => 12
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1536, .bf16⟩
  | .hbm, ⟨2, _⟩ => ⟨S2x16x256x2048, .bf16⟩
  | .hbm, ⟨3, _⟩ => ⟨S2x6x1024, .f32⟩
  | .hbm, ⟨4, _⟩ => ⟨S1536x1024, .f32⟩
  | .hbm, ⟨5, _⟩ => ⟨S2x1024x1024, .f32⟩
  | .hbm, ⟨6, _⟩ => ⟨S2x1024x1024, .f32⟩
  | .hbm, ⟨7, _⟩ => ⟨S2x1024x1024, .bf16⟩
  | .hbm, ⟨8, _⟩ => ⟨S2x1024x1024, .bf16⟩
  | .hbm, ⟨9, _⟩ => ⟨S1536x1024, .bf16⟩
  | .hbm, ⟨10, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1536, .bf16⟩
  | .local _ .vmem, ⟨3, _⟩ => ⟨S1x1024x1536, .bf16⟩
  | .local _ .vmem, ⟨4, _⟩ => ⟨S1x1x256x2048, .bf16⟩
  | .local _ .vmem, ⟨5, _⟩ => ⟨S1x1x256x2048, .bf16⟩
  | .local _ .vmem, ⟨6, _⟩ => ⟨S1x6x1024, .f32⟩
  | .local _ .vmem, ⟨7, _⟩ => ⟨S1536x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .f32⟩
  | .local _ .vmem, ⟨11, _⟩ => ⟨S1x1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1536x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FirstAttnRefIdeal.lean ====
abbrev S16x2048x1024 : Shape := ⟨3, ![16, 2048, 1024]⟩
abbrev S16x2048x1536 : Shape := ⟨3, ![16, 2048, 1536]⟩
abbrev S2x16x256x2048 : Shape := ⟨4, ![2, 16, 256, 2048]⟩
abbrev S2x6x1024 : Shape := ⟨3, ![2, 6, 1024]⟩
abbrev S1536x1024 : Shape := ⟨2, ![1536, 1024]⟩
abbrev S2x1024x1024 : Shape := ⟨3, ![2, 1024, 1024]⟩
abbrev S1x6x1024 : Shape := ⟨3, ![1, 6, 1024]⟩
abbrev S6x1024 : Shape := ⟨2, ![6, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x1024 : Shape := ⟨3, ![1, 1024, 1024]⟩
abbrev S1024x1024 : Shape := ⟨2, ![1024, 1024]⟩
abbrev S16x2048x4x256 : Shape := ⟨4, ![16, 2048, 4, 256]⟩
abbrev S1x16x256x2048 : Shape := ⟨4, ![1, 16, 256, 2048]⟩
abbrev S16x256x2048 : Shape := ⟨3, ![16, 256, 2048]⟩
abbrev S16x256x1024 : Shape := ⟨3, ![16, 256, 1024]⟩
abbrev S16x256x4x256 : Shape := ⟨4, ![16, 256, 4, 256]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x256x2048 : Shape := ⟨4, ![16, 4, 256, 2048]⟩

abbrev nBuf : Space → Nat
  | .hbm => 102
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1536, .bf16⟩
  | .hbm, ⟨2, _⟩ => ⟨S2x16x256x2048, .bf16⟩
  | .hbm, ⟨3, _⟩ => ⟨S2x6x1024, .f32⟩
  | .hbm, ⟨4, _⟩ => ⟨S1536x1024, .f32⟩
  | .hbm, ⟨5, _⟩ => ⟨S2x1024x1024, .f32⟩
  | .hbm, ⟨6, _⟩ => ⟨S2x1024x1024, .f32⟩
  | .hbm, ⟨7, _⟩ => ⟨S1x6x1024, .f32⟩
  | .hbm, ⟨8, _⟩ => ⟨S6x1024, .f32⟩
  | .hbm, ⟨9, _⟩ => ⟨S16x2048x1536, .f32⟩
  | .hbm, ⟨10, _⟩ => ⟨S16x2048x1024, .f32⟩
  | .hbm, ⟨11, _⟩ => ⟨S1x1024, .f32⟩
  | .hbm, ⟨12, _⟩ => ⟨S1024, .f32⟩
  | .hbm, ⟨13, _⟩ => ⟨S16x2048x1024, .f32⟩
  | .hbm, ⟨14, _⟩ => ⟨S_, .f32⟩
  | .hbm, ⟨15, _⟩ => ⟨S16x2048, .f32⟩
  | .hbm, ⟨16, _⟩ => ⟨S16x2048x1, .f32⟩
  | .hbm, ⟨17, _⟩ => ⟨S_, .f32⟩
  | .hbm, ⟨18, _⟩ => ⟨S16x2048x1, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S16x2048x1, .f32⟩
  | .hbm, ⟨24, _⟩ => ⟨S16x2048x1024, .f32⟩
  | .hbm, ⟨25, _⟩ => ⟨S16x2048x1024, .f32⟩
  | .hbm, ⟨26, _⟩ => ⟨S1x1x1024, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S1x1024, .f32⟩
  | .hbm, ⟨31, _⟩ => ⟨S1024, .f32⟩
  | .hbm, ⟨32, _⟩ => ⟨S16x2048x1024, .f32⟩
  | .hbm, ⟨33, _⟩ => ⟨S_, .f32⟩
  | .hbm, ⟨34, _⟩ => ⟨S16x2048, .f32⟩
  | .hbm, ⟨35, _⟩ => ⟨S16x2048x1, .f32⟩
  | .hbm, ⟨36, _⟩ => ⟨S_, .f32⟩
  | .hbm, ⟨37, _⟩ => ⟨S16x2048x1, .f32⟩
  | .hbm, ⟨38, _⟩ => ⟨S16x2048x1, .f32⟩
  | .hbm, ⟨39, _⟩ => ⟨S_, .f32⟩
  | .hbm, ⟨40, _⟩ => ⟨S16x2048x1, .f32⟩
  | .hbm, ⟨41, _⟩ => ⟨S16x2048x1, .f32⟩
  | .hbm, ⟨42, _⟩ => ⟨S16x2048x1, .f32⟩
  | .hbm, ⟨43, _⟩ => ⟨S16x2048x1024, .f32⟩
  | .hbm, ⟨44, _⟩ => ⟨S16x2048x1024, .f32⟩
  | .hbm, ⟨45, _⟩ => ⟨S1x1x1024, .f32⟩
  | .hbm, ⟨46, _⟩ => ⟨S16x2048x1024, .f32⟩
  | .hbm, ⟨47, _⟩ => ⟨S16x2048x1024, .f32⟩
  | .hbm, ⟨48, _⟩ => ⟨S1x1024x1024, .f32⟩
  | .hbm, ⟨49, _⟩ => ⟨S1024x1024, .f32⟩
  | .hbm, ⟨50, _⟩ => ⟨S16x2048x1024, .f32⟩
  | .hbm, ⟨51, _⟩ => ⟨S16x2048x4x256, .f32⟩
  | .hbm, ⟨52, _⟩ => ⟨S1x16x256x2048, .bf16⟩
  | .hbm, ⟨53, _⟩ => ⟨S16x256x2048, .bf16⟩
  | .hbm, ⟨54, _⟩ => ⟨S16x256x2048, .f32⟩
  | .hbm, ⟨55, _⟩ => ⟨S16x256x1024, .f32⟩
  | .hbm, ⟨56, _⟩ => ⟨S16x256x4x256, .f32⟩
  | .hbm, ⟨57, _⟩ => ⟨S16x256x1024, .f32⟩
  | .hbm, ⟨58, _⟩ => ⟨S16x256x4x256, .f32⟩
  | .hbm, ⟨59, _⟩ => ⟨S16x4x2048x256, .f32⟩
  | .hbm, ⟨60, _⟩ => ⟨S_, .f32⟩
  | .hbm, ⟨61, _⟩ => ⟨S16x4x2048x256, .f32⟩
  | .hbm, ⟨62, _⟩ => ⟨S16x4x2048x256, .f32⟩
  | .hbm, ⟨63, _⟩ => ⟨S_, .f32⟩
  | .hbm, ⟨64, _⟩ => ⟨S16x4x2048, .f32⟩
  | .hbm, ⟨65, _⟩ => ⟨S_, .f32⟩
  | .hbm, ⟨66, _⟩ => ⟨S16x4x2048, .f32⟩
  | .hbm, ⟨67, _⟩ => ⟨S16x4x2048, .f32⟩
  | .hbm, ⟨68, _⟩ => ⟨S16x4x2048x1, .f32⟩
  | .hbm, ⟨69, _⟩ => ⟨S16x4x2048x256, .f32⟩
  | .hbm, ⟨70, _⟩ => ⟨S16x4x2048x256, .f32⟩
  | .hbm, ⟨71, _⟩ => ⟨S16x4x2048x256, .f32⟩
  | .hbm, ⟨72, _⟩ => ⟨S_, .f32⟩
  | .hbm, ⟨73, _⟩ => ⟨S16x4x2048, .f32⟩
  | .hbm, ⟨74, _⟩ => ⟨S16x4x2048x1, .f32⟩
  | .hbm, ⟨75, _⟩ => ⟨S16x4x2048x256, .f32⟩
  | .hbm, ⟨76, _⟩ => ⟨S16x4x2048x256, .f32⟩
  | .hbm, ⟨77, _⟩ => ⟨S16x4x256x2048, .f32⟩
  | .hbm, ⟨78, _⟩ => ⟨S16x2048x4x256, .f32⟩
  | .hbm, ⟨79, _⟩ => ⟨S16x2048x1024, .f32⟩
  | .hbm, ⟨80, _⟩ => ⟨S1x1024x1024, .f32⟩
  | .hbm, ⟨81, _⟩ => ⟨S1024x1024, .f32⟩
  | .hbm, ⟨82, _⟩ => ⟨S16x2048x1024, .f32⟩
  | .hbm, ⟨83, _⟩ => ⟨S1x1024, .f32⟩
  | .hbm, ⟨84, _⟩ => ⟨S1024, .f32⟩
  | .hbm, ⟨85, _⟩ => ⟨S16x2048x1024, .f32⟩
  | .hbm, ⟨86, _⟩ => ⟨S_, .f32⟩
  | .hbm, ⟨87, _⟩ => ⟨S16x2048, .f32⟩
  | .hbm, ⟨88, _⟩ => ⟨S16x2048x1, .f32⟩
  | .hbm, ⟨89, _⟩ => ⟨S_, .f32⟩
  | .hbm, ⟨90, _⟩ => ⟨S16x2048x1, .f32⟩
  | .hbm, ⟨91, _⟩ => ⟨S16x2048x1, .f32⟩
  | .hbm, ⟨92, _⟩ => ⟨S_, .f32⟩
  | .hbm, ⟨93, _⟩ => ⟨S16x2048x1, .f32⟩
  | .hbm, ⟨94, _⟩ => ⟨S16x2048x1, .f32⟩
  | .hbm, ⟨95, _⟩ => ⟨S16x2048x1, .f32⟩
  | .hbm, ⟨96, _⟩ => ⟨S16x2048x1024, .f32⟩
  | .hbm, ⟨97, _⟩ => ⟨S16x2048x1024, .f32⟩
  | .hbm, ⟨98, _⟩ => ⟨S1x1x1024, .f32⟩
  | .hbm, ⟨99, _⟩ => ⟨S16x2048x1024, .f32⟩
  | .hbm, ⟨100, _⟩ => ⟨S16x2048x1024, .f32⟩
  | .hbm, ⟨101, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_5 : Ref sig .tc := ⟨.hbm, 60, rfl⟩
abbrev main_v47 : Ref sig .tc := ⟨.hbm, 61, rfl⟩
abbrev main_v48 : Ref sig .tc := ⟨.hbm, 62, rfl⟩
abbrev main_cst_6 : Ref sig .tc := ⟨.hbm, 63, rfl⟩
abbrev main_v49 : Ref sig .tc := ⟨.hbm, 64, rfl⟩
abbrev main_cst_7 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_8 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_9 : Ref sig .tc := ⟨.hbm, 86, rfl⟩
abbrev main_v69 : Ref sig .tc := ⟨.hbm, 87, rfl⟩
abbrev main_v70 : Ref sig .tc := ⟨.hbm, 88, rfl⟩
abbrev main_cst_10 : Ref sig .tc := ⟨.hbm, 89, rfl⟩
abbrev main_v71 : Ref sig .tc := ⟨.hbm, 90, rfl⟩
abbrev main_v72 : Ref sig .tc := ⟨.hbm, 91, rfl⟩
abbrev main_cst_11 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩

abbrev nD : Nat := 1
abbrev τ : Topo := Topo.v7x

variable {F : FTy → Type} [FloatOps F]
-- ==== Mlp.lean ====
abbrev S16x2048x1024 : Shape := ⟨3, ![16, 2048, 1024]⟩
abbrev S2x6x1024 : Shape := ⟨3, ![2, 6, 1024]⟩
abbrev S2x1024x4096 : Shape := ⟨3, ![2, 1024, 4096]⟩
abbrev S2x4096x1024 : Shape := ⟨3, ![2, 4096, 1024]⟩
abbrev S1x1024x1024 : Shape := ⟨3, ![1, 1024, 1024]⟩
abbrev S1x6x1024 : Shape := ⟨3, ![1, 6, 1024]⟩
abbrev S1x1024x4096 : Shape := ⟨3, ![1, 1024, 4096]⟩
abbrev S1x4096x1024 : Shape := ⟨3, ![1, 4096, 1024]⟩
abbrev S1x512x1024 : Shape := ⟨3, ![1, 512, 1024]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 7
  | .vmem => 7
  | .smem => 0
  | _ => 0

abbrev bufTy : (tb : Table) → Fin (tcTables nBuf tb) → BufTy
  | .hbm, ⟨0, _⟩ => ⟨S16x2048x1024, .f32⟩
  | .hbm, ⟨1, _⟩ => ⟨S2x6x1024, .f32⟩
  | .hbm, ⟨2, _⟩ => ⟨S2x1024x4096, .f32⟩
  | .hbm, ⟨3, _⟩ => ⟨S2x4096x1024, .f32⟩
  | .hbm, ⟨4, _⟩ => ⟨S2x1024x4096, .bf16⟩
  | .hbm, ⟨5, _⟩ => ⟨S2x4096x1024, .bf16⟩
  | .hbm, ⟨6, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x6x1024, .f32⟩
  | .local _ .vmem, ⟨3, _⟩ => ⟨S1x1024x4096, .bf16⟩
  | .local _ .vmem, ⟨4, _⟩ => ⟨S1x4096x1024, .bf16⟩
  | .local _ .vmem, ⟨5, _⟩ => ⟨S1x1024x1024, .f32⟩
  | .local _ .vmem, ⟨6, _⟩ => ⟨S1x1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MlpRefIdeal.lean ====
abbrev S16x2048x1024 : Shape := ⟨3, ![16, 2048, 1024]⟩
abbrev S2x6x1024 : Shape := ⟨3, ![2, 6, 1024]⟩
abbrev S2x1024x4096 : Shape := ⟨3, ![2, 1024, 4096]⟩
abbrev S2x4096x1024 : Shape := ⟨3, ![2, 4096, 1024]⟩
abbrev S1x6x1024 : Shape := ⟨3, ![1, 6, 1024]⟩
abbrev S6x1024 : Shape := ⟨2, ![6, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S16x2048x4096 : Shape := ⟨3, ![16, 2048, 4096]⟩
abbrev S1x4096x1024 : Shape := ⟨3, ![1, 4096, 1024]⟩
abbrev S4096x1024 : Shape := ⟨2, ![4096, 1024]⟩

abbrev nBuf : Space → Nat
  | .hbm => 53
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x6x1024, .f32⟩
  | .hbm, ⟨2, _⟩ => ⟨S2x1024x4096, .f32⟩
  | .hbm, ⟨3, _⟩ => ⟨S2x4096x1024, .f32⟩
  | .hbm, ⟨4, _⟩ => ⟨S1x6x1024, .f32⟩
  | .hbm, ⟨5, _⟩ => ⟨S6x1024, .f32⟩
  | .hbm, ⟨6, _⟩ => ⟨S1x1024, .f32⟩
  | .hbm, ⟨7, _⟩ => ⟨S1024, .f32⟩
  | .hbm, ⟨8, _⟩ => ⟨S16x2048x1024, .f32⟩
  | .hbm, ⟨9, _⟩ => ⟨S_, .f32⟩
  | .hbm, ⟨10, _⟩ => ⟨S16x2048, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S16x2048x1, .f32⟩
  | .hbm, ⟨19, _⟩ => ⟨S16x2048x1024, .f32⟩
  | .hbm, ⟨20, _⟩ => ⟨S16x2048x1024, .f32⟩
  | .hbm, ⟨21, _⟩ => ⟨S1x1x1024, .f32⟩
  | .hbm, ⟨22, _⟩ => ⟨S16x2048x1024, .f32⟩
  | .hbm, ⟨23, _⟩ => ⟨S16x2048x1024, .f32⟩
  | .hbm, ⟨24, _⟩ => ⟨S1x1024x4096, .f32⟩
  | .hbm, ⟨25, _⟩ => ⟨S1024x4096, .f32⟩
  | .hbm, ⟨26, _⟩ => ⟨S16x2048x4096, .f32⟩
  | .hbm, ⟨27, _⟩ => ⟨S_, .f32⟩
  | .hbm, ⟨28, _⟩ => ⟨S16x2048x4096, .f32⟩
  | .hbm, ⟨29, _⟩ => ⟨S16x2048x4096, .f32⟩
  | .hbm, ⟨30, _⟩ => ⟨S16x2048x4096, .f32⟩
  | .hbm, ⟨31, _⟩ => ⟨S1x4096x1024, .f32⟩
  | .hbm, ⟨32, _⟩ => ⟨S4096x1024, .f32⟩
  | .hbm, ⟨33, _⟩ => ⟨S16x2048x1024, .f32⟩
  | .hbm, ⟨34, _⟩ => ⟨S1x1024, .f32⟩
  | .hbm, ⟨35, _⟩ => ⟨S1024, .f32⟩
  | .hbm, ⟨36, _⟩ => ⟨S16x2048x1024, .f32⟩
  | .hbm, ⟨37, _⟩ => ⟨S_, .f32⟩
  | .hbm, ⟨38, _⟩ => ⟨S16x2048, .f32⟩
  | .hbm, ⟨39, _⟩ => ⟨S16x2048x1, .f32⟩
  | .hbm, ⟨40, _⟩ => ⟨S_, .f32⟩
  | .hbm, ⟨41, _⟩ => ⟨S16x2048x1, .f32⟩
  | .hbm, ⟨42, _⟩ => ⟨S16x2048x1, .f32⟩
  | .hbm, ⟨43, _⟩ => ⟨S_, .f32⟩
  | .hbm, ⟨44, _⟩ => ⟨S16x2048x1, .f32⟩
  | .hbm, ⟨45, _⟩ => ⟨S16x2048x1, .f32⟩
  | .hbm, ⟨46, _⟩ => ⟨S16x2048x1, .f32⟩
  | .hbm, ⟨47, _⟩ => ⟨S16x2048x1024, .f32⟩
  | .hbm, ⟨48, _⟩ => ⟨S16x2048x1024, .f32⟩
  | .hbm, ⟨49, _⟩ => ⟨S1x1x1024, .f32⟩
  | .hbm, ⟨50, _⟩ => ⟨S16x2048x1024, .f32⟩
  | .hbm, ⟨51, _⟩ => ⟨S16x2048x1024, .f32⟩
  | .hbm, ⟨52, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_cst : Ref sig .tc := ⟨.hbm, 27, rfl⟩
abbrev main_call0_v0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Kv.lean ====
abbrev S16x256x1024 : Shape := ⟨3, ![16, 256, 1024]⟩
abbrev S2x1024x2048 : Shape := ⟨3, ![2, 1024, 2048]⟩
abbrev S4096x1024 : Shape := ⟨2, ![4096, 1024]⟩
abbrev S2x4096x2048 : Shape := ⟨3, ![2, 4096, 2048]⟩
abbrev S512x1024 : Shape := ⟨2, ![512, 1024]⟩
abbrev S1x1024x2048 : Shape := ⟨3, ![1, 1024, 2048]⟩
abbrev S1x512x2048 : Shape := ⟨3, ![1, 512, 2048]⟩
abbrev S1024x2048 : Shape := ⟨2, ![1024, 2048]⟩
abbrev S512x2048 : Shape := ⟨2, ![512, 2048]⟩

abbrev nBuf : Space → Nat
  | .hbm => 5
  | .vmem => 6
  | .smem => 0
  | _ => 0

abbrev bufTy : (tb : Table) → Fin (tcTables nBuf tb) → BufTy
  | .hbm, ⟨0, _⟩ => ⟨S16x256x1024, .f32⟩
  | .hbm, ⟨1, _⟩ => ⟨S2x1024x2048, .f32⟩
  | .hbm, ⟨2, _⟩ => ⟨S4096x1024, .f32⟩
  | .hbm, ⟨3, _⟩ => ⟨S2x1024x2048, .bf16⟩
  | .hbm, ⟨4, _⟩ => ⟨S2x4096x2048, .bf16⟩
  | .local _ .vmem, ⟨0, _⟩ => ⟨S512x1024, .f32⟩
  | .local _ .vmem, ⟨1, _⟩ => ⟨S512x1024, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1x512x2048, .bf16⟩
  | .local _ .vmem, ⟨5, _⟩ => ⟨S1x512x2048, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvRefIdeal.lean ====
abbrev S16x256x1024 : Shape := ⟨3, ![16, 256, 1024]⟩
abbrev S2x1024x2048 : Shape := ⟨3, ![2, 1024, 2048]⟩
abbrev S1x1024x2048 : Shape := ⟨3, ![1, 1024, 2048]⟩
abbrev S1024x2048 : Shape := ⟨2, ![1024, 2048]⟩
abbrev S16x256x2048 : Shape := ⟨3, ![16, 256, 2048]⟩
abbrev S1x16x256x2048 : Shape := ⟨4, ![1, 16, 256, 2048]⟩
abbrev S2x16x256x2048 : Shape := ⟨4, ![2, 16, 256, 2048]⟩
abbrev S2x4096x2048 : Shape := ⟨3, ![2, 4096, 2048]⟩

abbrev nBuf : Space → Nat
  | .hbm => 13
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S2x1024x2048, .f32⟩
  | .hbm, ⟨2, _⟩ => ⟨S1x1024x2048, .f32⟩
  | .hbm, ⟨3, _⟩ => ⟨S1024x2048, .f32⟩
  | .hbm, ⟨4, _⟩ => ⟨S16x256x2048, .f32⟩
  | .hbm, ⟨5, _⟩ => ⟨S1x1024x2048, .f32⟩
  | .hbm, ⟨6, _⟩ => ⟨S1024x2048, .f32⟩
  | .hbm, ⟨7, _⟩ => ⟨S16x256x2048, .f32⟩
  | .hbm, ⟨8, _⟩ => ⟨S1x16x256x2048, .f32⟩
  | .hbm, ⟨9, _⟩ => ⟨S1x16x256x2048, .f32⟩
  | .hbm, ⟨10, _⟩ => ⟨S2x16x256x2048, .f32⟩
  | .hbm, ⟨11, _⟩ => ⟨S2x4096x2048, .f32⟩
  | .hbm, ⟨12, _⟩ => ⟨S2x4096x2048, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== ShortConv.lean ====
abbrev S16x2048x1024 : Shape := ⟨3, ![16, 2048, 1024]⟩
abbrev S6x1024 : Shape := ⟨2, ![6, 1024]⟩
abbrev S1024x5120 : Shape := ⟨2, ![1024, 5120]⟩
abbrev S31x1024 : Shape := ⟨2, ![31, 1024]⟩
abbrev S1024 : Shape := ⟨1, ![1024]⟩
abbrev S3x1024 : Shape := ⟨2, ![3, 1024]⟩
abbrev S1024x128 : Shape := ⟨2, ![1024, 128]⟩
abbrev S1024x2048 : Shape := ⟨2, ![1024, 2048]⟩
abbrev S1024x1024 : Shape := ⟨2, ![1024, 1024]⟩
abbrev S1x1024 : Shape := ⟨2, ![1, 1024]⟩
abbrev S16x2048x2048 : Shape := ⟨3, ![16, 2048, 2048]⟩
abbrev S1x512x1024 : Shape := ⟨3, ![1, 512, 1024]⟩
abbrev S1x512x2048 : Shape := ⟨3, ![1, 512, 2048]⟩
abbrev S2x544x128 : Shape := ⟨3, ![2, 544, 128]⟩
abbrev S2x520x128 : Shape := ⟨3, ![2, 520, 128]⟩
abbrev S512x1024 : Shape := ⟨2, ![512, 1024]⟩
abbrev S2x32x128 : Shape := ⟨3, ![2, 32, 128]⟩
abbrev S2x8x128 : Shape := ⟨3, ![2, 8, 128]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x128 : Shape := ⟨2, ![512, 128]⟩
abbrev S1x512x128 : Shape := ⟨3, ![1, 512, 128]⟩
abbrev S1x128 : Shape := ⟨2, ![1, 128]⟩
abbrev S1x64x128 : Shape := ⟨3, ![1, 64, 128]⟩
abbrev S64x128 : Shape := ⟨2, ![64, 128]⟩
abbrev S64x1024 : Shape := ⟨2, ![64, 1024]⟩
abbrev S64 : Shape := ⟨1, ![64]⟩
abbrev S64x1 : Shape := ⟨2, ![64, 1]⟩
abbrev S1x64x1024 : Shape := ⟨3, ![1, 64, 1024]⟩

abbrev nBuf : Space → Nat
  | .hbm => 58
  | .vmem => 21
  | .smem => 0
  | _ => 0

abbrev bufTy : (tb : Table) → Fin (tcTables nBuf tb) → BufTy
  | .hbm, ⟨0, _⟩ => ⟨S16x2048x1024, .f32⟩
  | .hbm, ⟨1, _⟩ => ⟨S6x1024, .f32⟩
  | .hbm, ⟨2, _⟩ => ⟨S1024x5120, .f32⟩
  | .hbm, ⟨3, _⟩ => ⟨S31x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S3x1024, .f32⟩
  | .hbm, ⟨8, _⟩ => ⟨S1024x5120, .bf16⟩
  | .hbm, ⟨9, _⟩ => ⟨S1024x128, .bf16⟩
  | .hbm, ⟨10, _⟩ => ⟨S1024x128, .bf16⟩
  | .hbm, ⟨11, _⟩ => ⟨S1024x128, .bf16⟩
  | .hbm, ⟨12, _⟩ => ⟨S1024x128, .bf16⟩
  | .hbm, ⟨13, _⟩ => ⟨S1024x128, .bf16⟩
  | .hbm, ⟨14, _⟩ => ⟨S1024x128, .bf16⟩
  | .hbm, ⟨15, _⟩ => ⟨S1024x128, .bf16⟩
  | .hbm, ⟨16, _⟩ => ⟨S1024x128, .bf16⟩
  | .hbm, ⟨17, _⟩ => ⟨S1024x128, .bf16⟩
  | .hbm, ⟨18, _⟩ => ⟨S1024x128, .bf16⟩
  | .hbm, ⟨19, _⟩ => ⟨S1024x128, .bf16⟩
  | .hbm, ⟨20, _⟩ => ⟨S1024x128, .bf16⟩
  | .hbm, ⟨21, _⟩ => ⟨S1024x128, .bf16⟩
  | .hbm, ⟨22, _⟩ => ⟨S1024x128, .bf16⟩
  | .hbm, ⟨23, _⟩ => ⟨S1024x128, .bf16⟩
  | .hbm, ⟨24, _⟩ => ⟨S1024x128, .bf16⟩
  | .hbm, ⟨25, _⟩ => ⟨S1024x128, .bf16⟩
  | .hbm, ⟨26, _⟩ => ⟨S1024x128, .bf16⟩
  | .hbm, ⟨27, _⟩ => ⟨S1024x128, .bf16⟩
  | .hbm, ⟨28, _⟩ => ⟨S1024x128, .bf16⟩
  | .hbm, ⟨29, _⟩ => ⟨S1024x128, .bf16⟩
  | .hbm, ⟨30, _⟩ => ⟨S1024x128, .bf16⟩
  | .hbm, ⟨31, _⟩ => ⟨S1024x128, .bf16⟩
  | .hbm, ⟨32, _⟩ => ⟨S1024x128, .bf16⟩
  | .hbm, ⟨33, _⟩ => ⟨S1024x128, .bf16⟩
  | .hbm, ⟨34, _⟩ => ⟨S1024x128, .bf16⟩
  | .hbm, ⟨35, _⟩ => ⟨S1024x128, .bf16⟩
  | .hbm, ⟨36, _⟩ => ⟨S1024x128, .bf16⟩
  | .hbm, ⟨37, _⟩ => ⟨S1024x128, .bf16⟩
  | .hbm, ⟨38, _⟩ => ⟨S1024x128, .bf16⟩
  | .hbm, ⟨39, _⟩ => ⟨S1024x128, .bf16⟩
  | .hbm, ⟨40, _⟩ => ⟨S1024x128, .bf16⟩
  | .hbm, ⟨41, _⟩ => ⟨S1024x128, .bf16⟩
  | .hbm, ⟨42, _⟩ => ⟨S1024x128, .bf16⟩
  | .hbm, ⟨43, _⟩ => ⟨S1024x128, .bf16⟩
  | .hbm, ⟨44, _⟩ => ⟨S1024x128, .bf16⟩
  | .hbm, ⟨45, _⟩ => ⟨S1024x128, .bf16⟩
  | .hbm, ⟨46, _⟩ => ⟨S1024x128, .bf16⟩
  | .hbm, ⟨47, _⟩ => ⟨S1024x128, .bf16⟩
  | .hbm, ⟨48, _⟩ => ⟨S1024x128, .bf16⟩
  | .hbm, ⟨49, _⟩ => ⟨S1024x2048, .bf16⟩
  | .hbm, ⟨50, _⟩ => ⟨S1024x2048, .bf16⟩
  | .hbm, ⟨51, _⟩ => ⟨S1024x1024, .bf16⟩
  | .hbm, ⟨52, _⟩ => ⟨S1024x5120, .bf16⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S16x2048x2048, .bf16⟩
  | .hbm, ⟨57, _⟩ => ⟨S16x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S6x1024, .f32⟩
  | .local _ .vmem, ⟨3, _⟩ => ⟨S1024x5120, .bf16⟩
  | .local _ .vmem, ⟨4, _⟩ => ⟨S31x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S3x1024, .f32⟩
  | .local _ .vmem, ⟨9, _⟩ => ⟨S1x512x2048, .bf16⟩
  | .local _ .vmem, ⟨10, _⟩ => ⟨S1x512x2048, .bf16⟩
  | .local _ .vmem, ⟨11, _⟩ => ⟨S2x544x128, .f32⟩
  | .local _ .vmem, ⟨12, _⟩ => ⟨S2x544x128, .f32⟩
  | .local _ .vmem, ⟨13, _⟩ => ⟨S2x544x128, .f32⟩
  | .local _ .vmem, ⟨14, _⟩ => ⟨S2x544x128, .f32⟩
  | .local _ .vmem, ⟨15, _⟩ => ⟨S2x520x128, .f32⟩
  | .local _ .vmem, ⟨16, _⟩ => ⟨S2x520x128, .f32⟩
  | .local _ .vmem, ⟨17, _⟩ => ⟨S2x520x128, .f32⟩
  | .local _ .vmem, ⟨18, _⟩ => ⟨S2x520x128, .f32⟩
  | .local _ .vmem, ⟨19, _⟩ => ⟨S512x1024, .f32⟩
  | .local _ .vmem, ⟨20, _⟩ => ⟨S512x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_scratch7 : Ref sig .tc := ⟨.vmem, 18, rfl⟩
abbrev cc0_scratch8 : Ref sig .tc := ⟨.vmem, 19, rfl⟩
abbrev cc0_scratch9 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S31x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ShortConvRefIdeal.lean ====
abbrev S16x2048x1024 : Shape := ⟨3, ![16, 2048, 1024]⟩
abbrev S6x1024 : Shape := ⟨2, ![6, 1024]⟩
abbrev S1024x5120 : Shape := ⟨2, ![1024, 5120]⟩
abbrev S31x1024 : Shape := ⟨2, ![31, 1024]⟩
abbrev S1024 : Shape := ⟨1, ![1024]⟩
abbrev S3x1024 : Shape := ⟨2, ![3, 1024]⟩
abbrev S1x1024 : Shape := ⟨2, ![1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5120 : Shape := ⟨3, ![16, 2048, 5120]⟩
abbrev S16x2050x1024 : Shape := ⟨3, ![16, 2050, 1024]⟩

abbrev nBuf : Space → Nat
  | .hbm => 59
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S6x1024, .f32⟩
  | .hbm, ⟨2, _⟩ => ⟨S1024x5120, .f32⟩
  | .hbm, ⟨3, _⟩ => ⟨S31x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S3x1024, .f32⟩
  | .hbm, ⟨8, _⟩ => ⟨S1x1024, .f32⟩
  | .hbm, ⟨9, _⟩ => ⟨S1024, .f32⟩
  | .hbm, ⟨10, _⟩ => ⟨S16x2048x1024, .f32⟩
  | .hbm, ⟨11, _⟩ => ⟨S_, .f32⟩
  | .hbm, ⟨12, _⟩ => ⟨S16x2048, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S_, .f32⟩
  | .hbm, ⟨18, _⟩ => ⟨S16x2048x1, .f32⟩
  | .hbm, ⟨19, _⟩ => ⟨S16x2048x1, .f32⟩
  | .hbm, ⟨20, _⟩ => ⟨S16x2048x1, .f32⟩
  | .hbm, ⟨21, _⟩ => ⟨S16x2048x1024, .f32⟩
  | .hbm, ⟨22, _⟩ => ⟨S16x2048x1024, .f32⟩
  | .hbm, ⟨23, _⟩ => ⟨S1x1x1024, .f32⟩
  | .hbm, ⟨24, _⟩ => ⟨S16x2048x1024, .f32⟩
  | .hbm, ⟨25, _⟩ => ⟨S16x2048x1024, .f32⟩
  | .hbm, ⟨26, _⟩ => ⟨S16x2048x5120, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S16x2048x1024, .f32⟩
  | .hbm, ⟨31, _⟩ => ⟨S_, .i32⟩
  | .hbm, ⟨32, _⟩ => ⟨S_, .f32⟩
  | .hbm, ⟨33, _⟩ => ⟨S16x2050x1024, .f32⟩
  | .hbm, ⟨34, _⟩ => ⟨S1x1024, .f32⟩
  | .hbm, ⟨35, _⟩ => ⟨S1024, .f32⟩
  | .hbm, ⟨36, _⟩ => ⟨S16x2048x1024, .f32⟩
  | .hbm, ⟨37, _⟩ => ⟨S1x1x1024, .f32⟩
  | .hbm, ⟨38, _⟩ => ⟨S16x2048x1024, .f32⟩
  | .hbm, ⟨39, _⟩ => ⟨S16x2048x1024, .f32⟩
  | .hbm, ⟨40, _⟩ => ⟨S_, .f32⟩
  | .hbm, ⟨41, _⟩ => ⟨S16x2048x1024, .f32⟩
  | .hbm, ⟨42, _⟩ => ⟨S16x2048x1024, .f32⟩
  | .hbm, ⟨43, _⟩ => ⟨S1x1024, .f32⟩
  | .hbm, ⟨44, _⟩ => ⟨S1024, .f32⟩
  | .hbm, ⟨45, _⟩ => ⟨S16x2048x1024, .f32⟩
  | .hbm, ⟨46, _⟩ => ⟨S1x1x1024, .f32⟩
  | .hbm, ⟨47, _⟩ => ⟨S16x2048x1024, .f32⟩
  | .hbm, ⟨48, _⟩ => ⟨S16x2048x1024, .f32⟩
  | .hbm, ⟨49, _⟩ => ⟨S16x2048x1024, .f32⟩
  | .hbm, ⟨50, _⟩ => ⟨S1x1024, .f32⟩
  | .hbm, ⟨51, _⟩ => ⟨S1024, .f32⟩
  | .hbm, ⟨52, _⟩ => ⟨S16x2048x1024, .f32⟩
  | .hbm, ⟨53, _⟩ => ⟨S1x1x1024, .f32⟩
  | .hbm, ⟨54, _⟩ => ⟨S16x2048x1024, .f32⟩
  | .hbm, ⟨55, _⟩ => ⟨S16x2048x1024, .f32⟩
  | .hbm, ⟨56, _⟩ => ⟨S16x2048x1024, .f32⟩
  | .hbm, ⟨57, _⟩ => ⟨S16x2048x1024, .f32⟩
  | .hbm, ⟨58, _⟩ => ⟨S16x2048x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_call0_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Proof.Rows.lean ====
/- The mathematics of the layer, row by row: plain functions of one row over the extended reals, which both the
   kernels' tiles and the reference's whole arrays are shown to compute. -/
module

public import Idealize.ShloMosaic.Lib.Pointwise

@[expose] public section

noncomputable section

namespace Cert.Rows

open Idealize.ShloMosaic

/-- The root mean square norm of a row of 1024 with gain `g`: the row times the reciprocal root of its mean square
    plus the small constant, times the gain. -/
def rms (x g : Fin 1024 → EReal) (j : Fin 1024) : EReal :=
  x j * Ideal.rsqrt (Ideal.div (∑ k, x k * x k) (Ideal.ofBits .f32 0x44800000#32)
    + Ideal.ofBits .f32 0x358637BD#32) * g j

/-- A product with a column: entry `j` of the row `x` times the matrix `W`. -/
def row {K N : ℕ} (x : Fin K → EReal) (W : Fin K → Fin N → EReal) (j : Fin N) : EReal := ∑ k, x k * W k j

/-- The squared rectified linear unit. -/
def relu2 (a : EReal) : EReal := max a 0 * max a 0

/-- The squared-ReLU MLP block of one row: norm, first product, activation, second product, norm, residual. -/
def mlp (x g4 g5 : Fin 1024 → EReal) (W1 : Fin 1024 → Fin 4096 → EReal) (W2 : Fin 4096 → Fin 1024 → EReal)
    (j : Fin 1024) : EReal :=
  x j + rms (row (fun k => relu2 (row (rms x g4) W1 k)) W2) g5 j

/-- The greatest of 256 scores. -/
def top (s : Fin 256 → EReal) : EReal := Finset.univ.fold max (Ideal.ofBits .f32 0xFF800000#32) s

/-- The softmax weights of a row of 256 scores: each exponential divided by the sum of all. -/
def soft (s : Fin 256 → EReal) (m : Fin 256) : EReal :=
  Ideal.div (Ideal.exp (s m - top s)) (∑ k, Ideal.exp (s k - top s))

/-- The same weights with the sum's reciprocal taken once and multiplied. -/
def weight (s : Fin 256 → EReal) (m : Fin 256) : EReal :=
  Ideal.exp (s m - top s) * Ideal.div 1 (∑ k, Ideal.exp (s k - top s))

/-- The scores of one head's query `q` against the head's 256 keys, scaled by a sixteenth. -/
def score (q : Fin 256 → EReal) (K : Fin 256 → Fin 256 → EReal) (m : Fin 256) : EReal :=
  (∑ d, q d * K m d) * Ideal.ofBits .f32 0x3D800000#32

/-- One head of attention: the values weighted by the weights `w` of the scores. -/
def head (w : (Fin 256 → EReal) → Fin 256 → EReal) (q : Fin 256 → EReal) (K V : Fin 256 → Fin 256 → EReal)
    (d : Fin 256) : EReal :=
  ∑ m, w (score q K) m * V m d

/-- Column `d` of head `h` among the 1024 columns of the four heads side by side. -/
def col (h : Fin 4) (d : Fin 256) : Fin 1024 := ⟨h * 256 + d, by omega⟩

/-- Head `h` of the query row `q`; `kv` holds for each memory row its 1024 key columns, then its 1024 value columns. -/
def headAt (w : (Fin 256 → EReal) → Fin 256 → EReal) (q : Fin 1024 → EReal) (kv : Fin 256 → Fin 2048 → EReal)
    (h : Fin 4) (d : Fin 256) : EReal :=
  head w (fun d => q (col h d)) (fun m d => kv m ⟨h * 256 + d, by omega⟩)
    (fun m d => kv m ⟨1024 + h * 256 + d, by omega⟩) d

/-- The four heads side by side. -/
def heads (w : (Fin 256 → EReal) → Fin 256 → EReal) (q : Fin 1024 → EReal) (kv : Fin 256 → Fin 2048 → EReal)
    (j : Fin 1024) : EReal :=
  headAt w q kv ⟨j / 256, by omega⟩ ⟨j % 256, by omega⟩

/-- The residual row after the mixer's product and norm. -/
def mixed {K : ℕ} (x : Fin 1024 → EReal) (mix : Fin K → EReal) (Wout : Fin K → Fin 1024 → EReal) (g1 : Fin 1024 → EReal)
    (j : Fin 1024) : EReal :=
  x j + rms (row mix Wout) g1 j

/-- The query row: the norm of the residual row times the query weights. -/
def query (x : Fin 1024 → EReal) (g2 : Fin 1024 → EReal) (Wq : Fin 1024 → Fin 1024 → EReal) (j : Fin 1024) : EReal :=
  row (rms x g2) Wq j

/-- The cross attention block of one row: the mixer's product and norm added to the row, then norm, queries, the four
    heads, their product with the output weights, norm, residual. -/
def attn {K : ℕ} (w : (Fin 256 → EReal) → Fin 256 → EReal) (x : Fin 1024 → EReal) (mix : Fin K → EReal)
    (kv : Fin 256 → Fin 2048 → EReal) (g1 g2 g3 : Fin 1024 → EReal)
    (Wout : Fin K → Fin 1024 → EReal) (Wq Wo : Fin 1024 → Fin 1024 → EReal) (j : Fin 1024) : EReal :=
  mixed x mix Wout g1 j + rms (row (heads w (query (mixed x mix Wout g1) g2 Wq) kv) Wo) g3 j

/-- A maximum over the last of four axes, whatever their sizes: the greatest of the entries along it. -/
theorem max_last {a b c n : Nat} {u : Shape} (v : FVec Ideal ⟨4, ![a, b, c, n]⟩ .f32) (init : u.Idx → Ideal .f32)
    (hr : (⟨4, ![a, b, c, n]⟩ : Shape).ReducesTo [3] ⟨3, ![a, b, c]⟩) (hu : 0 < u.numel) (i : Fin a) (j : Fin b) (k : Fin c) :
    Host.reduce FloatOps.maximumf v init hr hu (ix3 i j k)
      = (Finset.univ : Finset (Fin n)).fold max (init (Shape.Idx.first hu)) fun m => v (ix4 i j k m) := by
  rw [Host.reduce_eq_fold, Shape.ReducesTo.fold_fiber_r4_a3]
  rfl

/-- The heads side by side, told apart by the column. -/
theorem heads_apart (w : (Fin 256 → EReal) → Fin 256 → EReal) (q : Fin 1024 → EReal) (kv : Fin 256 → Fin 2048 → EReal)
    (j : Fin 1024) :
    heads w q kv j = if h : (j : ℕ) < 256 then headAt w q kv 0 ⟨j, h⟩
      else if h : (j : ℕ) - 256 < 256 then headAt w q kv 1 ⟨j - 256, h⟩
      else if h : (j : ℕ) - 256 - 256 < 256 then headAt w q kv 2 ⟨j - 256 - 256, h⟩
      else headAt w q kv 3 ⟨j - 256 - 256 - 256, by omega⟩ := by
  unfold heads
  split_ifs with h1 h2 h3 <;> congr 1 <;> apply Fin.ext <;> simp <;> omega

/-- Dividing by sixteen is multiplying by a sixteenth. -/
theorem div_sixteen (a : EReal) :
    Ideal.div a (Ideal.ofBits .f32 0x41800000#32) = a * Ideal.ofBits .f32 0x3D800000#32 := by
  have h : Ideal.ofBits .f32 0x41800000#32 = ((16 : ℝ) : EReal) := by
    simp [Ideal.ofBits, Ideal.ieee]; rw [← EReal.coe_mul]; norm_num
  have h' : Ideal.ofBits .f32 0x3D800000#32 = ((1 / 16 : ℝ) : EReal) := by
    simp [Ideal.ofBits, Ideal.ieee]; rw [← EReal.coe_mul]; norm_num
  rw [h, h', Ideal.div_coe (by norm_num)]

/-- The pattern of minus infinity reads as the least extended real. -/
theorem ofBits_bot : Ideal.ofBits .f32 0xFF800000#32 = ⊥ := by
  simp [Ideal.ofBits, Ideal.ieee]

/-- A sum of 4096 terms taken in eight runs of 512, added one after another. -/
theorem sum_eight (f : Fin 4096 → EReal) :
    ∑ k, f k = (∑ k : Fin 512, f ⟨k, by omega⟩)
      + (∑ k : Fin 512, f ⟨512 + k, by omega⟩)
      + (∑ k : Fin 512, f ⟨1024 + k, by omega⟩)
      + (∑ k : Fin 512, f ⟨1536 + k, by omega⟩)
      + (∑ k : Fin 512, f ⟨2048 + k, by omega⟩)
      + (∑ k : Fin 512, f ⟨2560 + k, by omega⟩)
      + (∑ k : Fin 512, f ⟨3072 + k, by omega⟩)
      + (∑ k : Fin 512, f ⟨3584 + k, by omega⟩) := by
  rw [Fin.sum_univ_tiles 8 512 rfl, Fin.sum_univ_eight]
  simp only [Fin.val_zero, Fin.val_one, zero_mul, one_mul, zero_add]
  rfl

end Cert.Rows

end
-- ==== Proof.Finite.lean ====
/- Where the keys, the gains and the query weights are finite, the sum of a row's exponentials is not zero, so that
   multiplying by its reciprocal is dividing by it. -/
module

public import proofs.«01_k».proof.Proof.Rows

@[expose] public section

noncomputable section

namespace Cert.Rows

open Idealize.ShloMosaic

/-- An extended real that is a real number. -/
def Finite (a : EReal) : Prop := ∃ r : ℝ, a = r

/-- An extended real whose difference with itself is zero is a real number. -/
theorem Finite.of_sub {a : EReal} (h : a - a = 0) : Finite a := by
  induction a with
  | bot => simp at h
  | coe r => exact ⟨r, rfl⟩
  | top => simp at h

/-- The product of two real numbers is one. -/
theorem Finite.mul {a b : EReal} (ha : Finite a) (hb : Finite b) : Finite (a * b) := by
  obtain ⟨r, rfl⟩ := ha
  obtain ⟨s, rfl⟩ := hb
  exact ⟨r * s, (EReal.coe_mul r s).symm⟩

/-- The sum of two real numbers is one. -/
theorem Finite.add {a b : EReal} (ha : Finite a) (hb : Finite b) : Finite (a + b) := by
  obtain ⟨r, rfl⟩ := ha
  obtain ⟨s, rfl⟩ := hb
  exact ⟨r + s, (EReal.coe_add r s).symm⟩

/-- A finite sum of real numbers is one. -/
theorem Finite.sum {ι : Type*} (t : Finset ι) {f : ι → EReal} (h : ∀ i ∈ t, Finite (f i)) : Finite (∑ i ∈ t, f i) := by
  classical
  induction t using Finset.induction_on with
  | empty => exact ⟨0, by simp⟩
  | insert i t hi ih =>
    rw [Finset.sum_insert hi]
    exact (h i (Finset.mem_insert_self i t)).add (ih fun k hk => h k (Finset.mem_insert_of_mem hk))

/-- A square is not negative. -/
theorem square_nonneg (a : EReal) : 0 ≤ a * a := by
  induction a with
  | bot => simp
  | coe r => rw [← EReal.coe_mul]; exact_mod_cast mul_self_nonneg r
  | top => simp

/-- The square of an infinity is infinite. -/
theorem square_top {a : EReal} (h : ¬ Finite a) : a * a = ⊤ := by
  induction a with
  | bot => simp
  | coe r => exact absurd ⟨r, rfl⟩ h
  | top => simp

/-- The row's length as a number. -/
theorem ofBits_1024 : Ideal.ofBits .f32 0x44800000#32 = ((1024 : ℝ) : EReal) := by
  simp [Ideal.ofBits, Ideal.ieee]; rw [← EReal.coe_mul]; norm_num

/-- The small constant under the root is a positive real number. -/
theorem ofBits_eps : ∃ e : ℝ, 0 < e ∧ Ideal.ofBits .f32 0x358637BD#32 = (e : EReal) := by
  refine ⟨(8796093 : ℝ) * 2 ^ (-43 : ℤ), by positivity, ?_⟩
  simp [Ideal.ofBits, Ideal.ieee]

/-- The reciprocal root of a positive real number is a real number. -/
theorem rsqrt_coe {r : ℝ} (h : 0 < r) : Ideal.rsqrt (r : EReal) = (((Real.sqrt r)⁻¹ : ℝ) : EReal) := by
  change (if r < 0 then (⊥ : EReal) else if r = 0 then ⊤ else (((Real.sqrt r)⁻¹ : ℝ) : EReal)) = _
  rw [if_neg h.le.not_gt, if_neg h.ne']

/-- The reciprocal root of infinity is zero. -/
theorem rsqrt_top : Ideal.rsqrt ⊤ = 0 := rfl

/-- The exponential of a real number is the real exponential. -/
theorem exp_coe (r : ℝ) : Ideal.exp (r : EReal) = ((Real.exp r : ℝ) : EReal) := rfl

/-- A normed row is finite whatever the row holds, if the gain is: the reciprocal root of an infinite mean is zero. -/
theorem rms_finite (x g : Fin 1024 → EReal) (j : Fin 1024) (hg : Finite (g j)) : Finite (rms x g j) := by
  unfold rms
  refine Finite.mul ?_ hg
  obtain ⟨e, he, hE⟩ := ofBits_eps
  rw [ofBits_1024, hE, Ideal.div_coe (by norm_num)]
  by_cases hx : ∀ k, Finite (x k)
  · refine (hx j).mul ?_
    obtain ⟨r, hr⟩ := Finite.sum Finset.univ (f := fun k => x k * x k) fun k _ => (hx k).mul (hx k)
    have h0 : 0 ≤ r := by
      have : (0 : EReal) ≤ (r : EReal) := hr ▸ Finset.sum_nonneg fun k _ => square_nonneg (x k)
      exact_mod_cast this
    rw [hr, ← EReal.coe_mul, ← EReal.coe_add]
    have hp : 0 < r * (1 / 1024) + e := by positivity
    exact ⟨_, rsqrt_coe hp⟩
  · push Not at hx
    obtain ⟨k, hk⟩ := hx
    have hs : ∑ k, x k * x k = ⊤ :=
      top_le_iff.mp ((square_top hk).symm.le.trans
        (Finset.single_le_sum (f := fun k => x k * x k) (fun k _ => square_nonneg (x k)) (Finset.mem_univ k)))
    have ht : (⊤ : EReal) * ((1 / 1024 : ℝ) : EReal) + (e : EReal) = ⊤ := by
      rw [EReal.top_mul_coe_of_pos (by norm_num)]; rfl
    rw [hs, ht, rsqrt_top, mul_zero]
    exact ⟨0, EReal.coe_zero.symm⟩

/-- A row product of real numbers is one. -/
theorem row_finite {K N : ℕ} {x : Fin K → EReal} {W : Fin K → Fin N → EReal} (hx : ∀ k, Finite (x k))
    (hW : ∀ k j, Finite (W k j)) (j : Fin N) : Finite (row x W j) :=
  Finite.sum _ fun k _ => (hx k).mul (hW k j)

/-- The greatest of 256 scores is one of them. -/
theorem top_mem (s : Fin 256 → EReal) : ∃ m, top s = s m := by
  have h : top s = Finset.univ.sup s := by
    unfold top
    rw [ofBits_bot]
    rfl
  obtain ⟨m, -, hm⟩ := Finset.exists_mem_eq_sup Finset.univ ⟨0, Finset.mem_univ 0⟩ s
  exact ⟨m, h.trans hm⟩

/-- An exponential is not negative. -/
theorem exp_nonneg (a : EReal) : 0 ≤ Ideal.exp a := by
  induction a with
  | bot => exact le_refl _
  | coe r => rw [exp_coe]; exact_mod_cast (Real.exp_pos r).le
  | top => exact le_top

/-- Of finite scores the softmax weights are the exponentials times the reciprocal of their sum. -/
theorem weight_eq (s : Fin 256 → EReal) (hs : ∀ m, Finite (s m)) : weight s = soft s := by
  funext m
  unfold weight soft
  obtain ⟨k, hk⟩ := top_mem s
  have h1 : Ideal.exp (s k - top s) = 1 := by
    rw [hk]
    obtain ⟨r, hr⟩ := hs k
    rw [hr, ← EReal.coe_sub, sub_self, exp_coe, Real.exp_zero, EReal.coe_one]
  have hle : (1 : EReal) ≤ ∑ k, Ideal.exp (s k - top s) :=
    h1.symm.le.trans (Finset.single_le_sum (f := fun k => Ideal.exp (s k - top s)) (fun k _ => exp_nonneg _) (Finset.mem_univ k))
  have hne : (∑ k, Ideal.exp (s k - top s)) ≠ 0 := fun h0 => by
    rw [h0] at hle
    exact absurd hle (by simp)
  unfold Ideal.div
  rw [if_neg hne, if_neg hne, one_mul]

/-- Scores of a finite query against finite keys are finite. -/
theorem score_finite {q : Fin 256 → EReal} {K : Fin 256 → Fin 256 → EReal} (hq : ∀ d, Finite (q d))
    (hK : ∀ m d, Finite (K m d)) (m : Fin 256) : Finite (score q K m) := by
  refine Finite.mul (Finite.sum _ fun d _ => (hq d).mul (hK m d)) ⟨1 / 16, ?_⟩
  simp [Ideal.ofBits, Ideal.ieee]; rw [← EReal.coe_mul]; norm_num

/-- The attention block with the reciprocal taken once is the attention block, where keys, gains and query weights are
    finite. -/
theorem attn_weight {K : ℕ} (x : Fin 1024 → EReal) (mix : Fin K → EReal) (kv : Fin 256 → Fin 2048 → EReal)
    (g1 g2 g3 : Fin 1024 → EReal) (Wout : Fin K → Fin 1024 → EReal) (Wq Wo : Fin 1024 → Fin 1024 → EReal)
    (hkv : ∀ m k, Finite (kv m k)) (hg : ∀ j, Finite (g2 j)) (hq : ∀ k j, Finite (Wq k j)) :
    attn weight x mix kv g1 g2 g3 Wout Wq Wo = attn soft x mix kv g1 g2 g3 Wout Wq Wo := by
  have hh : heads weight (query (mixed x mix Wout g1) g2 Wq) kv = heads soft (query (mixed x mix Wout g1) g2 Wq) kv := by
    funext j
    unfold heads headAt head
    rw [weight_eq]
    exact score_finite (fun d => row_finite (fun k => rms_finite _ _ _ (hg k)) hq _) fun m d => hkv m _
  funext j
  unfold attn
  rw [hh]

end Cert.Rows

end
-- ==== Proof.AttnTile.lean ====
/- What one tile of the attention call stores, read row by row: each stored row is `Rows.attn` of the tile's row. -/
module

public import proofs.«01_k».proof.Proof.Rows
public import proofs.«01_k».proof.Proof.Gen.AttnIdeal.Frame
public import Idealize.ShloMosaic.Lib.Pointwise

@[expose] public section

set_option maxRecDepth 16384

noncomputable section

namespace Cert.AttnIdeal.Tile

open Cert.AttnIdeal Cert.AttnIdeal.Gen Cert.Rows Idealize.ShloMosaic Idealize.ShloMosaic.TcCoe Idealize.SL.Sem

/-- The first half's residual rows after the mixer. -/
theorem mixed_lo (x : FVec Ideal S1x512x1024 .f32) (mix : FVec Ideal S1x512x2048 .bf16) (w : FVec Ideal S2048x1024 .bf16)
    (g : FVec Ideal S1x1x1024 .f32) (r : Fin 512) (j : Fin 1024) :
    k0_pay2 (F := Ideal) x mix w g (ix2 r j)
      = mixed (fun j => x (ix3 0 r j)) (fun k => mix (ix3 0 r k)) (fun k j => w (ix2 k j)) (fun j => g (ix3 0 0 j)) j := by
  pointwise [k0_pay2, mixed, rms, row]

/-- The second half's residual rows after the mixer. -/
theorem mixed_hi (x : FVec Ideal S1x512x1024 .f32) (mix : FVec Ideal S1x512x2048 .bf16) (w : FVec Ideal S2048x1024 .bf16)
    (g : FVec Ideal S1x1x1024 .f32) (r : Fin 512) (j : Fin 1024) :
    k0_pay6 (F := Ideal) (k0_pay3 x) (k0_pay4 mix w) (k0_pay5 g) (ix2 r j)
      = mixed (fun j => x (ix3 0 r j)) (fun k => mix (ix3 0 r k)) (fun k j => w (ix2 k j)) (fun j => g (ix3 0 0 j)) j := by
  pointwise [k0_pay6, k0_pay3, k0_pay4, k0_pay5, mixed, rms, row]

/-- The first half's query rows. -/
theorem query_lo (x : FVec Ideal S512x1024 .f32) (g : FVec Ideal S1x1x1024 .f32) (w : FVec Ideal S1x1024x1024 .bf16)
    (r : Fin 512) (j : Fin 1024) :
    k0_pay7 (F := Ideal) x g w (ix2 r j)
      = query (fun j => x (ix2 r j)) (fun j => g (ix3 0 0 j)) (fun k j => w (ix3 0 k j)) j := by
  pointwise [k0_pay7, query, rms, row]

/-- The second half's query rows. -/
theorem query_hi (x a : FVec Ideal S512x1024 .f32) (b : FVec Ideal S1x1024 .f32) (g : FVec Ideal S1x1x1024 .f32)
    (w : FVec Ideal S1x1024x1024 .bf16) (r : Fin 512) (j : Fin 1024) :
    k0_pay10 (F := Ideal) (k0_pay6 x a b) (k0_pay8 g) (k0_pay9 x a b) w (ix2 r j)
      = query (fun j => k0_pay6 (F := Ideal) x a b (ix2 r j)) (fun j => g (ix3 0 0 j)) (fun k j => w (ix3 0 k j)) j := by
  pointwise [k0_pay10, k0_pay8, k0_pay9, query, rms, row]

/-- The first half's first head. -/
theorem head_lo_0 (q : FVec Ideal S512x1024 .f32) (k v : FVec Ideal S1x1x256x256 .bf16) (r : Fin 512) (d : Fin 256) :
    k0_pay11 (F := Ideal) q k v (ix2 r d)
      = head weight (fun d => q (ix2 r (col 0 d))) (fun m d => k (ix4 0 0 m d)) (fun m d => v (ix4 0 0 m d)) d := by
  pointwise [k0_pay11, head, weight, score, top, col]

/-- The first half's second head. -/
theorem head_lo_1 (q : FVec Ideal S512x1024 .f32) (k v : FVec Ideal S1x1x256x256 .bf16) (r : Fin 512) (d : Fin 256) :
    k0_pay13 (F := Ideal) q (k0_pay12 k) v (ix2 r d)
      = head weight (fun d => q (ix2 r (col 1 d))) (fun m d => k (ix4 0 0 m d)) (fun m d => v (ix4 0 0 m d)) d := by
  pointwise [k0_pay13, k0_pay12, head, weight, score, top, col]

/-- The second half's first head. -/
theorem head_hi_0 (q : FVec Ideal S512x1024 .f32) (k v : FVec Ideal S1x1x256x256 .bf16) (r : Fin 512) (d : Fin 256) :
    k0_pay19 (F := Ideal) (k0_pay17 v) (k0_pay18 q k) (ix2 r d)
      = head weight (fun d => q (ix2 r (col 0 d))) (fun m d => k (ix4 0 0 m d)) (fun m d => v (ix4 0 0 m d)) d := by
  pointwise [k0_pay19, k0_pay17, k0_pay18, head, weight, score, top, col]

/-- The second half's second head. -/
theorem head_hi_1 (q : FVec Ideal S512x1024 .f32) (k v : FVec Ideal S1x1x256x256 .bf16) (r : Fin 512) (d : Fin 256) :
    k0_pay20 (F := Ideal) q k v (ix2 r d)
      = head weight (fun d => q (ix2 r (col 1 d))) (fun m d => k (ix4 0 0 m d)) (fun m d => v (ix4 0 0 m d)) d := by
  pointwise [k0_pay20, head, weight, score, top, col]

/-- The second half's third head. -/
theorem head_hi_2 (q : FVec Ideal S512x1024 .f32) (k v : FVec Ideal S1x1x256x256 .bf16) (r : Fin 512) (d : Fin 256) :
    k0_pay21 (F := Ideal) q k v (ix2 r d)
      = head weight (fun d => q (ix2 r (col 2 d))) (fun m d => k (ix4 0 0 m d)) (fun m d => v (ix4 0 0 m d)) d := by
  pointwise [k0_pay21, head, weight, score, top, col]

/-- The first half's heads side by side. -/
theorem heads_lo (q : FVec Ideal S512x1024 .f32) (x2 : FVec Ideal S1x1x256x2048 .bf16)
    (r : Fin 512) (j : Fin 1024) :
    k0_pay16 (F := Ideal) q (k0_pay11 q (View.ld x2 r0_8) (View.ld x2 r0_9))
        (k0_pay13 q (k0_pay12 (View.ld x2 r0_10)) (View.ld x2 r0_11)) (k0_pay14 (View.ld x2 r0_13))
        (k0_pay15 q (View.ld x2 r0_12)) (View.ld x2 r0_14) (View.ld x2 r0_15) (ix2 r j)
      = heads weight (fun j => q (ix2 r j)) (fun m k => x2 (ix4 0 0 m k)) j := by
  rw [heads_apart]
  simp only [headAt]
  pointwise [k0_pay16, k0_pay14, k0_pay15, head_lo_0, head_lo_1]
  pointwise [head, weight, score, top, col]

/-- The second half's heads side by side, times the output weights. -/
theorem out_hi (q : FVec Ideal S512x1024 .f32) (x2 : FVec Ideal S1x1x256x2048 .bf16)
    (w : FVec Ideal S1x1024x1024 .bf16)
    (r : Fin 512) (j : Fin 1024) :
    k0_pay26 (F := Ideal) (k0_pay19 (k0_pay17 (View.ld x2 r0_9)) (k0_pay18 q (View.ld x2 r0_8)))
        (k0_pay20 q (View.ld x2 r0_10) (View.ld x2 r0_11)) (k0_pay21 q (View.ld x2 r0_12) (View.ld x2 r0_13))
        (k0_pay22 (View.ld x2 r0_15)) (k0_pay23 q (View.ld x2 r0_14)) (k0_pay24 q (View.ld x2 r0_14)) w (ix2 r j)
      = row (heads weight (fun j => q (ix2 r j)) (fun m k => x2 (ix4 0 0 m k))) (fun k j => w (ix3 0 k j)) j := by
  unfold row
  simp only [heads_apart, headAt]
  pointwise [k0_pay26, k0_pay22, k0_pay23, k0_pay24, head_hi_0, head_hi_1, head_hi_2]
  pointwise [head, weight, score, top, col]

/-- The second half's last step: norm of the attention's output and the residual. -/
theorem last_hi (x : FVec Ideal S512x1024 .f32) (a b c : FVec Ideal S512x256 .bf16) (d : FVec Ideal S256x256 .bf16)
    (e : FVec Ideal S512x256 .f32) (f : FVec Ideal S512x1 .f32) (w : FVec Ideal S1x1024x1024 .bf16)
    (g : FVec Ideal S1x1x1024 .f32) (r : Fin 512) (j : Fin 1024) :
    k0_pay1 (F := Ideal) x (k0_pay26 a b c d e f w) (k0_pay27 g) (k0_pay28 a b c d e f w) (ix3 0 r j)
      = x (ix2 r j) + rms (fun j => k0_pay26 (F := Ideal) a b c d e f w (ix2 r j)) (fun j => g (ix3 0 0 j)) j := by
  pointwise [k0_pay1, k0_pay27, k0_pay28, rms]

/-- The first half's last step: the heads' product with the output weights, its norm and the residual. -/
theorem last_lo (x : FVec Ideal S512x1024 .f32) (o : FVec Ideal S512x1024 .bf16) (w : FVec Ideal S1x1024x1024 .bf16)
    (g : FVec Ideal S1x1x1024 .f32) (r : Fin 512) (j : Fin 1024) :
    k0_pay25 (F := Ideal) x o w g (ix3 0 r j)
      = x (ix2 r j) + rms (row (fun j => o (ix2 r j)) (fun k j => w (ix3 0 k j))) (fun j => g (ix3 0 0 j)) j := by
  pointwise [k0_pay25, rms, row]

end Cert.AttnIdeal.Tile

end
-- ==== Proof.AttnOut.lean ====
/- What the attention call's body stores in a block of its result, entry by entry. -/
module

public import proofs.«01_k».proof.Proof.AttnTile
public import Idealize.ShloMosaic.Lib.Pipeline.ValueKit

@[expose] public section

set_option maxRecDepth 16384

noncomputable section

namespace Cert.AttnIdeal.Tile

open Cert.AttnIdeal Cert.AttnIdeal.Gen Cert.Rows Idealize.ShloMosaic Idealize.ShloMosaic.TcCoe Idealize.SL.Sem
open Idealize.ShloMosaic.Pipeline (Dat)

/-- What the body stores at block index `y`: `Rows.attn` of the block's row. -/
theorem out_at (x0 : FVec Ideal S1x1024x1024 .f32) (x1 : FVec Ideal S1x1024x2048 .bf16) (x2 : FVec Ideal S1x1x256x2048 .bf16)
    (x3 : FVec Ideal S1x6x1024 .f32) (x4 : FVec Ideal S2048x1024 .bf16) (x5 x6 : FVec Ideal S1x1024x1024 .bf16)
    (y : S1x1024x1024.Idx) :
    out0_7 (F := Ideal) x0 x1 x2 x3 x4 x5 x6 y
      = attn weight (fun d => x0 (ix3 0 (y 1) d)) (fun k => x1 (ix3 0 (y 1) k)) (fun m k => x2 (ix4 0 0 m k))
          (fun d => x3 (ix3 0 1 d)) (fun d => x3 (ix3 0 2 d)) (fun d => x3 (ix3 0 3 d)) (fun k j => x4 (ix2 k j))
          (fun k j => x5 (ix3 0 k j)) (fun k j => x6 (ix3 0 k j)) (y 2) := by
  unfold out0_7
  obtain ⟨a, b, c, rfl⟩ : ∃ (a : Fin 1) (b : Fin 1024) (c : Fin 1024), y = ix3 a b c := ⟨y 0, y 1, y 2, eq_ix3 y⟩
  canon_tiles x h
  · obtain ⟨e, r, j, rfl⟩ : ∃ (e : Fin 1) (r : Fin 512) (j : Fin 1024), x = ix3 e r j := ⟨x 0, x 1, x 2, eq_ix3 x⟩
    simp only [ix3_1, ix3_2, ix3_0] at h0 h1 h2 x1_lt ⊢
    obtain rfl : e = 0 := Subsingleton.elim _ _
    obtain rfl : b = ⟨512 + r, by clear h1; omega⟩ := Fin.ext h1
    obtain rfl : c = j := Fin.ext h2
    rw [last_hi]
    unfold k0_pay36 k0_pay37 k0_pay38 k0_pay39 k0_pay40 k0_pay41 k0_pay35
    simp only [out_hi]
    unfold k0_pay33
    simp only [query_hi]
    unfold k0_pay30 k0_pay31 k0_pay32
    simp only [mixed_hi]
    unfold attn
    pointwise []
  · obtain ⟨e, r, j, rfl⟩ : ∃ (e : Fin 1) (r : Fin 512) (j : Fin 1024), x = ix3 e r j := ⟨x 0, x 1, x 2, eq_ix3 x⟩
    simp only [ix3_1, ix3_2, ix3_0] at h0 h1 h2 x1_lt ⊢
    obtain rfl : e = 0 := Subsingleton.elim _ _
    obtain rfl : b = ⟨r, by clear h1; omega⟩ := Fin.ext h1
    obtain rfl : c = j := Fin.ext h2
    rw [last_lo]
    simp only [heads_lo]
    unfold k0_pay34
    simp only [query_lo]
    unfold k0_pay29
    simp only [mixed_lo]
    unfold attn
    pointwise []

end Cert.AttnIdeal.Tile

end
-- ==== Proof.AttnValue.lean ====
/- The attention call's result array: every entry is `Rows.attn` of the arguments' rows. -/
module

public import proofs.«01_k».proof.Proof.AttnOut
public import Idealize.ShloMosaic.Lib.Pipeline.ValueKit

@[expose] public section

set_option maxRecDepth 16384

noncomputable section

namespace Cert.AttnIdeal.Tile

open Cert.AttnIdeal Cert.AttnIdeal.Gen Cert.Rows Idealize.ShloMosaic Idealize.ShloMosaic.TcCoe Idealize.SL.Sem
open Idealize.ShloMosaic.Pipeline (Dat)

variable (m : (ℓ : Loc nD τ sig) → Buf (Elt Ideal) ℓ)

/-- The call's result as one function of its argument arrays. -/
def G (x : FVec Ideal S16x2048x1024 .f32) (mix : FVec Ideal S16x2048x2048 .bf16) (kv : FVec Ideal S2x16x256x2048 .bf16)
    (g : FVec Ideal S2x6x1024 .f32) (wout : FVec Ideal S2048x1024 .f32) (wq wo : FVec Ideal S2x1024x1024 .f32) :
    FVec Ideal S16x2048x1024 .f32 := fun i =>
  attn weight (fun d => x (ix3 (i 0) (i 1) d)) (fun k => mix (ix3 (i 0) (i 1) k)) (fun m k => kv (ix4 1 (i 0) m k))
    (fun d => g (ix3 1 1 d)) (fun d => g (ix3 1 2 d)) (fun d => g (ix3 1 3 d)) (fun k j => wout (ix2 k j))
    (fun k j => wq (ix3 1 k j)) (fun k j => wo (ix3 1 k j)) (i 2)

/-- Where each window's block sits, at every grid point. -/
theorem idx : ∀ t : Fin cfg0.N, win0_0.index t = ![t.val / 2, t.val % 2, 0] ∧ win0_1.index t = ![t.val / 2, t.val % 2, 0]
    ∧ win0_2.index t = ![1, t.val / 2, 0, 0] ∧ win0_3.index t = ![1, 0, 0] ∧ win0_4.index t = ![0, 0]
    ∧ win0_5.index t = ![1, 0, 0] ∧ win0_6.index t = ![1, 0, 0] ∧ win0_7.index t = ![t.val / 2, t.val % 2, 0] :=
  (by decide +kernel : ∀ t : Fin grid0.N, _)

/-- The result array after the run is `G` of the argument arrays. -/
theorem final (c : Dev nD) : (dats m 0 c).arrAt 7 (cfgs 0).N
    = G (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) := by
  refine (dats m 0 c).arrAt_eq_of_covers 7 _ (by decide +kernel) fun t _ y => ?_
  blk_simp
  rw [after0_7, out_at]
  unfold G
  blk_point [iblk, V, idx t]
  refine congrArg _ (Fin.ext ?_)
  blk_point [idx t]

end Cert.AttnIdeal.Tile

end
-- ==== Proof.AttnRefValue.lean ====
/- The reference of the attention call, read row by row: every entry of its result is `Rows.attn` of the arguments' rows. -/
module

public import proofs.«01_k».proof.Proof.Rows
public import proofs.«01_k».proof.Proof.Gen.AttnRefIdeal.Read
public import Idealize.ShloMosaic.Lib.Pointwise
public import Idealize.ShloMosaic.Lib.Tactic.CleanTypes

@[expose] public section

set_option maxRecDepth 16384

noncomputable section

namespace Cert.AttnRefIdeal.Rows

open Cert.AttnRefIdeal Cert.AttnRefIdeal.Gen Cert.AttnRefIdeal.Read Cert.Rows Idealize.ShloMosaic Idealize.ShloMosaic.TcCoe Idealize.SL.Sem

variable (x : FVec Ideal S16x2048x1024 .f32) (mix : FVec Ideal S16x2048x2048 .bf16) (kv : FVec Ideal S2x16x256x2048 .bf16)
  (g : FVec Ideal S2x6x1024 .f32) (wout : FVec Ideal S2048x1024 .f32) (wq wo : FVec Ideal S2x1024x1024 .f32)

/-- The mixer's product. -/
theorem product_at (b : Fin 16) (s : Fin 2048) (j : Fin 1024) :
    val_main_v3 (F := Ideal) mix wout (ix3 b s j) = row (fun k => mix (ix3 b s k)) (fun k j => wout (ix2 k j)) j := by
  pointwise [val_main_v3, val_main_v2, row]

/-- The residual rows after the mixer. -/
theorem mixed_at (b : Fin 16) (s : Fin 2048) (j : Fin 1024) :
    val_main_v19 (F := Ideal) x mix g wout (ix3 b s j)
      = mixed (fun j => x (ix3 b s j)) (fun k => mix (ix3 b s k)) (fun k j => wout (ix2 k j)) (fun j => g (ix3 1 1 j)) j := by
  rw [mixed]
  pointwise [val_main_v19, val_main_v18, val_main_v17, val_main_v16, val_main_v15, val_main_v14, val_main_v13, val_main_v12,
    val_main_v11, val_main_v10, val_main_v9, val_main_v8, val_main_v7, val_main_v6, val_main_v5, val_main_v4, val_main_v1,
    val_main_v0, val_main_cst, val_main_cst_0, val_main_cst_1, product_at, rms]

/-- The query rows. -/
theorem query_at (b : Fin 16) (s : Fin 2048) (j : Fin 1024) :
    val_main_v37 (F := Ideal) x mix g wout wq (ix3 b s j)
      = query (mixed (fun j => x (ix3 b s j)) (fun k => mix (ix3 b s k)) (fun k j => wout (ix2 k j)) (fun j => g (ix3 1 1 j)))
          (fun j => g (ix3 1 2 j)) (fun k j => wq (ix3 1 k j)) j := by
  pointwise [val_main_v37, val_main_v36, val_main_v35, val_main_v34, val_main_v33, val_main_v32, val_main_v31, val_main_v30,
    val_main_v29, val_main_v28, val_main_v27, val_main_v26, val_main_v25, val_main_v24, val_main_v23, val_main_v22,
    val_main_v21, val_main_v20, val_main_v1, val_main_v0, val_main_cst_2, val_main_cst_3, val_main_cst_4, mixed_at, query,
    row, rms]

/-- The scaled scores. -/
theorem score_at (b : Fin 16) (h : Fin 4) (s : Fin 2048) (m : Fin 256) :
    val_main_v48 (F := Ideal) x mix kv g wout wq (ix4 b h s m)
      = score (fun d => val_main_v37 (F := Ideal) x mix g wout wq (ix3 b s (col h d)))
          (fun m d => kv (ix4 1 b m ⟨h * 256 + d, by omega⟩)) m := by
  rw [score, ← div_sixteen]
  pointwise [val_main_v48, val_main_v47, val_main_v46, val_main_v43, val_main_v42, val_main_v41, val_main_v40, val_main_v39,
    val_main_v38, val_main_cst_5, col]

/-- The greatest score of each row. -/
theorem top_at (b : Fin 16) (h : Fin 4) (s : Fin 2048) :
    val_main_v51 (F := Ideal) x mix kv g wout wq (ix3 b h s)
      = top (fun m => val_main_v48 (F := Ideal) x mix kv g wout wq (ix4 b h s m)) := by
  rw [val_main_v51_apply]
  unfold val_main_v49
  generalize val_main_v48 (F := Ideal) x mix kv g wout wq = v
  have e : ∀ a : EReal, a = max (Ideal.ofBits .f32 0xFF800000#32) a := fun a => by rw [ofBits_bot]; simp
  rw [e (top _), max_last]
  pointwise [val_main_v50, val_main_cst_6, val_main_cst_7, top]

/-- The exponentials of the scores less the row's greatest. -/
theorem exp_at (b : Fin 16) (h : Fin 4) (s : Fin 2048) (m : Fin 256) :
    val_main_v55 (F := Ideal) x mix kv g wout wq (ix4 b h s m)
      = Ideal.exp (val_main_v48 (F := Ideal) x mix kv g wout wq (ix4 b h s m)
          - val_main_v51 (F := Ideal) x mix kv g wout wq (ix3 b h s)) := by
  unfold val_main_v55 val_main_v54 val_main_v53 val_main_v52
  generalize val_main_v48 (F := Ideal) x mix kv g wout wq = v
  generalize val_main_v51 (F := Ideal) x mix kv g wout wq = u
  pointwise []

/-- The quotients of the exponentials by their sum. -/
theorem quot_at (b : Fin 16) (h : Fin 4) (s : Fin 2048) (m : Fin 256) :
    val_main_v59 (F := Ideal) x mix kv g wout wq (ix4 b h s m)
      = Ideal.div (val_main_v55 (F := Ideal) x mix kv g wout wq (ix4 b h s m))
          (∑ k : Fin 256, val_main_v55 (F := Ideal) x mix kv g wout wq (ix4 b h s k)) := by
  unfold val_main_v59 val_main_v58 val_main_v57 val_main_v56
  generalize val_main_v55 (F := Ideal) x mix kv g wout wq = v
  pointwise [val_main_cst_8]

/-- The softmax weights. -/
theorem soft_at (b : Fin 16) (h : Fin 4) (s : Fin 2048) (m : Fin 256) :
    val_main_v59 (F := Ideal) x mix kv g wout wq (ix4 b h s m)
      = soft (score (fun d => val_main_v37 (F := Ideal) x mix g wout wq (ix3 b s (col h d)))
          (fun m d => kv (ix4 1 b m ⟨h * 256 + d, by omega⟩))) m := by
  rw [quot_at]
  simp only [exp_at, top_at, score_at]
  rfl

/-- The heads. -/
theorem head_at (b : Fin 16) (h : Fin 4) (s : Fin 2048) (d : Fin 256) :
    val_main_v61 (F := Ideal) x mix kv g wout wq (ix4 b s h d)
      = headAt soft (fun j => val_main_v37 (F := Ideal) x mix g wout wq (ix3 b s j)) (fun m k => kv (ix4 1 b m k)) h d := by
  unfold headAt head
  pointwise [val_main_v61, val_main_v60, val_main_v45, val_main_v44, val_main_v41, val_main_v40, val_main_v39, soft_at]
  refine Finset.sum_congr rfl fun m _ => ?_
  simp only [← Nat.add_assoc]
  rw [mul_comm]

/-- The heads side by side. -/
theorem heads_at (b : Fin 16) (s : Fin 2048) (j : Fin 1024) :
    val_main_v62 (F := Ideal) x mix kv g wout wq (ix3 b s j)
      = heads soft (fun j => val_main_v37 (F := Ideal) x mix g wout wq (ix3 b s j)) (fun m k => kv (ix4 1 b m k)) j := by
  unfold heads
  pointwise [val_main_v62, head_at]

/-- The attention's output rows. -/
theorem out_at (b : Fin 16) (s : Fin 2048) (j : Fin 1024) :
    val_main_v65 (F := Ideal) x mix kv g wout wq wo (ix3 b s j)
      = row (heads soft (query (mixed (fun j => x (ix3 b s j)) (fun k => mix (ix3 b s k)) (fun k j => wout (ix2 k j))
          (fun j => g (ix3 1 1 j))) (fun j => g (ix3 1 2 j)) (fun k j => wq (ix3 1 k j))) (fun m k => kv (ix4 1 b m k)))
          (fun k j => wo (ix3 1 k j)) j := by
  rw [row]
  pointwise [val_main_v65, val_main_v64, val_main_v63, heads_at, query_at]

/-- The reference's result: `Rows.attn` of the arguments' rows. -/
theorem result_at (b : Fin 16) (s : Fin 2048) (j : Fin 1024) :
    val_main_v81 (F := Ideal) x mix kv g wout wq wo (ix3 b s j)
      = attn soft (fun j => x (ix3 b s j)) (fun k => mix (ix3 b s k)) (fun m k => kv (ix4 1 b m k))
          (fun j => g (ix3 1 1 j)) (fun j => g (ix3 1 2 j)) (fun j => g (ix3 1 3 j)) (fun k j => wout (ix2 k j))
          (fun k j => wq (ix3 1 k j)) (fun k j => wo (ix3 1 k j)) j := by
  rw [attn]
  pointwise [val_main_v81, val_main_v80, val_main_v79, val_main_v78, val_main_v77, val_main_v76, val_main_v75, val_main_v74,
    val_main_v73, val_main_v72, val_main_v71, val_main_v70, val_main_v69, val_main_v68, val_main_v67, val_main_v66,
    val_main_v1, val_main_v0, val_main_cst_9, val_main_cst_10, val_main_cst_11, out_at, mixed_at, rms]

end Cert.AttnRefIdeal.Rows

end
-- ==== Proof.FirstAttnTile.lean ====
/- What one tile of the first layer's attention call stores, read row by row: each stored row is `Rows.attn` of the tile's row. -/
module

public import proofs.«01_k».proof.Proof.Rows
public import proofs.«01_k».proof.Proof.Gen.FirstAttnIdeal.Frame
public import Idealize.ShloMosaic.Lib.Pointwise

@[expose] public section

set_option maxRecDepth 16384

noncomputable section

namespace Cert.FirstAttnIdeal.Tile

open Cert.FirstAttnIdeal Cert.FirstAttnIdeal.Gen Cert.Rows Idealize.ShloMosaic Idealize.ShloMosaic.TcCoe Idealize.SL.Sem

/-- The first half's residual rows after the mixer. -/
theorem mixed_lo (x : FVec Ideal S1x512x1024 .f32) (mix : FVec Ideal S1x512x1536 .bf16) (w : FVec Ideal S1536x1024 .bf16)
    (g : FVec Ideal S1x1x1024 .f32) (r : Fin 512) (j : Fin 1024) :
    k0_pay2 (F := Ideal) x mix w g (ix2 r j)
      = mixed (fun j => x (ix3 0 r j)) (fun k => mix (ix3 0 r k)) (fun k j => w (ix2 k j)) (fun j => g (ix3 0 0 j)) j := by
  pointwise [k0_pay2, mixed, rms, row]

/-- The second half's residual rows after the mixer. -/
theorem mixed_hi (x : FVec Ideal S1x512x1024 .f32) (mix : FVec Ideal S1x512x1536 .bf16) (w : FVec Ideal S1536x1024 .bf16)
    (g : FVec Ideal S1x1x1024 .f32) (r : Fin 512) (j : Fin 1024) :
    k0_pay6 (F := Ideal) (k0_pay3 x) (k0_pay4 mix w) (k0_pay5 g) (ix2 r j)
      = mixed (fun j => x (ix3 0 r j)) (fun k => mix (ix3 0 r k)) (fun k j => w (ix2 k j)) (fun j => g (ix3 0 0 j)) j := by
  pointwise [k0_pay6, k0_pay3, k0_pay4, k0_pay5, mixed, rms, row]

/-- The first half's query rows. -/
theorem query_lo (x : FVec Ideal S512x1024 .f32) (g : FVec Ideal S1x1x1024 .f32) (w : FVec Ideal S1x1024x1024 .bf16)
    (r : Fin 512) (j : Fin 1024) :
    k0_pay7 (F := Ideal) x g w (ix2 r j)
      = query (fun j => x (ix2 r j)) (fun j => g (ix3 0 0 j)) (fun k j => w (ix3 0 k j)) j := by
  pointwise [k0_pay7, query, rms, row]

/-- The second half's query rows. -/
theorem query_hi (x a : FVec Ideal S512x1024 .f32) (b : FVec Ideal S1x1024 .f32) (g : FVec Ideal S1x1x1024 .f32)
    (w : FVec Ideal S1x1024x1024 .bf16) (r : Fin 512) (j : Fin 1024) :
    k0_pay10 (F := Ideal) (k0_pay6 x a b) (k0_pay8 g) (k0_pay9 x a b) w (ix2 r j)
      = query (fun j => k0_pay6 (F := Ideal) x a b (ix2 r j)) (fun j => g (ix3 0 0 j)) (fun k j => w (ix3 0 k j)) j := by
  pointwise [k0_pay10, k0_pay8, k0_pay9, query, rms, row]

/-- The first half's first head. -/
theorem head_lo_0 (q : FVec Ideal S512x1024 .f32) (k v : FVec Ideal S1x1x256x256 .bf16) (r : Fin 512) (d : Fin 256) :
    k0_pay11 (F := Ideal) q k v (ix2 r d)
      = head weight (fun d => q (ix2 r (col 0 d))) (fun m d => k (ix4 0 0 m d)) (fun m d => v (ix4 0 0 m d)) d := by
  pointwise [k0_pay11, head, weight, score, top, col]

/-- The first half's second head. -/
theorem head_lo_1 (q : FVec Ideal S512x1024 .f32) (k v : FVec Ideal S1x1x256x256 .bf16) (r : Fin 512) (d : Fin 256) :
    k0_pay13 (F := Ideal) q (k0_pay12 k) v (ix2 r d)
      = head weight (fun d => q (ix2 r (col 1 d))) (fun m d => k (ix4 0 0 m d)) (fun m d => v (ix4 0 0 m d)) d := by
  pointwise [k0_pay13, k0_pay12, head, weight, score, top, col]

/-- The second half's first head. -/
theorem head_hi_0 (q : FVec Ideal S512x1024 .f32) (k v : FVec Ideal S1x1x256x256 .bf16) (r : Fin 512) (d : Fin 256) :
    k0_pay19 (F := Ideal) (k0_pay17 v) (k0_pay18 q k) (ix2 r d)
      = head weight (fun d => q (ix2 r (col 0 d))) (fun m d => k (ix4 0 0 m d)) (fun m d => v (ix4 0 0 m d)) d := by
  pointwise [k0_pay19, k0_pay17, k0_pay18, head, weight, score, top, col]

/-- The second half's second head. -/
theorem head_hi_1 (q : FVec Ideal S512x1024 .f32) (k v : FVec Ideal S1x1x256x256 .bf16) (r : Fin 512) (d : Fin 256) :
    k0_pay20 (F := Ideal) q k v (ix2 r d)
      = head weight (fun d => q (ix2 r (col 1 d))) (fun m d => k (ix4 0 0 m d)) (fun m d => v (ix4 0 0 m d)) d := by
  pointwise [k0_pay20, head, weight, score, top, col]

/-- The second half's third head. -/
theorem head_hi_2 (q : FVec Ideal S512x1024 .f32) (k v : FVec Ideal S1x1x256x256 .bf16) (r : Fin 512) (d : Fin 256) :
    k0_pay21 (F := Ideal) q k v (ix2 r d)
      = head weight (fun d => q (ix2 r (col 2 d))) (fun m d => k (ix4 0 0 m d)) (fun m d => v (ix4 0 0 m d)) d := by
  pointwise [k0_pay21, head, weight, score, top, col]

/-- The first half's heads side by side. -/
theorem heads_lo (q : FVec Ideal S512x1024 .f32) (x2 : FVec Ideal S1x1x256x2048 .bf16)
    (r : Fin 512) (j : Fin 1024) :
    k0_pay16 (F := Ideal) q (k0_pay11 q (View.ld x2 r0_8) (View.ld x2 r0_9))
        (k0_pay13 q (k0_pay12 (View.ld x2 r0_10)) (View.ld x2 r0_11)) (k0_pay14 (View.ld x2 r0_13))
        (k0_pay15 q (View.ld x2 r0_12)) (View.ld x2 r0_14) (View.ld x2 r0_15) (ix2 r j)
      = heads weight (fun j => q (ix2 r j)) (fun m k => x2 (ix4 0 0 m k)) j := by
  rw [heads_apart]
  simp only [headAt]
  pointwise [k0_pay16, k0_pay14, k0_pay15, head_lo_0, head_lo_1]
  pointwise [head, weight, score, top, col]

/-- The second half's heads side by side, times the output weights. -/
theorem out_hi (q : FVec Ideal S512x1024 .f32) (x2 : FVec Ideal S1x1x256x2048 .bf16)
    (w : FVec Ideal S1x1024x1024 .bf16)
    (r : Fin 512) (j : Fin 1024) :
    k0_pay26 (F := Ideal) (k0_pay19 (k0_pay17 (View.ld x2 r0_9)) (k0_pay18 q (View.ld x2 r0_8)))
        (k0_pay20 q (View.ld x2 r0_10) (View.ld x2 r0_11)) (k0_pay21 q (View.ld x2 r0_12) (View.ld x2 r0_13))
        (k0_pay22 (View.ld x2 r0_15)) (k0_pay23 q (View.ld x2 r0_14)) (k0_pay24 q (View.ld x2 r0_14)) w (ix2 r j)
      = row (heads weight (fun j => q (ix2 r j)) (fun m k => x2 (ix4 0 0 m k))) (fun k j => w (ix3 0 k j)) j := by
  unfold row
  simp only [heads_apart, headAt]
  pointwise [k0_pay26, k0_pay22, k0_pay23, k0_pay24, head_hi_0, head_hi_1, head_hi_2]
  pointwise [head, weight, score, top, col]

/-- The second half's last step: norm of the attention's output and the residual. -/
theorem last_hi (x : FVec Ideal S512x1024 .f32) (a b c : FVec Ideal S512x256 .bf16) (d : FVec Ideal S256x256 .bf16)
    (e : FVec Ideal S512x256 .f32) (f : FVec Ideal S512x1 .f32) (w : FVec Ideal S1x1024x1024 .bf16)
    (g : FVec Ideal S1x1x1024 .f32) (r : Fin 512) (j : Fin 1024) :
    k0_pay1 (F := Ideal) x (k0_pay26 a b c d e f w) (k0_pay27 g) (k0_pay28 a b c d e f w) (ix3 0 r j)
      = x (ix2 r j) + rms (fun j => k0_pay26 (F := Ideal) a b c d e f w (ix2 r j)) (fun j => g (ix3 0 0 j)) j := by
  pointwise [k0_pay1, k0_pay27, k0_pay28, rms]

/-- The first half's last step: the heads' product with the output weights, its norm and the residual. -/
theorem last_lo (x : FVec Ideal S512x1024 .f32) (o : FVec Ideal S512x1024 .bf16) (w : FVec Ideal S1x1024x1024 .bf16)
    (g : FVec Ideal S1x1x1024 .f32) (r : Fin 512) (j : Fin 1024) :
    k0_pay25 (F := Ideal) x o w g (ix3 0 r j)
      = x (ix2 r j) + rms (row (fun j => o (ix2 r j)) (fun k j => w (ix3 0 k j))) (fun j => g (ix3 0 0 j)) j := by
  pointwise [k0_pay25, rms, row]

end Cert.FirstAttnIdeal.Tile

end
-- ==== Proof.FirstAttnOut.lean ====
/- What the first layer's attention call's body stores in a block of its result, entry by entry. -/
module

public import proofs.«01_k».proof.Proof.FirstAttnTile
public import Idealize.ShloMosaic.Lib.Pipeline.ValueKit

@[expose] public section

set_option maxRecDepth 16384

noncomputable section

namespace Cert.FirstAttnIdeal.Tile

open Cert.FirstAttnIdeal Cert.FirstAttnIdeal.Gen Cert.Rows Idealize.ShloMosaic Idealize.ShloMosaic.TcCoe Idealize.SL.Sem
open Idealize.ShloMosaic.Pipeline (Dat)

/-- What the body stores at block index `y`: `Rows.attn` of the block's row. -/
theorem out_at (x0 : FVec Ideal S1x1024x1024 .f32) (x1 : FVec Ideal S1x1024x1536 .bf16) (x2 : FVec Ideal S1x1x256x2048 .bf16)
    (x3 : FVec Ideal S1x6x1024 .f32) (x4 : FVec Ideal S1536x1024 .bf16) (x5 x6 : FVec Ideal S1x1024x1024 .bf16)
    (y : S1x1024x1024.Idx) :
    out0_7 (F := Ideal) x0 x1 x2 x3 x4 x5 x6 y
      = attn weight (fun d => x0 (ix3 0 (y 1) d)) (fun k => x1 (ix3 0 (y 1) k)) (fun m k => x2 (ix4 0 0 m k))
          (fun d => x3 (ix3 0 1 d)) (fun d => x3 (ix3 0 2 d)) (fun d => x3 (ix3 0 3 d)) (fun k j => x4 (ix2 k j))
          (fun k j => x5 (ix3 0 k j)) (fun k j => x6 (ix3 0 k j)) (y 2) := by
  unfold out0_7
  obtain ⟨a, b, c, rfl⟩ : ∃ (a : Fin 1) (b : Fin 1024) (c : Fin 1024), y = ix3 a b c := ⟨y 0, y 1, y 2, eq_ix3 y⟩
  canon_tiles x h
  · obtain ⟨e, r, j, rfl⟩ : ∃ (e : Fin 1) (r : Fin 512) (j : Fin 1024), x = ix3 e r j := ⟨x 0, x 1, x 2, eq_ix3 x⟩
    simp only [ix3_1, ix3_2, ix3_0] at h0 h1 h2 x1_lt ⊢
    obtain rfl : e = 0 := Subsingleton.elim _ _
    obtain rfl : b = ⟨512 + r, by clear h1; omega⟩ := Fin.ext h1
    obtain rfl : c = j := Fin.ext h2
    rw [last_hi]
    unfold k0_pay36 k0_pay37 k0_pay38 k0_pay39 k0_pay40 k0_pay41 k0_pay35
    simp only [out_hi]
    unfold k0_pay33
    simp only [query_hi]
    unfold k0_pay30 k0_pay31 k0_pay32
    simp only [mixed_hi]
    unfold attn
    pointwise []
  · obtain ⟨e, r, j, rfl⟩ : ∃ (e : Fin 1) (r : Fin 512) (j : Fin 1024), x = ix3 e r j := ⟨x 0, x 1, x 2, eq_ix3 x⟩
    simp only [ix3_1, ix3_2, ix3_0] at h0 h1 h2 x1_lt ⊢
    obtain rfl : e = 0 := Subsingleton.elim _ _
    obtain rfl : b = ⟨r, by clear h1; omega⟩ := Fin.ext h1
    obtain rfl : c = j := Fin.ext h2
    rw [last_lo]
    simp only [heads_lo]
    unfold k0_pay34
    simp only [query_lo]
    unfold k0_pay29
    simp only [mixed_lo]
    unfold attn
    pointwise []

end Cert.FirstAttnIdeal.Tile

end
-- ==== Proof.FirstAttnValue.lean ====
/- The first layer's attention call's result array: every entry is `Rows.attn` of the arguments' rows. -/
module

public import proofs.«01_k».proof.Proof.FirstAttnOut
public import Idealize.ShloMosaic.Lib.Pipeline.ValueKit

@[expose] public section

set_option maxRecDepth 16384

noncomputable section

namespace Cert.FirstAttnIdeal.Tile

open Cert.FirstAttnIdeal Cert.FirstAttnIdeal.Gen Cert.Rows Idealize.ShloMosaic Idealize.ShloMosaic.TcCoe Idealize.SL.Sem
open Idealize.ShloMosaic.Pipeline (Dat)

variable (m : (ℓ : Loc nD τ sig) → Buf (Elt Ideal) ℓ)

/-- The call's result as one function of its argument arrays. -/
def G (x : FVec Ideal S16x2048x1024 .f32) (mix : FVec Ideal S16x2048x1536 .bf16) (kv : FVec Ideal S2x16x256x2048 .bf16)
    (g : FVec Ideal S2x6x1024 .f32) (wout : FVec Ideal S1536x1024 .f32) (wq wo : FVec Ideal S2x1024x1024 .f32) :
    FVec Ideal S16x2048x1024 .f32 := fun i =>
  attn weight (fun d => x (ix3 (i 0) (i 1) d)) (fun k => mix (ix3 (i 0) (i 1) k)) (fun m k => kv (ix4 0 (i 0) m k))
    (fun d => g (ix3 0 1 d)) (fun d => g (ix3 0 2 d)) (fun d => g (ix3 0 3 d)) (fun k j => wout (ix2 k j))
    (fun k j => wq (ix3 0 k j)) (fun k j => wo (ix3 0 k j)) (i 2)

/-- Where each window's block sits, at every grid point. -/
theorem idx : ∀ t : Fin cfg0.N, win0_0.index t = ![t.val / 2, t.val % 2, 0] ∧ win0_1.index t = ![t.val / 2, t.val % 2, 0]
    ∧ win0_2.index t = ![0, t.val / 2, 0, 0] ∧ win0_3.index t = ![0, 0, 0] ∧ win0_4.index t = ![0, 0]
    ∧ win0_5.index t = ![0, 0, 0] ∧ win0_6.index t = ![0, 0, 0] ∧ win0_7.index t = ![t.val / 2, t.val % 2, 0] :=
  (by decide +kernel : ∀ t : Fin grid0.N, _)

/-- The result array after the run is `G` of the argument arrays. -/
theorem final (c : Dev nD) : (dats m 0 c).arrAt 7 (cfgs 0).N
    = G (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) := by
  refine (dats m 0 c).arrAt_eq_of_covers 7 _ (by decide +kernel) fun t _ y => ?_
  blk_simp
  rw [after0_7, out_at]
  unfold G
  blk_point [iblk, V, idx t]
  refine congrArg _ (Fin.ext ?_)
  blk_point [idx t]

end Cert.FirstAttnIdeal.Tile

end
-- ==== Proof.FirstAttnRefValue.lean ====
/- The reference of the first layer's attention call, read row by row: every entry of its result is `Rows.attn` of the arguments' rows. -/
module

public import proofs.«01_k».proof.Proof.Rows
public import proofs.«01_k».proof.Proof.Gen.FirstAttnRefIdeal.Read
public import Idealize.ShloMosaic.Lib.Pointwise
public import Idealize.ShloMosaic.Lib.Tactic.CleanTypes

@[expose] public section

set_option maxRecDepth 16384

noncomputable section

namespace Cert.FirstAttnRefIdeal.Rows

open Cert.FirstAttnRefIdeal Cert.FirstAttnRefIdeal.Gen Cert.FirstAttnRefIdeal.Read Cert.Rows Idealize.ShloMosaic Idealize.ShloMosaic.TcCoe Idealize.SL.Sem

variable (x : FVec Ideal S16x2048x1024 .f32) (mix : FVec Ideal S16x2048x1536 .bf16) (kv : FVec Ideal S2x16x256x2048 .bf16)
  (g : FVec Ideal S2x6x1024 .f32) (wout : FVec Ideal S1536x1024 .f32) (wq wo : FVec Ideal S2x1024x1024 .f32)

/-- The mixer's product. -/
theorem product_at (b : Fin 16) (s : Fin 2048) (j : Fin 1024) :
    val_main_v3 (F := Ideal) mix wout (ix3 b s j) = row (fun k => mix (ix3 b s k)) (fun k j => wout (ix2 k j)) j := by
  pointwise [val_main_v3, val_main_v2, row]

/-- The residual rows after the mixer. -/
theorem mixed_at (b : Fin 16) (s : Fin 2048) (j : Fin 1024) :
    val_main_v19 (F := Ideal) x mix g wout (ix3 b s j)
      = mixed (fun j => x (ix3 b s j)) (fun k => mix (ix3 b s k)) (fun k j => wout (ix2 k j)) (fun j => g (ix3 0 1 j)) j := by
  rw [mixed]
  pointwise [val_main_v19, val_main_v18, val_main_v17, val_main_v16, val_main_v15, val_main_v14, val_main_v13, val_main_v12,
    val_main_v11, val_main_v10, val_main_v9, val_main_v8, val_main_v7, val_main_v6, val_main_v5, val_main_v4, val_main_v1,
    val_main_v0, val_main_cst, val_main_cst_0, val_main_cst_1, product_at, rms]

/-- The query rows. -/
theorem query_at (b : Fin 16) (s : Fin 2048) (j : Fin 1024) :
    val_main_v37 (F := Ideal) x mix g wout wq (ix3 b s j)
      = query (mixed (fun j => x (ix3 b s j)) (fun k => mix (ix3 b s k)) (fun k j => wout (ix2 k j)) (fun j => g (ix3 0 1 j)))
          (fun j => g (ix3 0 2 j)) (fun k j => wq (ix3 0 k j)) j := by
  pointwise [val_main_v37, val_main_v36, val_main_v35, val_main_v34, val_main_v33, val_main_v32, val_main_v31, val_main_v30,
    val_main_v29, val_main_v28, val_main_v27, val_main_v26, val_main_v25, val_main_v24, val_main_v23, val_main_v22,
    val_main_v21, val_main_v20, val_main_v1, val_main_v0, val_main_cst_2, val_main_cst_3, val_main_cst_4, mixed_at, query,
    row, rms]

/-- The scaled scores. -/
theorem score_at (b : Fin 16) (h : Fin 4) (s : Fin 2048) (m : Fin 256) :
    val_main_v48 (F := Ideal) x mix kv g wout wq (ix4 b h s m)
      = score (fun d => val_main_v37 (F := Ideal) x mix g wout wq (ix3 b s (col h d)))
          (fun m d => kv (ix4 0 b m ⟨h * 256 + d, by omega⟩)) m := by
  rw [score, ← div_sixteen]
  pointwise [val_main_v48, val_main_v47, val_main_v46, val_main_v43, val_main_v42, val_main_v41, val_main_v40, val_main_v39,
    val_main_v38, val_main_cst_5, col]

/-- The greatest score of each row. -/
theorem top_at (b : Fin 16) (h : Fin 4) (s : Fin 2048) :
    val_main_v51 (F := Ideal) x mix kv g wout wq (ix3 b h s)
      = top (fun m => val_main_v48 (F := Ideal) x mix kv g wout wq (ix4 b h s m)) := by
  rw [val_main_v51_apply]
  unfold val_main_v49
  generalize val_main_v48 (F := Ideal) x mix kv g wout wq = v
  have e : ∀ a : EReal, a = max (Ideal.ofBits .f32 0xFF800000#32) a := fun a => by rw [ofBits_bot]; simp
  rw [e (top _), max_last]
  pointwise [val_main_v50, val_main_cst_6, val_main_cst_7, top]

/-- The exponentials of the scores less the row's greatest. -/
theorem exp_at (b : Fin 16) (h : Fin 4) (s : Fin 2048) (m : Fin 256) :
    val_main_v55 (F := Ideal) x mix kv g wout wq (ix4 b h s m)
      = Ideal.exp (val_main_v48 (F := Ideal) x mix kv g wout wq (ix4 b h s m)
          - val_main_v51 (F := Ideal) x mix kv g wout wq (ix3 b h s)) := by
  unfold val_main_v55 val_main_v54 val_main_v53 val_main_v52
  generalize val_main_v48 (F := Ideal) x mix kv g wout wq = v
  generalize val_main_v51 (F := Ideal) x mix kv g wout wq = u
  pointwise []

/-- The quotients of the exponentials by their sum. -/
theorem quot_at (b : Fin 16) (h : Fin 4) (s : Fin 2048) (m : Fin 256) :
    val_main_v59 (F := Ideal) x mix kv g wout wq (ix4 b h s m)
      = Ideal.div (val_main_v55 (F := Ideal) x mix kv g wout wq (ix4 b h s m))
          (∑ k : Fin 256, val_main_v55 (F := Ideal) x mix kv g wout wq (ix4 b h s k)) := by
  unfold val_main_v59 val_main_v58 val_main_v57 val_main_v56
  generalize val_main_v55 (F := Ideal) x mix kv g wout wq = v
  pointwise [val_main_cst_8]

/-- The softmax weights. -/
theorem soft_at (b : Fin 16) (h : Fin 4) (s : Fin 2048) (m : Fin 256) :
    val_main_v59 (F := Ideal) x mix kv g wout wq (ix4 b h s m)
      = soft (score (fun d => val_main_v37 (F := Ideal) x mix g wout wq (ix3 b s (col h d)))
          (fun m d => kv (ix4 0 b m ⟨h * 256 + d, by omega⟩))) m := by
  rw [quot_at]
  simp only [exp_at, top_at, score_at]
  rfl

/-- The heads. -/
theorem head_at (b : Fin 16) (h : Fin 4) (s : Fin 2048) (d : Fin 256) :
    val_main_v61 (F := Ideal) x mix kv g wout wq (ix4 b s h d)
      = headAt soft (fun j => val_main_v37 (F := Ideal) x mix g wout wq (ix3 b s j)) (fun m k => kv (ix4 0 b m k)) h d := by
  unfold headAt head
  pointwise [val_main_v61, val_main_v60, val_main_v45, val_main_v44, val_main_v41, val_main_v40, val_main_v39, soft_at]
  refine Finset.sum_congr rfl fun m _ => ?_
  simp only [← Nat.add_assoc]
  rw [mul_comm]

/-- The heads side by side. -/
theorem heads_at (b : Fin 16) (s : Fin 2048) (j : Fin 1024) :
    val_main_v62 (F := Ideal) x mix kv g wout wq (ix3 b s j)
      = heads soft (fun j => val_main_v37 (F := Ideal) x mix g wout wq (ix3 b s j)) (fun m k => kv (ix4 0 b m k)) j := by
  unfold heads
  pointwise [val_main_v62, head_at]

/-- The attention's output rows. -/
theorem out_at (b : Fin 16) (s : Fin 2048) (j : Fin 1024) :
    val_main_v65 (F := Ideal) x mix kv g wout wq wo (ix3 b s j)
      = row (heads soft (query (mixed (fun j => x (ix3 b s j)) (fun k => mix (ix3 b s k)) (fun k j => wout (ix2 k j))
          (fun j => g (ix3 0 1 j))) (fun j => g (ix3 0 2 j)) (fun k j => wq (ix3 0 k j))) (fun m k => kv (ix4 0 b m k)))
          (fun k j => wo (ix3 0 k j)) j := by
  rw [row]
  pointwise [val_main_v65, val_main_v64, val_main_v63, heads_at, query_at]

/-- The reference's result: `Rows.attn` of the arguments' rows. -/
theorem result_at (b : Fin 16) (s : Fin 2048) (j : Fin 1024) :
    val_main_v81 (F := Ideal) x mix kv g wout wq wo (ix3 b s j)
      = attn soft (fun j => x (ix3 b s j)) (fun k => mix (ix3 b s k)) (fun m k => kv (ix4 0 b m k))
          (fun j => g (ix3 0 1 j)) (fun j => g (ix3 0 2 j)) (fun j => g (ix3 0 3 j)) (fun k j => wout (ix2 k j))
          (fun k j => wq (ix3 0 k j)) (fun k j => wo (ix3 0 k j)) j := by
  rw [attn]
  pointwise [val_main_v81, val_main_v80, val_main_v79, val_main_v78, val_main_v77, val_main_v76, val_main_v75, val_main_v74,
    val_main_v73, val_main_v72, val_main_v71, val_main_v70, val_main_v69, val_main_v68, val_main_v67, val_main_v66,
    val_main_v1, val_main_v0, val_main_cst_9, val_main_cst_10, val_main_cst_11, out_at, mixed_at, rms]

end Cert.FirstAttnRefIdeal.Rows

end
-- ==== Proof.MlpTile.lean ====
/- What one tile of the MLP call stores, read row by row: each stored row is `Rows.mlp` of the tile's row. -/
module

public import proofs.«01_k».proof.Proof.Rows
public import proofs.«01_k».proof.Proof.Gen.MlpIdeal.Skeleton
public import Idealize.ShloMosaic.Lib.Pointwise

@[expose] public section

set_option maxRecDepth 16384

noncomputable section

namespace Cert.MlpIdeal.Tile

open Cert.MlpIdeal Cert.MlpIdeal.Gen Cert.Rows Idealize.ShloMosaic Idealize.ShloMosaic.TcCoe Idealize.SL.Sem

/-- The first half's normalised rows. -/
theorem norm_lo (v0 : FVec Ideal S1x512x1024 .f32) (v4 : FVec Ideal S1x1x1024 .f32) (r : Fin 512) (d : Fin 1024) :
    k0_pay4 (F := Ideal) v0 v4 (ix2 r d) = rms (fun d => v0 (ix3 0 r d)) (fun d => v4 (ix3 0 0 d)) d := by
  pointwise [k0_pay4, k0_pay2, rms]

/-- The second half's normalised rows. -/
theorem norm_hi (v0 : FVec Ideal S1x512x1024 .f32) (v4 : FVec Ideal S1x1x1024 .f32) (r : Fin 512) (d : Fin 1024) :
    k0_pay5 (F := Ideal) v0 v4 (ix2 r d) = rms (fun d => v0 (ix3 0 r d)) (fun d => v4 (ix3 0 0 d)) d := by
  pointwise [k0_pay5, k0_pay3, rms]

/-- One run of 512 hidden units: the rows' share of the second product. -/
def part (h : FVec Ideal S512x1024 .bf16) (w1 : FVec Ideal S1x1024x512 .bf16) (w2 : FVec Ideal S1x512x1024 .bf16)
    (r : Fin 512) (j : Fin 1024) : EReal :=
  ∑ k : Fin 512, relu2 (∑ d : Fin 1024, h (ix2 r d) * w1 (ix3 0 d k)) * w2 (ix3 0 k j)

/-- Adding one run of hidden units to the rows' sum. -/
theorem add_8 (h : FVec Ideal S512x1024 .bf16) (a : FVec Ideal S512x1024 .f32) (w1 : FVec Ideal S1x1024x512 .bf16)
    (w2 : FVec Ideal S1x512x1024 .bf16) (r : Fin 512) (j : Fin 1024) :
    k0_pay8 (F := Ideal) h a w1 w2 (ix2 r j) = a (ix2 r j) + part h w1 w2 r j := by
  pointwise [k0_pay8, part, relu2]

/-- Adding one run of hidden units to the rows' sum. -/
theorem add_10 (h : FVec Ideal S512x1024 .bf16) (a : FVec Ideal S512x1024 .f32) (w1 : FVec Ideal S1x1024x512 .bf16)
    (w2 : FVec Ideal S1x512x1024 .bf16) (r : Fin 512) (j : Fin 1024) :
    k0_pay10 (F := Ideal) h a w1 w2 (ix2 r j) = a (ix2 r j) + part h w1 w2 r j := by
  pointwise [k0_pay10, part, relu2]

/-- Adding one run of hidden units to the rows' sum. -/
theorem add_12 (h : FVec Ideal S512x1024 .bf16) (a : FVec Ideal S512x1024 .f32) (w1 : FVec Ideal S1x1024x512 .bf16)
    (w2 : FVec Ideal S1x512x1024 .bf16) (r : Fin 512) (j : Fin 1024) :
    k0_pay12 (F := Ideal) h a w1 w2 (ix2 r j) = a (ix2 r j) + part h w1 w2 r j := by
  pointwise [k0_pay12, part, relu2]

/-- Adding one run of hidden units to the rows' sum. -/
theorem add_14 (h : FVec Ideal S512x1024 .bf16) (a : FVec Ideal S512x1024 .f32) (w1 : FVec Ideal S1x1024x512 .bf16)
    (w2 : FVec Ideal S1x512x1024 .bf16) (r : Fin 512) (j : Fin 1024) :
    k0_pay14 (F := Ideal) h a w1 w2 (ix2 r j) = a (ix2 r j) + part h w1 w2 r j := by
  pointwise [k0_pay14, part, relu2]

/-- Adding one run of hidden units to the rows' sum. -/
theorem add_16 (h : FVec Ideal S512x1024 .bf16) (a : FVec Ideal S512x1024 .f32) (w1 : FVec Ideal S1x1024x512 .bf16)
    (w2 : FVec Ideal S1x512x1024 .bf16) (r : Fin 512) (j : Fin 1024) :
    k0_pay16 (F := Ideal) h a w1 w2 (ix2 r j) = a (ix2 r j) + part h w1 w2 r j := by
  pointwise [k0_pay16, part, relu2]

/-- Adding one run of hidden units to the rows' sum. -/
theorem add_18 (h : FVec Ideal S512x1024 .bf16) (a : FVec Ideal S512x1024 .f32) (w1 : FVec Ideal S1x1024x512 .bf16)
    (w2 : FVec Ideal S1x512x1024 .bf16) (r : Fin 512) (j : Fin 1024) :
    k0_pay18 (F := Ideal) h a w1 w2 (ix2 r j) = a (ix2 r j) + part h w1 w2 r j := by
  pointwise [k0_pay18, part, relu2]

/-- Adding two runs of hidden units to the rows' sum. -/
theorem add_9 (h : FVec Ideal S512x1024 .bf16) (a : FVec Ideal S512x1024 .f32) (w1 w1' : FVec Ideal S1x1024x512 .bf16)
    (w2 w2' : FVec Ideal S1x512x1024 .bf16) (r : Fin 512) (j : Fin 1024) :
    k0_pay9 (F := Ideal) h a w1 w2 w1' w2' (ix2 r j) = a (ix2 r j) + part h w1 w2 r j + part h w1' w2' r j := by
  pointwise [k0_pay9, part, relu2]

/-- Adding two runs of hidden units to the rows' sum. -/
theorem add_11 (h : FVec Ideal S512x1024 .bf16) (a : FVec Ideal S512x1024 .f32) (w1 w1' : FVec Ideal S1x1024x512 .bf16)
    (w2 w2' : FVec Ideal S1x512x1024 .bf16) (r : Fin 512) (j : Fin 1024) :
    k0_pay11 (F := Ideal) h a w1 w2 w1' w2' (ix2 r j) = a (ix2 r j) + part h w1 w2 r j + part h w1' w2' r j := by
  pointwise [k0_pay11, part, relu2]

/-- Adding two runs of hidden units to the rows' sum. -/
theorem add_13 (h : FVec Ideal S512x1024 .bf16) (a : FVec Ideal S512x1024 .f32) (w1 w1' : FVec Ideal S1x1024x512 .bf16)
    (w2 w2' : FVec Ideal S1x512x1024 .bf16) (r : Fin 512) (j : Fin 1024) :
    k0_pay13 (F := Ideal) h a w1 w2 w1' w2' (ix2 r j) = a (ix2 r j) + part h w1 w2 r j + part h w1' w2' r j := by
  pointwise [k0_pay13, part, relu2]

/-- Adding two runs of hidden units to the rows' sum. -/
theorem add_15 (h : FVec Ideal S512x1024 .bf16) (a : FVec Ideal S512x1024 .f32) (w1 w1' : FVec Ideal S1x1024x512 .bf16)
    (w2 w2' : FVec Ideal S1x512x1024 .bf16) (r : Fin 512) (j : Fin 1024) :
    k0_pay15 (F := Ideal) h a w1 w2 w1' w2' (ix2 r j) = a (ix2 r j) + part h w1 w2 r j + part h w1' w2' r j := by
  pointwise [k0_pay15, part, relu2]

/-- Adding two runs of hidden units to the rows' sum. -/
theorem add_17 (h : FVec Ideal S512x1024 .bf16) (a : FVec Ideal S512x1024 .f32) (w1 w1' : FVec Ideal S1x1024x512 .bf16)
    (w2 w2' : FVec Ideal S1x512x1024 .bf16) (r : Fin 512) (j : Fin 1024) :
    k0_pay17 (F := Ideal) h a w1 w2 w1' w2' (ix2 r j) = a (ix2 r j) + part h w1 w2 r j + part h w1' w2' r j := by
  pointwise [k0_pay17, part, relu2]

/-- The first half's last step: norm of the sum and the residual. -/
theorem last_lo (x a : FVec Ideal S512x1024 .f32) (g : FVec Ideal S1x1x1024 .f32) (r : Fin 512) (j : Fin 1024) :
    k0_pay19 (F := Ideal) x a g (ix3 0 r j) = x (ix2 r j) + rms (fun j => a (ix2 r j)) (fun j => g (ix3 0 0 j)) j := by
  pointwise [k0_pay19, rms]

/-- The second half's last step, from the sum before its last run. -/
theorem last_hi (x a : FVec Ideal S512x1024 .f32) (h : FVec Ideal S512x1024 .bf16) (w1 : FVec Ideal S1x1024x512 .bf16)
    (w2 : FVec Ideal S1x512x1024 .bf16) (g : FVec Ideal S1x1x1024 .f32) (r : Fin 512) (j : Fin 1024) :
    k0_pay1 (F := Ideal) x (k0_pay18 h a w1 w2) (k0_pay20 g) (k0_pay21 h a w1 w2) k0_pay22 (ix3 0 r j)
      = x (ix2 r j) + rms (fun j => a (ix2 r j) + part h w1 w2 r j) (fun j => g (ix3 0 0 j)) j := by
  pointwise [k0_pay1, k0_pay18, k0_pay20, k0_pay21, k0_pay22, rms, part, relu2]

/-- The accumulators start from zero. -/
theorem zero_lo (r : Fin 512) (j : Fin 1024) : k0_pay6 (F := Ideal) (ix2 r j) = 0 := by pointwise [k0_pay6]
theorem zero_hi (r : Fin 512) (j : Fin 1024) : k0_pay7 (F := Ideal) (ix2 r j) = 0 := by pointwise [k0_pay7]

end Cert.MlpIdeal.Tile

end
-- ==== Proof.MlpValue.lean ====
/- The MLP call's result array: every entry is `Rows.mlp` of the arguments' rows. -/
module

public import proofs.«01_k».proof.Proof.MlpTile
public import proofs.«01_k».proof.Proof.Gen.MlpIdeal.Frame
public import Idealize.ShloMosaic.Lib.Pipeline.ValueKit

@[expose] public section

set_option maxRecDepth 16384

noncomputable section

namespace Cert.MlpIdeal.Tile

open Cert.MlpIdeal Cert.MlpIdeal.Gen Cert.Rows Idealize.ShloMosaic Idealize.ShloMosaic.TcCoe Idealize.SL.Sem
open Idealize.ShloMosaic.Pipeline (Dat)

/-- What the body stores at block index `y`: `Rows.mlp` of the block's row. -/
theorem out_at (x0 : FVec Ideal S1x1024x1024 .f32) (x1 : FVec Ideal S1x6x1024 .f32) (x2 : FVec Ideal S1x1024x4096 .bf16)
    (x3 : FVec Ideal S1x4096x1024 .bf16) (y : S1x1024x1024.Idx) :
    out0_4 (F := Ideal) x0 x1 x2 x3 y = mlp (fun d => x0 (ix3 0 (y 1) d)) (fun d => x1 (ix3 0 4 d)) (fun d => x1 (ix3 0 5 d))
      (fun d k => x2 (ix3 0 d k)) (fun k j => x3 (ix3 0 k j)) (y 2) := by
  unfold out0_4
  obtain ⟨a, b, c, rfl⟩ : ∃ (a : Fin 1) (b : Fin 1024) (c : Fin 1024), y = ix3 a b c := ⟨y 0, y 1, y 2, eq_ix3 y⟩
  canon_tiles x h
  · obtain ⟨e, r, j, rfl⟩ : ∃ (e : Fin 1) (r : Fin 512) (j : Fin 1024), x = ix3 e r j := ⟨x 0, x 1, x 2, eq_ix3 x⟩
    simp only [ix3_1, ix3_2, ix3_0] at h0 h1 h2 x1_lt ⊢
    obtain rfl : e = 0 := Subsingleton.elim _ _
    obtain rfl : b = ⟨512 + r, by clear h1; omega⟩ := Fin.ext h1
    obtain rfl : c = j := Fin.ext h2
    rw [last_hi]
    unfold k0_pay25
    unfold k0_pay24
    simp only [add_16, add_15, add_12, add_11, add_8, zero_hi, mlp]
    unfold row
    simp only [sum_eight]
    pointwise [part, norm_hi, k0_pay3]
  · obtain ⟨e, r, j, rfl⟩ : ∃ (e : Fin 1) (r : Fin 512) (j : Fin 1024), x = ix3 e r j := ⟨x 0, x 1, x 2, eq_ix3 x⟩
    simp only [ix3_1, ix3_2, ix3_0] at h0 h1 h2 x1_lt ⊢
    obtain rfl : e = 0 := Subsingleton.elim _ _
    obtain rfl : b = ⟨r, by clear h1; omega⟩ := Fin.ext h1
    obtain rfl : c = j := Fin.ext h2
    rw [last_lo]
    unfold k0_pay23
    simp only [add_17, add_14, add_13, add_10, add_9, zero_lo, mlp]
    unfold row
    simp only [sum_eight]
    pointwise [part, norm_lo, k0_pay2]
variable (m : (ℓ : Loc nD τ sig) → Buf (Elt Ideal) ℓ)

/-- The call's result as one function of its argument arrays. -/
def G (x : FVec Ideal S16x2048x1024 .f32) (g : FVec Ideal S2x6x1024 .f32) (w1 : FVec Ideal S2x1024x4096 .f32)
    (w2 : FVec Ideal S2x4096x1024 .f32) : FVec Ideal S16x2048x1024 .f32 := fun i =>
  mlp (fun d => x (ix3 (i 0) (i 1) d)) (fun d => g (ix3 1 4 d)) (fun d => g (ix3 1 5 d))
    (fun d k => w1 (ix3 1 d k)) (fun k j => w2 (ix3 1 k j)) (i 2)

/-- Where each window's block sits, at every grid point. -/
theorem idx : ∀ t : Fin cfg0.N, win0_0.index t = ![t.val / 2, t.val % 2, 0] ∧ win0_1.index t = ![1, 0, 0]
    ∧ win0_2.index t = ![1, 0, 0] ∧ win0_3.index t = ![1, 0, 0] ∧ win0_4.index t = ![t.val / 2, t.val % 2, 0] :=
  (by decide +kernel : ∀ t : Fin grid0.N, _)

/-- The result array after the run is `G` of the argument arrays. -/
theorem final (c : Dev nD) : (dats m 0 c).arrAt 4 (cfgs 0).N
    = G (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t _ y => ?_
  blk_simp
  rw [after0_4, out_at]
  unfold G
  blk_point [iblk, V, idx t]

end Cert.MlpIdeal.Tile

end
-- ==== Proof.MlpRefValue.lean ====
/- The reference of the MLP call, read row by row: every entry of its result is `Rows.mlp` of the arguments' rows. -/
module

public import proofs.«01_k».proof.Proof.Rows
public import proofs.«01_k».proof.Proof.Gen.MlpRefIdeal.Read
public import Idealize.ShloMosaic.Lib.Pointwise
public import Idealize.ShloMosaic.Lib.Tactic.CleanTypes

@[expose] public section

set_option maxRecDepth 16384

noncomputable section

namespace Cert.MlpRefIdeal.Rows

open Cert.MlpRefIdeal Cert.MlpRefIdeal.Gen Cert.MlpRefIdeal.Read Cert.Rows Idealize.ShloMosaic Idealize.ShloMosaic.TcCoe Idealize.SL.Sem

variable (x : FVec Ideal S16x2048x1024 .f32) (g : FVec Ideal S2x6x1024 .f32) (w1 : FVec Ideal S2x1024x4096 .f32)
  (w2 : FVec Ideal S2x4096x1024 .f32)

/-- The normalised rows. -/
theorem norm_at (b : Fin 16) (s : Fin 2048) (d : Fin 1024) :
    val_main_v16 (F := Ideal) x g (ix3 b s d) = rms (fun d => x (ix3 b s d)) (fun d => g (ix3 1 4 d)) d := by
  pointwise [val_main_v16, val_main_v15, val_main_v14, val_main_v13, val_main_v12, val_main_v11, val_main_v10, val_main_v9,
    val_main_v8, val_main_v7, val_main_v6, val_main_v5, val_main_v4, val_main_v3, val_main_v2, val_main_v1, val_main_v0,
    val_main_cst, val_main_cst_0, val_main_cst_1, rms]

/-- The squared hidden units. -/
theorem hidden_at (b : Fin 16) (s : Fin 2048) (k : Fin 4096) :
    val_main_v21 (F := Ideal) x g w1 (ix3 b s k)
      = relu2 (row (rms (fun d => x (ix3 b s d)) (fun d => g (ix3 1 4 d))) (fun d k => w1 (ix3 1 d k)) k) := by
  pointwise [val_main_v21, val_main_v20, val_main_v19, val_main_v18, val_main_v17, val_main_call0_v0, val_main_call0_cst,
    norm_at, relu2, row]

/-- The second product. -/
theorem sum_at (b : Fin 16) (s : Fin 2048) (j : Fin 1024) :
    val_main_v24 (F := Ideal) x g w1 w2 (ix3 b s j)
      = row (fun k => relu2 (row (rms (fun d => x (ix3 b s d)) (fun d => g (ix3 1 4 d))) (fun d k => w1 (ix3 1 d k)) k))
          (fun k j => w2 (ix3 1 k j)) j := by
  rw [row]
  pointwise [val_main_v24, val_main_v23, val_main_v22, hidden_at]

/-- The reference's result: `Rows.mlp` of the arguments' rows. -/
theorem result_at (b : Fin 16) (s : Fin 2048) (j : Fin 1024) :
    val_main_v40 (F := Ideal) x g w1 w2 (ix3 b s j)
      = mlp (fun d => x (ix3 b s d)) (fun d => g (ix3 1 4 d)) (fun d => g (ix3 1 5 d))
          (fun d k => w1 (ix3 1 d k)) (fun k j => w2 (ix3 1 k j)) j := by
  rw [mlp]
  pointwise [val_main_v40, val_main_v39, val_main_v38, val_main_v37, val_main_v36, val_main_v35, val_main_v34, val_main_v33,
    val_main_v32, val_main_v31, val_main_v30, val_main_v29, val_main_v28, val_main_v27, val_main_v26, val_main_v25,
    val_main_v1, val_main_v0, val_main_cst_2, val_main_cst_3, val_main_cst_4, sum_at, rms]

end Cert.MlpRefIdeal.Rows

end
-- ==== Proof.KvValue.lean ====
/- The key and value projection's result array: every entry is the product of a memory row with a weight column. -/
module

public import proofs.«01_k».proof.Proof.Rows
public import proofs.«01_k».proof.Proof.Gen.KvIdeal.Frame
public import Idealize.ShloMosaic.Lib.Pipeline.ValueKit
public import Idealize.ShloMosaic.Lib.Tactic.CleanTypes

@[expose] public section

set_option maxRecDepth 16384

noncomputable section

namespace Cert.KvIdeal.Tile

open Cert.KvIdeal Cert.KvIdeal.Gen Cert.Rows Idealize.ShloMosaic Idealize.ShloMosaic.TcCoe Idealize.SL.Sem
open Idealize.ShloMosaic.Pipeline (Dat)

/-- What the body stores at block index `y`: the product of the block's row with the weight column. -/
theorem out_at (x0 : FVec Ideal S512x1024 .f32) (x1 : FVec Ideal S1x1024x2048 .bf16) (y : S1x512x2048.Idx) :
    out0_2 (F := Ideal) x0 x1 y = row (fun k => x0 (ix2 (y 1) k)) (fun k j => x1 (ix3 0 k j)) (y 2) := by
  unfold out0_2 row
  obtain ⟨a, b, c, rfl⟩ : ∃ (a : Fin 1) (b : Fin 512) (c : Fin 2048), y = ix3 a b c := ⟨y 0, y 1, y 2, eq_ix3 y⟩
  obtain rfl : a = 0 := Subsingleton.elim _ _
  canon_tiles x h
  obtain ⟨e, r, j, rfl⟩ : ∃ (e : Fin 1) (r : Fin 512) (j : Fin 2048), x = ix3 e r j := ⟨x 0, x 1, x 2, eq_ix3 x⟩
  simp only [ix3_1, ix3_2] at h1 h2
  obtain rfl : b = r := Fin.ext h1
  obtain rfl : c = j := Fin.ext h2
  pointwise [k0_pay1]

/-- Products of equal rows with equal weights at the same column are equal. -/
theorem row_congr {x x' : Fin 1024 → EReal} {W W' : Fin 1024 → Fin 2048 → EReal} {j j' : Fin 2048} (hx : ∀ k, x k = x' k)
    (hW : ∀ k j, W k j = W' k j) (hj : j = j') : row x W j = row x' W' j' := by
  rw [funext hx, funext fun k => funext (hW k), hj]

variable (m : (ℓ : Loc nD τ sig) → Buf (Elt Ideal) ℓ)

/-- The call's result as one function of its argument arrays: the memory's rows lie one batch after another. -/
def G (mem : FVec Ideal S16x256x1024 .f32) (w : FVec Ideal S2x1024x2048 .f32) : FVec Ideal S2x4096x2048 .bf16 := fun i =>
  row (fun k => mem (ix3 ⟨(i 1 : ℕ) / 256, by have : (i 1 : ℕ) < 4096 := (i 1).isLt; omega⟩ ⟨(i 1 : ℕ) % 256, by omega⟩ k))
    (fun k j => w (ix3 (i 0) k j)) (i 2)

/-- Where each window's block sits, at every grid point. -/
theorem idx : ∀ t : Fin cfg0.N, win0_0.index t = ![t.val % 8, 0] ∧ win0_1.index t = ![t.val / 8, 0, 0]
    ∧ win0_2.index t = ![t.val / 8, t.val % 8, 0] :=
  (by decide +kernel : ∀ t : Fin grid0.N, _)

/-- The memory as the launch finds it: its batches' rows one after another. -/
theorem mem_at (c : Dev nD) (r : Fin 4096) (k : Fin 1024) : V m c main_v0 (ix2 r k)
    = m ((c : Thread nD τ).loc main_arg0) (ix3 ⟨(r : ℕ) / 256, by omega⟩ ⟨(r : ℕ) % 256, by omega⟩ k) := by
  entry_read
  refine shapeCast_apply _ _ _ _ ?_
  show (S16x256x1024.rowMajor _).val = (S4096x1024.rowMajor _).val
  rw [Shape.rowMajor_val_three, Shape.rowMajor_val_two]
  show (r.val / 256 * 256 + r.val % 256) * 1024 + k.val = r.val * 1024 + k.val
  omega

/-- The result array after the run is `G` of the argument arrays. -/
theorem final (c : Dev nD) : (dats m 0 c).arrAt 2 (cfgs 0).N
    = G (m ((c : Thread nD τ).loc main_arg0)) (m ((c : Thread nD τ).loc main_arg1)) := by
  refine (dats m 0 c).arrAt_eq_of_covers 2 _ (by decide +kernel) fun t _ y => ?_
  blk_simp
  rw [after0_2, out_at]
  unfold G
  refine row_congr ?_ ?_ ?_
  · intro k
    blk_simp [iblk, idx t]
    have hy : (y 1 : ℕ) < 512 := (y 1).isLt
    have e : (win0_0.blk t).view.emb (ix2 (y 1) k) = ix2 ⟨t.val % 8 * 512 + (y 1).val, by omega⟩ k := by
      blk_ext [idx t]
    rw [e]
    exact mem_at m c _ k
  · intro k j
    blk_ext [iblk, V, idx t]
  · refine Fin.ext ?_
    blk_simp [idx t]

end Cert.KvIdeal.Tile

end
-- ==== Proof.KvRefValue.lean ====
/- The reference of the key and value projection, read row by row. -/
module

public import proofs.«01_k».proof.Proof.Rows
public import proofs.«01_k».proof.Proof.Gen.KvRefIdeal.Read
public import Idealize.ShloMosaic.Lib.Pointwise
public import Idealize.ShloMosaic.Lib.Tactic.CleanTypes

@[expose] public section

set_option maxRecDepth 16384

noncomputable section

namespace Cert.KvRefIdeal.Rows

open Cert.KvRefIdeal Cert.KvRefIdeal.Gen Cert.KvRefIdeal.Read Cert.Rows Idealize.ShloMosaic Idealize.ShloMosaic.TcCoe Idealize.SL.Sem

variable (mem : FVec Ideal S16x256x1024 .f32) (w : FVec Ideal S2x1024x2048 .f32)

/-- The two layers' products, one after the other. -/
theorem stack_at (l : Fin 2) (b : Fin 16) (s : Fin 256) (j : Fin 2048) :
    val_main_v8 (F := Ideal) mem w (ix4 l b s j) = row (fun k => mem (ix3 b s k)) (fun k j => w (ix3 l k j)) j := by
  unfold row
  fin_cases l
  · pointwise [val_main_v8, val_main_v7, val_main_v6, val_main_v5, val_main_v4, val_main_v3, val_main_v2, val_main_v1, val_main_v0]
  · pointwise [val_main_v8, val_main_v7, val_main_v6, val_main_v5, val_main_v4, val_main_v3, val_main_v2, val_main_v1, val_main_v0]

/-- The reference's result: the product of a memory row with a weight column. -/
theorem result_at (l : Fin 2) (r : Fin 4096) (j : Fin 2048) :
    val_main_v10 (F := Ideal) mem w (ix3 l r j)
      = row (fun k => mem (ix3 ⟨(r : ℕ) / 256, by omega⟩ ⟨(r : ℕ) % 256, by omega⟩ k)) (fun k j => w (ix3 l k j)) j := by
  rw [val_main_v10_apply, val_main_v9_apply]
  have e : idx_main_v9 (ix3 l r j) = ix4 l ⟨(r : ℕ) / 256, by omega⟩ ⟨(r : ℕ) % 256, by omega⟩ j := by
    funext a
    apply Fin.ext
    match a with
    | ⟨0, _⟩ => show ((l.val * 4096 + r.val) * 2048 + j.val) / 8388608 = l.val; omega
    | ⟨1, _⟩ => show ((l.val * 4096 + r.val) * 2048 + j.val) / 524288 % 16 = r.val / 256; omega
    | ⟨2, _⟩ => show ((l.val * 4096 + r.val) * 2048 + j.val) / 2048 % 256 = r.val % 256; omega
    | ⟨3, _⟩ => show ((l.val * 4096 + r.val) * 2048 + j.val) % 2048 = j.val; omega
  rw [e, ← stack_at]
  rfl

end Cert.KvRefIdeal.Rows

end
-- ==== Proof.ShortRows.lean ====
/- The short gated convolution of one sequence, entry by entry. -/
module

public import proofs.«01_k».proof.Proof.Rows

@[expose] public section

noncomputable section

namespace Cert.Rows

open Idealize.ShloMosaic

variable (x : Fin 2048 → Fin 1024 → EReal) (g : Fin 1024 → EReal) (w : Fin 1024 → Fin 5120 → EReal)

/-- Row `s` of the sequence, normalised, times column `j` of the input weights. -/
def shortU (s : Fin 2048) (j : Fin 5120) : EReal := row (rms (x s) g) w j

/-- The two gates' product two rows before row `q`, or zero before the sequence starts. -/
def shortP (q : Fin 2050) (j : Fin 1024) : EReal :=
  if h : (q : ℕ) < 2 then 0
  else shortU x g w ⟨q - 2, by omega⟩ ⟨3072 + j, by omega⟩ * shortU x g w ⟨q - 2, by omega⟩ ⟨4096 + j, by omega⟩

/-- One entry of the result: the outer gate times three taps over the products. -/
def short (f : Fin 3 → Fin 1024 → EReal) (s : Fin 2048) (j : Fin 1024) : EReal :=
  shortU x g w s ⟨2048 + j, by omega⟩
    * (0 + f 0 j * shortP x g w ⟨s, by omega⟩ j + f 1 j * shortP x g w ⟨1 + s, by omega⟩ j
      + f 2 j * shortP x g w ⟨2 + s, by omega⟩ j)

end Cert.Rows

end
-- ==== Proof.ShortTile.lean ====
/- The short gated convolution of the mixer, one block of 512 rows: what the kernel's body keeps of a block and what it
   stores, read entry by entry. -/
module

public import proofs.«01_k».proof.Proof.Rows
public import proofs.«01_k».proof.Proof.Gen.ShortConvIdeal.Frame.RunA
public import Idealize.ShloMosaic.Lib.Pointwise
public import Idealize.ShloMosaic.Lib.Pipeline.ValueKit

@[expose] public section

set_option maxRecDepth 16384

noncomputable section

namespace Cert.ShortConvIdeal.Tile

open Cert.ShortConvIdeal Cert.ShortConvIdeal.Gen Cert.Rows Idealize.ShloMosaic Idealize.ShloMosaic.TcCoe Idealize.SL.Sem

variable (x0 : FVec Ideal S1x512x1024 .f32) (x1 : FVec Ideal S6x1024 .f32) (x2 : FVec Ideal S1024x5120 .bf16)

/-- A row of the block, normalised, times a column of the input weights. -/
def uAt (r : Fin 512) (j : Fin 5120) : EReal :=
  row (rms (fun d => x0 (ix3 0 r d)) (fun d => x1 (ix2 0 d))) (fun k j => x2 (ix2 k j)) j

/-- The two gates' product in row `r`, column `l` of the lanes' group `s`. -/
def prodAt (s : Fin 8) (r : Fin 512) (l : Fin 128) : EReal :=
  uAt x0 x1 x2 r ⟨1280 * (s / 2) + 512 + 256 * (s % 2) + l, by omega⟩
    * uAt x0 x1 x2 r ⟨1280 * (s / 2) + 640 + 256 * (s % 2) + l, by omega⟩

/-- The products with eight rows of an earlier block, `halo`, before them. -/
def buf (halo : Fin 8 → Fin 8 → Fin 128 → EReal) (s : Fin 8) (q : Fin 520) (l : Fin 128) : EReal :=
  if h : (q : ℕ) < 8 then halo s ⟨q, h⟩ l else prodAt x0 x1 x2 s ⟨q - 8, by omega⟩ l

/-- The pattern of zero reads as zero. -/
theorem ofBits_zero : Ideal.ofBits .f32 0x00000000#32 = 0 := by
  simp [Ideal.ofBits, Ideal.ieee]

variable (c : Dev nD) (arg2 : Memref sig .tc .vmem S1x512x1024 .f32) (harg2 : arg2.IsWhole) (arg3 : Memref sig .tc .vmem S6x1024 .f32) (harg3 : arg3.IsWhole) (arg4 : Memref sig .tc .vmem S1024x5120 .bf16) (harg4 : arg4.IsWhole)
  (arg20 : Memref sig .tc .vmem S512x1024 .bf16)

/-- The block's normalised rows, as the body reads them back. -/
theorem h_A (r : Fin 512) (k : Fin 1024) : kernelRun0_A.sl.v22 (F := Ideal) c arg2 harg2 arg3 harg3 arg20 x0 x1 (ix2 r k)
    = rms (fun d => x0 (ix3 0 r d)) (fun d => x1 (ix2 0 d)) k := by
  simp (disch := decide) only [kernelRun0_A.sl.v22, kernelRun0_A.sl.HS9_1, View.readCov_unit_lit', View.readAt_eq_ld, Memref.IsWhole.read_unread]
  pointwise [k0_pay11, rms]

/-- One lanes' group of products: the tile the body keeps, given its two factors. -/
theorem prod_at (s : Fin 8) (o : ℕ) (ho : o = 1280 * ((s : ℕ) / 2) + 512 + 256 * ((s : ℕ) % 2))
    (inb : ∀ a, (![0, o] : Fin 2 → ℕ) a + S1024x256.size a ≤ S1024x5120.size a)
    (h : FVec Ideal S512x1024 .bf16) (hh : ∀ r k, h (ix2 r k) = rms (fun d => x0 (ix3 0 r d)) (fun d => x1 (ix2 0 d)) k)
    (r : Fin 512) (l : Fin 128) :
    k0_pay106 (F := Ideal) h (View.ld x2 (Rect.unit (s := S1024x5120) ![0, o] S1024x256.size inb)) (ix3 0 r l) = prodAt x0 x1 x2 s r l := by
  unfold prodAt uAt row
  subst ho
  pointwise [k0_pay106, hh]
  congr 1 <;> refine Finset.sum_congr rfl fun k _ => ?_ <;> congr 2 <;> blk_ext

/-- A group's buffer filled by three stores: the two tiles of products, and the rows before them. -/
theorem buf_at (g : Fin 4) (o0 o1 : ℕ) (ho0 : o0 = 1280 * (g : ℕ) + 512) (ho1 : o1 = 1280 * (g : ℕ) + 768)
    (inb0 : ∀ a, (![0, o0] : Fin 2 → ℕ) a + S1024x256.size a ≤ S1024x5120.size a)
    (inb1 : ∀ a, (![0, o1] : Fin 2 → ℕ) a + S1024x256.size a ≤ S1024x5120.size a)
    (h : FVec Ideal S512x1024 .bf16) (hh : ∀ r k, h (ix2 r k) = rms (fun d => x0 (ix3 0 r d)) (fun d => x1 (ix2 0 d)) k)
    (z : FVec Ideal S2x8x128 .f32) (hz : ∀ x, z x = 0) (e : Fin 2) (q : Fin 520) (l : Fin 128) :
    View.canon ([⟨Rect.unit ![1, 8, 0] S1x512x128.size inb_S2x520x128_S1x512x128_1_8_0,
        k0_pay106 (F := Ideal) h (View.ld x2 (Rect.unit (s := S1024x5120) ![0, o1] S1024x256.size inb1))⟩,
      ⟨Rect.unit ![0, 8, 0] S1x512x128.size inb_S2x520x128_S1x512x128_0_8_0,
        k0_pay106 (F := Ideal) h (View.ld x2 (Rect.unit (s := S1024x5120) ![0, o0] S1024x256.size inb0))⟩,
      ⟨Rect.unit ![0, 0, 0] S2x8x128.size inb_S2x520x128_S2x8x128_0_0_0, z⟩] : List (View.Piece (Elt Ideal) S2x520x128 .f32)) (ix3 e q l)
      = buf x0 x1 x2 (fun _ _ _ => 0) ⟨2 * g + e, by omega⟩ q l := by
  canon_tiles x h using (View.cover_of_tiledBy _ ![1, 8, 128] (by sl_kernel_rfl) _)
  · obtain ⟨a, r, j, rfl⟩ : ∃ (a : Fin 1) (r : Fin 512) (j : Fin 128), x = ix3 a r j := ⟨x 0, x 1, x 2, eq_ix3 x⟩
    simp only [ix3_1, ix3_2, ix3_0] at h0 h1 h2 ⊢
    obtain rfl : a = 0 := Subsingleton.elim _ _
    obtain rfl : e = 1 := Fin.ext h0
    obtain rfl : q = ⟨8 + r, by clear h1; omega⟩ := Fin.ext h1
    obtain rfl : l = j := Fin.ext h2
    unfold buf
    rw [dif_neg (by simp), prod_at x0 x1 x2 ⟨2 * g + 1, by omega⟩ o1 (by simp; omega) inb1 h hh]
    congr 1
    exact Fin.ext (by simp)
  · obtain ⟨a, r, j, rfl⟩ : ∃ (a : Fin 1) (r : Fin 512) (j : Fin 128), x = ix3 a r j := ⟨x 0, x 1, x 2, eq_ix3 x⟩
    simp only [ix3_1, ix3_2, ix3_0] at h0 h1 h2 ⊢
    obtain rfl : a = 0 := Subsingleton.elim _ _
    obtain rfl : e = 0 := Fin.ext h0
    obtain rfl : q = ⟨8 + r, by clear h1; omega⟩ := Fin.ext h1
    obtain rfl : l = j := Fin.ext h2
    unfold buf
    rw [dif_neg (by simp), prod_at x0 x1 x2 ⟨2 * g + 0, by omega⟩ o0 (by simp; omega) inb0 h hh]
    congr 1
    exact Fin.ext (by simp)
  · obtain ⟨a, r, j, rfl⟩ : ∃ (a : Fin 2) (r : Fin 8) (j : Fin 128), x = ix3 a r j := ⟨x 0, x 1, x 2, eq_ix3 x⟩
    simp only [ix3_1, ix3_2, ix3_0] at h0 h1 h2 ⊢
    clear x0_lt x1_lt x2_lt
    unfold buf
    have hr := r.isLt
    rw [dif_pos (by omega), hz]

/-- The stores of zeros. -/
theorem zero_at (x : S2x8x128.Idx) : k0_pay6 (F := Ideal) x = 0 := by
  pointwise [k0_pay6, ofBits_zero]

/-- The groups' buffers at a block that starts a sequence. -/
theorem buf_A0 (e : Fin 2) (q : Fin 520) (l : Fin 128) :
    View.canon (kernelRun0_A.sl.HS4_3 (F := Ideal) c arg2 harg2 arg3 harg3 arg4 harg4 arg20 x0 x1 x2) (ix3 e q l)
      = buf x0 x1 x2 (fun _ _ _ => 0) ⟨2 * 0 + e, by omega⟩ q l := by
  simp only [kernelRun0_A.sl.HS4_3, View.readAt_eq_ld, Memref.IsWhole.read_unread]
  exact buf_at x0 x1 x2 0 512 768 rfl rfl _ _ _ (h_A x0 x1 c arg2 harg2 arg3 harg3 arg20) _ zero_at e q l

/-- The second group's. -/
theorem buf_A1 (e : Fin 2) (q : Fin 520) (l : Fin 128) :
    View.canon (kernelRun0_A.sl.HS5_3 (F := Ideal) c arg2 harg2 arg3 harg3 arg4 harg4 arg20 x0 x1 x2) (ix3 e q l)
      = buf x0 x1 x2 (fun _ _ _ => 0) ⟨2 * 1 + e, by omega⟩ q l := by
  simp only [kernelRun0_A.sl.HS5_3, kernelRun0_A.sl.r_285, View.readAt_eq_ld, Memref.IsWhole.read_unread]
  exact buf_at x0 x1 x2 1 1792 2048 rfl rfl _ _ _ (h_A x0 x1 c arg2 harg2 arg3 harg3 arg20) _ zero_at e q l

/-- The third group's. -/
theorem buf_A2 (e : Fin 2) (q : Fin 520) (l : Fin 128) :
    View.canon (kernelRun0_A.sl.HS6_3 (F := Ideal) c arg2 harg2 arg3 harg3 arg4 harg4 arg20 x0 x1 x2) (ix3 e q l)
      = buf x0 x1 x2 (fun _ _ _ => 0) ⟨2 * 2 + e, by omega⟩ q l := by
  simp only [kernelRun0_A.sl.HS6_3, kernelRun0_A.sl.r_461, View.readAt_eq_ld, Memref.IsWhole.read_unread]
  exact buf_at x0 x1 x2 2 3072 3328 rfl rfl _ _ _ (h_A x0 x1 c arg2 harg2 arg3 harg3 arg20) _ zero_at e q l

/-- The fourth group's. -/
theorem buf_A3 (e : Fin 2) (q : Fin 520) (l : Fin 128) :
    View.canon (kernelRun0_A.sl.HS7_3 (F := Ideal) c arg2 harg2 arg3 harg3 arg4 harg4 arg20 x0 x1 x2) (ix3 e q l)
      = buf x0 x1 x2 (fun _ _ _ => 0) ⟨2 * 3 + e, by omega⟩ q l := by
  simp only [kernelRun0_A.sl.HS7_3, kernelRun0_A.sl.r_635, View.readAt_eq_ld, Memref.IsWhole.read_unread]
  exact buf_at x0 x1 x2 3 4352 4608 rfl rfl _ _ _ (h_A x0 x1 c arg2 harg2 arg3 harg3 arg20) _ zero_at e q l

/-- What the body stores in row `r`, column `l` of group `s`: the gate times the convolution over three rows, the last
    of them the row itself. -/
def shortAt (x7 : FVec Ideal S3x1024 .f32) (halo : Fin 8 → Fin 8 → Fin 128 → EReal) (s : Fin 8) (r : Fin 512)
    (l : Fin 128) : EReal :=
  uAt x0 x1 x2 r ⟨1280 * (s / 2) + 1024 + 128 * (s % 2) + l, by omega⟩
    * (0 + x7 (ix2 0 ⟨128 * s + l, by omega⟩) * buf x0 x1 x2 halo s ⟨6 + r, by omega⟩ l
      + x7 (ix2 1 ⟨128 * s + l, by omega⟩) * buf x0 x1 x2 halo s ⟨7 + r, by omega⟩ l
      + x7 (ix2 2 ⟨128 * s + l, by omega⟩) * buf x0 x1 x2 halo s ⟨8 + r, by omega⟩ l)

/-- The stored tile of an even group. -/
theorem short_lo (x7 : FVec Ideal S3x1024 .f32) (halo : Fin 8 → Fin 8 → Fin 128 → EReal) (s : Fin 8) (hs : (s : ℕ) % 2 = 0) (o p : ℕ)
    (ho : o = 1280 * ((s : ℕ) / 2) + 1024) (hp : p = 128 * (s : ℕ))
    (inb : ∀ a, (![0, o] : Fin 2 → ℕ) a + S1024x256.size a ≤ S1024x5120.size a)
    (in0 : ∀ a, (![0, p] : Fin 2 → ℕ) a + S1x128.size a ≤ S3x1024.size a)
    (in1 : ∀ a, (![1, p] : Fin 2 → ℕ) a + S1x128.size a ≤ S3x1024.size a)
    (in2 : ∀ a, (![2, p] : Fin 2 → ℕ) a + S1x128.size a ≤ S3x1024.size a)
    (h : FVec Ideal S512x1024 .bf16) (hh : ∀ r k, h (ix2 r k) = rms (fun d => x0 (ix3 0 r d)) (fun d => x1 (ix2 0 d)) k)
    (p0 p1 p2 : FVec Ideal S1x512x128 .f32)
    (h0 : ∀ r l, p0 (ix3 0 r l) = buf x0 x1 x2 halo s ⟨6 + r, by omega⟩ l)
    (h1 : ∀ r l, p1 (ix3 0 r l) = buf x0 x1 x2 halo s ⟨7 + r, by omega⟩ l)
    (h2 : ∀ r l, p2 (ix3 0 r l) = buf x0 x1 x2 halo s ⟨8 + r, by omega⟩ l)
    (r : Fin 512) (l : Fin 128) :
    k0_pay262 (F := Ideal) h (View.ld x2 (Rect.unit (s := S1024x5120) ![0, o] S1024x256.size inb))
      (View.ld x7 (Rect.unit (s := S3x1024) ![0, p] S1x128.size in0)) p0
      (View.ld x7 (Rect.unit (s := S3x1024) ![1, p] S1x128.size in1)) p1
      (View.ld x7 (Rect.unit (s := S3x1024) ![2, p] S1x128.size in2)) p2 (ix3 0 r l)
      = shortAt x0 x1 x2 x7 halo s r l := by
  unfold shortAt uAt row
  subst ho hp
  pointwise [k0_pay262, k0_pay261, hh, h0, h1, h2, ofBits_zero]
  simp only [hs, Nat.mul_zero, Nat.add_zero]

/-- The stored tile of an odd group. -/
theorem short_hi (x7 : FVec Ideal S3x1024 .f32) (halo : Fin 8 → Fin 8 → Fin 128 → EReal) (s : Fin 8) (hs : (s : ℕ) % 2 = 1) (o p : ℕ)
    (ho : o = 1280 * ((s : ℕ) / 2) + 1024) (hp : p = 128 * (s : ℕ))
    (inb : ∀ a, (![0, o] : Fin 2 → ℕ) a + S1024x256.size a ≤ S1024x5120.size a)
    (in0 : ∀ a, (![0, p] : Fin 2 → ℕ) a + S1x128.size a ≤ S3x1024.size a)
    (in1 : ∀ a, (![1, p] : Fin 2 → ℕ) a + S1x128.size a ≤ S3x1024.size a)
    (in2 : ∀ a, (![2, p] : Fin 2 → ℕ) a + S1x128.size a ≤ S3x1024.size a)
    (h : FVec Ideal S512x1024 .bf16) (hh : ∀ r k, h (ix2 r k) = rms (fun d => x0 (ix3 0 r d)) (fun d => x1 (ix2 0 d)) k)
    (p0 p1 p2 : FVec Ideal S1x512x128 .f32)
    (h0 : ∀ r l, p0 (ix3 0 r l) = buf x0 x1 x2 halo s ⟨6 + r, by omega⟩ l)
    (h1 : ∀ r l, p1 (ix3 0 r l) = buf x0 x1 x2 halo s ⟨7 + r, by omega⟩ l)
    (h2 : ∀ r l, p2 (ix3 0 r l) = buf x0 x1 x2 halo s ⟨8 + r, by omega⟩ l)
    (r : Fin 512) (l : Fin 128) :
    k0_pay421 (F := Ideal) (k0_pay418 h (View.ld x2 (Rect.unit (s := S1024x5120) ![0, o] S1024x256.size inb)))
      (View.ld x7 (Rect.unit (s := S3x1024) ![0, p] S1x128.size in0)) p0
      (View.ld x7 (Rect.unit (s := S3x1024) ![1, p] S1x128.size in1)) p1
      (View.ld x7 (Rect.unit (s := S3x1024) ![2, p] S1x128.size in2)) p2 (ix3 0 r l)
      = shortAt x0 x1 x2 x7 halo s r l := by
  unfold shortAt uAt row
  subst ho hp
  pointwise [k0_pay421, k0_pay418, hh, h0, h1, h2, ofBits_zero]
  simp only [hs, Nat.mul_one, Nat.add_assoc]

omit x0 x1 x2 in
/-- The first group's tile is computed as the others are. -/
theorem form_0 (h : FVec Ideal S512x1024 .bf16) (w : FVec Ideal S1024x256 .bf16) (w0 : FVec Ideal S1x128 .f32) (p0 : FVec Ideal S1x512x128 .f32)
    (w1 : FVec Ideal S1x128 .f32) (p1 : FVec Ideal S1x512x128 .f32) (w2 : FVec Ideal S1x128 .f32) (p2 : FVec Ideal S1x512x128 .f32) :
    k0_pay109 (F := Ideal) h (k0_pay107 w) (constant S512x256 FTy.f32 0#32) w0 p0 w1 p1 w2 p2
      = k0_pay262 (F := Ideal) h w w0 p0 w1 p1 w2 p2 := rfl

omit x0 x1 x2 in
/-- The second group's tile is computed as the others are. -/
theorem form_1 (h : FVec Ideal S512x1024 .bf16) (w : FVec Ideal S1024x256 .bf16) (w0 : FVec Ideal S1x128 .f32) (p0 : FVec Ideal S1x512x128 .f32)
    (w1 : FVec Ideal S1x128 .f32) (p1 : FVec Ideal S1x512x128 .f32) (w2 : FVec Ideal S1x128 .f32) (p2 : FVec Ideal S1x512x128 .f32) :
    k0_pay112 (F := Ideal) (k0_pay108 h (k0_pay107 w) (constant S512x256 FTy.f32 0#32)) (k0_pay110 w0 p0) k0_pay111 w1 p1 w2 p2
      = k0_pay421 (F := Ideal) (k0_pay418 h w) w0 p0 w1 p1 w2 p2 := rfl

omit x0 x1 x2 in
/-- The fourth group's tile is computed as the others are. -/
theorem form_3 (h : FVec Ideal S512x1024 .bf16) (w : FVec Ideal S1024x256 .bf16) (w0 : FVec Ideal S1x128 .f32) (p0 : FVec Ideal S1x512x128 .f32)
    (w1 : FVec Ideal S1x128 .f32) (p1 : FVec Ideal S1x512x128 .f32) (w2 : FVec Ideal S1x128 .f32) (p2 : FVec Ideal S1x512x128 .f32) :
    k0_pay264 (F := Ideal) (k0_pay261 h w) k0_pay263 w0 p0 w1 p1 w2 p2
      = k0_pay421 (F := Ideal) (k0_pay418 h w) w0 p0 w1 p1 w2 p2 := rfl

omit x0 x1 x2 in
/-- The fifth group's tile is computed as the others are. -/
theorem form_4 (h : FVec Ideal S512x1024 .bf16) (w : FVec Ideal S1024x256 .bf16) (w0 : FVec Ideal S1x128 .f32) (p0 : FVec Ideal S1x512x128 .f32)
    (w1 : FVec Ideal S1x128 .f32) (p1 : FVec Ideal S1x512x128 .f32) (w2 : FVec Ideal S1x128 .f32) (p2 : FVec Ideal S1x512x128 .f32) :
    k0_pay420 (F := Ideal) (k0_pay419 h w w0 p0 w1 p1 w2 p2)
      = k0_pay262 (F := Ideal) h w w0 p0 w1 p1 w2 p2 := rfl

omit x0 x1 x2 in
/-- The seventh group's tile is computed as the others are. -/
theorem form_6 (h : FVec Ideal S512x1024 .bf16) (w : FVec Ideal S1024x256 .bf16) (w0 : FVec Ideal S1x128 .f32) (p0 : FVec Ideal S1x512x128 .f32)
    (w1 : FVec Ideal S1x128 .f32) (p1 : FVec Ideal S1x512x128 .f32) (w2 : FVec Ideal S1x128 .f32) (p2 : FVec Ideal S1x512x128 .f32) :
    k0_pay572 (F := Ideal) (k0_pay570 h w) (k0_pay571 w0 p0 w1 p1) w2 p2
      = k0_pay262 (F := Ideal) h w w0 p0 w1 p1 w2 p2 := rfl

omit x0 x1 x2 in
/-- The last group's tile is computed as the others are. -/
theorem form_7 (h : FVec Ideal S512x1024 .bf16) (w : FVec Ideal S1024x256 .bf16) (w0 : FVec Ideal S1x128 .f32) (p0 : FVec Ideal S1x512x128 .f32)
    (w1 : FVec Ideal S1x128 .f32) (p1 : FVec Ideal S1x512x128 .f32) (w2 : FVec Ideal S1x128 .f32) (p2 : FVec Ideal S1x512x128 .f32) :
    k0_pay574 (F := Ideal) (k0_pay573 (k0_pay570 h w) w0 p0 w1 p1 w2 p2)
      = k0_pay421 (F := Ideal) (k0_pay418 h w) w0 p0 w1 p1 w2 p2 := rfl

/-- A read of 512 rows of a group's buffer, from row `o` on. -/
theorem load_at (halo : Fin 8 → Fin 8 → Fin 128 → EReal) (R : S2x520x128.Idx → EReal) (g : Fin 4) (s : Fin 8) (e o : ℕ)
    (hB : ∀ (e : Fin 2) (q : Fin 520) l, o ≤ q → R (ix3 e q l) = buf x0 x1 x2 halo ⟨2 * g + e, by omega⟩ q l)
    (hs : (s : ℕ) = 2 * g + e) (inb : ∀ a, (![e, o, 0] : Fin 3 → ℕ) a + S1x512x128.size a ≤ S2x520x128.size a)
    (r : Fin 512) (l : Fin 128) :
    R ((Rect.unit (s := S2x520x128) ![e, o, 0] S1x512x128.size inb).toLoadRect.idx (ix3 0 r l))
      = buf x0 x1 x2 halo s ⟨o + r, by have := inb 1; simp at this; omega⟩ l := by
  have he : e < 2 := by have := inb 0; simp at this; omega
  rw [show s = ⟨2 * g + e, by omega⟩ from Fin.ext hs]
  refine Eq.trans ?_ (hB ⟨e, he⟩ _ l (by simp))
  congr 1
  funext a
  refine Fin.ext ?_
  fin_cases a <;> simp [LoadRect.idx]

variable (i : grid0.Coords) (arg5 : Memref sig .tc .vmem S31x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S3x1024 .f32) (harg9 : arg9.IsWhole) (arg10 : Memref sig .tc .vmem S1x512x2048 .bf16) (harg10 : arg10.IsWhole) (arg11 : Memref sig .tc .vmem S2x544x128 .f32) (harg11 : arg11.IsWhole) (arg12 : Memref sig .tc .vmem S2x544x128 .f32) (harg12 : arg12.IsWhole) (arg13 : Memref sig .tc .vmem S2x544x128 .f32) (harg13 : arg13.IsWhole) (arg14 : Memref sig .tc .vmem S2x544x128 .f32) (harg14 : arg14.IsWhole) (arg15 : Memref sig .tc .vmem S2x520x128 .f32) (harg15 : arg15.IsWhole) (arg16 : Memref sig .tc .vmem S2x520x128 .f32) (harg16 : arg16.IsWhole) (arg17 : Memref sig .tc .vmem S2x520x128 .f32) (harg17 : arg17.IsWhole) (arg18 : Memref sig .tc .vmem S2x520x128 .f32) (harg18 : arg18.IsWhole) (arg19 : Memref sig .tc .vmem S512x1024 .f32) (harg19 : arg19.IsWhole) (harg20 : arg20.IsWhole) (hc0 : cond0_0 i)
  (x3 : FVec Ideal S31x1024 .f32) (x4 x5 x6 : FVec Ideal S1x1024 .f32) (x7 : FVec Ideal S3x1024 .f32)

set_option maxHeartbeats 2000000 in
/-- What the body leaves of the short convolution's columns at a block that starts a sequence. -/
theorem out_A (r : Fin 512) (j : Fin 2048) (s : Fin 8) (l : Fin 128) (hj : (j : ℕ) = 1024 + 128 * (s : ℕ) + l) :
    View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7).1 (ix3 0 r j)
      = shortAt x0 x1 x2 x7 (fun _ _ _ => 0) s r l := by
  have hA := h_A x0 x1 c arg2 harg2 arg3 harg3 arg20
  unfold kernelRun0_A
  dsimp only
  canon_tiles x h using (View.cover_of_tiledBy _ ![1, 64, 128] (by sl_kernel_rfl) _)
  iterate 8 (· exfalso; simp only [ix3_2] at h2; clear h0 h1; omega)
  all_goals
    simp only [kernelRun0_A.sl.r_639, kernelRun0_A.sl.r_636, kernelRun0_A.sl.v11574, kernelRun0_A.sl.v11581, kernelRun0_A.sl.v11587, kernelRun0_A.sl.r_637, kernelRun0_A.sl.v11548, kernelRun0_A.sl.v11555, kernelRun0_A.sl.r_638, kernelRun0_A.sl.v11561, kernelRun0_A.sl.r_462, kernelRun0_A.sl.v8426, kernelRun0_A.sl.v8433, kernelRun0_A.sl.v8439, kernelRun0_A.sl.r_463, kernelRun0_A.sl.v8400, kernelRun0_A.sl.v8407, kernelRun0_A.sl.v8413, kernelRun0_A.sl.r_286, kernelRun0_A.sl.v5244, kernelRun0_A.sl.v5251, kernelRun0_A.sl.v5257, kernelRun0_A.sl.v5218, kernelRun0_A.sl.v5225, kernelRun0_A.sl.v5231, kernelRun0_A.sl.r_110, kernelRun0_A.sl.r_109, kernelRun0_A.sl.cst_1402, kernelRun0_A.sl.r_111, kernelRun0_A.sl.v2062, kernelRun0_A.sl.v2069, kernelRun0_A.sl.v2075, kernelRun0_A.sl.v2036, kernelRun0_A.sl.v2043, kernelRun0_A.sl.v2049,
      View.readCov_eq_canon', View.readAt_eq_ld, Memref.IsWhole.read_unread,
      form_0, form_1, form_3, form_4, form_6, form_7]
  · obtain ⟨a, q, k, rfl⟩ : ∃ (a : Fin 1) (q : Fin 512) (k : Fin 128), x = ix3 a q k := ⟨x 0, x 1, x 2, eq_ix3 x⟩
    simp only [ix3_1, ix3_2, ix3_0] at h0 h1 h2
    have hk : (k : ℕ) < 128 := x2_lt
    clear x0_lt x1_lt x2_lt h0
    obtain rfl : a = 0 := Subsingleton.elim _ _
    obtain rfl : r = q := Fin.ext h1
    have hs : s = 7 := Fin.ext (by clear h1; show (s : ℕ) = 7; omega)
    have hl : l = k := Fin.ext (by clear h1; subst hs; have : (j : ℕ) = 1024 + 128 * 7 + l := hj; omega)
    subst hs hl
    have hB := buf_A3 x0 x1 x2 c arg2 harg2 arg3 harg3 arg4 harg4 arg20
    generalize kernelRun0_A.sl.v22 (F := Ideal) c arg2 harg2 arg3 harg3 arg20 x0 x1 = h at hA ⊢
    generalize kernelRun0_A.sl.HS7_3 (F := Ideal) c arg2 harg2 arg3 harg3 arg4 harg4 arg20 x0 x1 x2 = H at hB ⊢
    exact short_hi x0 x1 x2 x7 _ 7 rfl 4864 896 rfl rfl _ _ _ _ _ hA _ _ _
      (fun r l => load_at x0 x1 x2 _ (View.canon H) 3 7 1 6 (fun e q l _ => hB e q l) rfl _ r l)
      (fun r l => load_at x0 x1 x2 _ (View.canon H) 3 7 1 7 (fun e q l _ => hB e q l) rfl _ r l)
      (fun r l => load_at x0 x1 x2 _ (View.canon H) 3 7 1 8 (fun e q l _ => hB e q l) rfl _ r l) r l
  · obtain ⟨a, q, k, rfl⟩ : ∃ (a : Fin 1) (q : Fin 512) (k : Fin 128), x = ix3 a q k := ⟨x 0, x 1, x 2, eq_ix3 x⟩
    simp only [ix3_1, ix3_2, ix3_0] at h0 h1 h2
    have hk : (k : ℕ) < 128 := x2_lt
    clear x0_lt x1_lt x2_lt h0
    obtain rfl : a = 0 := Subsingleton.elim _ _
    obtain rfl : r = q := Fin.ext h1
    have hs : s = 6 := Fin.ext (by clear h1; show (s : ℕ) = 6; omega)
    have hl : l = k := Fin.ext (by clear h1; subst hs; have : (j : ℕ) = 1024 + 128 * 6 + l := hj; omega)
    subst hs hl
    have hB := buf_A3 x0 x1 x2 c arg2 harg2 arg3 harg3 arg4 harg4 arg20
    generalize kernelRun0_A.sl.v22 (F := Ideal) c arg2 harg2 arg3 harg3 arg20 x0 x1 = h at hA ⊢
    generalize kernelRun0_A.sl.HS7_3 (F := Ideal) c arg2 harg2 arg3 harg3 arg4 harg4 arg20 x0 x1 x2 = H at hB ⊢
    exact short_lo x0 x1 x2 x7 _ 6 rfl 4864 768 rfl rfl _ _ _ _ _ hA _ _ _
      (fun r l => load_at x0 x1 x2 _ (View.canon H) 3 6 0 6 (fun e q l _ => hB e q l) rfl _ r l)
      (fun r l => load_at x0 x1 x2 _ (View.canon H) 3 6 0 7 (fun e q l _ => hB e q l) rfl _ r l)
      (fun r l => load_at x0 x1 x2 _ (View.canon H) 3 6 0 8 (fun e q l _ => hB e q l) rfl _ r l) r l
  · obtain ⟨a, q, k, rfl⟩ : ∃ (a : Fin 1) (q : Fin 512) (k : Fin 128), x = ix3 a q k := ⟨x 0, x 1, x 2, eq_ix3 x⟩
    simp only [ix3_1, ix3_2, ix3_0] at h0 h1 h2
    have hk : (k : ℕ) < 128 := x2_lt
    clear x0_lt x1_lt x2_lt h0
    obtain rfl : a = 0 := Subsingleton.elim _ _
    obtain rfl : r = q := Fin.ext h1
    have hs : s = 5 := Fin.ext (by clear h1; show (s : ℕ) = 5; omega)
    have hl : l = k := Fin.ext (by clear h1; subst hs; have : (j : ℕ) = 1024 + 128 * 5 + l := hj; omega)
    subst hs hl
    have hB := buf_A2 x0 x1 x2 c arg2 harg2 arg3 harg3 arg4 harg4 arg20
    generalize kernelRun0_A.sl.v22 (F := Ideal) c arg2 harg2 arg3 harg3 arg20 x0 x1 = h at hA ⊢
    generalize kernelRun0_A.sl.HS6_3 (F := Ideal) c arg2 harg2 arg3 harg3 arg4 harg4 arg20 x0 x1 x2 = H at hB ⊢
    exact short_hi x0 x1 x2 x7 _ 5 rfl 3584 640 rfl rfl _ _ _ _ _ hA _ _ _
      (fun r l => load_at x0 x1 x2 _ (View.canon H) 2 5 1 6 (fun e q l _ => hB e q l) rfl _ r l)
      (fun r l => load_at x0 x1 x2 _ (View.canon H) 2 5 1 7 (fun e q l _ => hB e q l) rfl _ r l)
      (fun r l => load_at x0 x1 x2 _ (View.canon H) 2 5 1 8 (fun e q l _ => hB e q l) rfl _ r l) r l
  · obtain ⟨a, q, k, rfl⟩ : ∃ (a : Fin 1) (q : Fin 512) (k : Fin 128), x = ix3 a q k := ⟨x 0, x 1, x 2, eq_ix3 x⟩
    simp only [ix3_1, ix3_2, ix3_0] at h0 h1 h2
    have hk : (k : ℕ) < 128 := x2_lt
    clear x0_lt x1_lt x2_lt h0
    obtain rfl : a = 0 := Subsingleton.elim _ _
    obtain rfl : r = q := Fin.ext h1
    have hs : s = 4 := Fin.ext (by clear h1; show (s : ℕ) = 4; omega)
    have hl : l = k := Fin.ext (by clear h1; subst hs; have : (j : ℕ) = 1024 + 128 * 4 + l := hj; omega)
    subst hs hl
    have hB := buf_A2 x0 x1 x2 c arg2 harg2 arg3 harg3 arg4 harg4 arg20
    generalize kernelRun0_A.sl.v22 (F := Ideal) c arg2 harg2 arg3 harg3 arg20 x0 x1 = h at hA ⊢
    generalize kernelRun0_A.sl.HS6_3 (F := Ideal) c arg2 harg2 arg3 harg3 arg4 harg4 arg20 x0 x1 x2 = H at hB ⊢
    exact short_lo x0 x1 x2 x7 _ 4 rfl 3584 512 rfl rfl _ _ _ _ _ hA _ _ _
      (fun r l => load_at x0 x1 x2 _ (View.canon H) 2 4 0 6 (fun e q l _ => hB e q l) rfl _ r l)
      (fun r l => load_at x0 x1 x2 _ (View.canon H) 2 4 0 7 (fun e q l _ => hB e q l) rfl _ r l)
      (fun r l => load_at x0 x1 x2 _ (View.canon H) 2 4 0 8 (fun e q l _ => hB e q l) rfl _ r l) r l
  · obtain ⟨a, q, k, rfl⟩ : ∃ (a : Fin 1) (q : Fin 512) (k : Fin 128), x = ix3 a q k := ⟨x 0, x 1, x 2, eq_ix3 x⟩
    simp only [ix3_1, ix3_2, ix3_0] at h0 h1 h2
    have hk : (k : ℕ) < 128 := x2_lt
    clear x0_lt x1_lt x2_lt h0
    obtain rfl : a = 0 := Subsingleton.elim _ _
    obtain rfl : r = q := Fin.ext h1
    have hs : s = 3 := Fin.ext (by clear h1; show (s : ℕ) = 3; omega)
    have hl : l = k := Fin.ext (by clear h1; subst hs; have : (j : ℕ) = 1024 + 128 * 3 + l := hj; omega)
    subst hs hl
    have hB := buf_A1 x0 x1 x2 c arg2 harg2 arg3 harg3 arg4 harg4 arg20
    generalize kernelRun0_A.sl.v22 (F := Ideal) c arg2 harg2 arg3 harg3 arg20 x0 x1 = h at hA ⊢
    generalize kernelRun0_A.sl.HS5_3 (F := Ideal) c arg2 harg2 arg3 harg3 arg4 harg4 arg20 x0 x1 x2 = H at hB ⊢
    exact short_hi x0 x1 x2 x7 _ 3 rfl 2304 384 rfl rfl _ _ _ _ _ hA _ _ _
      (fun r l => load_at x0 x1 x2 _ (View.canon H) 1 3 1 6 (fun e q l _ => hB e q l) rfl _ r l)
      (fun r l => load_at x0 x1 x2 _ (View.canon H) 1 3 1 7 (fun e q l _ => hB e q l) rfl _ r l)
      (fun r l => load_at x0 x1 x2 _ (View.canon H) 1 3 1 8 (fun e q l _ => hB e q l) rfl _ r l) r l
  · obtain ⟨a, q, k, rfl⟩ : ∃ (a : Fin 1) (q : Fin 512) (k : Fin 128), x = ix3 a q k := ⟨x 0, x 1, x 2, eq_ix3 x⟩
    simp only [ix3_1, ix3_2, ix3_0] at h0 h1 h2
    have hk : (k : ℕ) < 128 := x2_lt
    clear x0_lt x1_lt x2_lt h0
    obtain rfl : a = 0 := Subsingleton.elim _ _
    obtain rfl : r = q := Fin.ext h1
    have hs : s = 2 := Fin.ext (by clear h1; show (s : ℕ) = 2; omega)
    have hl : l = k := Fin.ext (by clear h1; subst hs; have : (j : ℕ) = 1024 + 128 * 2 + l := hj; omega)
    subst hs hl
    have hB := buf_A1 x0 x1 x2 c arg2 harg2 arg3 harg3 arg4 harg4 arg20
    generalize kernelRun0_A.sl.v22 (F := Ideal) c arg2 harg2 arg3 harg3 arg20 x0 x1 = h at hA ⊢
    generalize kernelRun0_A.sl.HS5_3 (F := Ideal) c arg2 harg2 arg3 harg3 arg4 harg4 arg20 x0 x1 x2 = H at hB ⊢
    exact short_lo x0 x1 x2 x7 _ 2 rfl 2304 256 rfl rfl _ _ _ _ _ hA _ _ _
      (fun r l => load_at x0 x1 x2 _ (View.canon H) 1 2 0 6 (fun e q l _ => hB e q l) rfl _ r l)
      (fun r l => load_at x0 x1 x2 _ (View.canon H) 1 2 0 7 (fun e q l _ => hB e q l) rfl _ r l)
      (fun r l => load_at x0 x1 x2 _ (View.canon H) 1 2 0 8 (fun e q l _ => hB e q l) rfl _ r l) r l
  · obtain ⟨a, q, k, rfl⟩ : ∃ (a : Fin 1) (q : Fin 512) (k : Fin 128), x = ix3 a q k := ⟨x 0, x 1, x 2, eq_ix3 x⟩
    simp only [ix3_1, ix3_2, ix3_0] at h0 h1 h2
    have hk : (k : ℕ) < 128 := x2_lt
    clear x0_lt x1_lt x2_lt h0
    obtain rfl : a = 0 := Subsingleton.elim _ _
    obtain rfl : r = q := Fin.ext h1
    have hs : s = 1 := Fin.ext (by clear h1; show (s : ℕ) = 1; omega)
    have hl : l = k := Fin.ext (by clear h1; subst hs; have : (j : ℕ) = 1024 + 128 * 1 + l := hj; omega)
    subst hs hl
    have hB := buf_A0 x0 x1 x2 c arg2 harg2 arg3 harg3 arg4 harg4 arg20
    generalize kernelRun0_A.sl.v22 (F := Ideal) c arg2 harg2 arg3 harg3 arg20 x0 x1 = h at hA ⊢
    generalize kernelRun0_A.sl.HS4_3 (F := Ideal) c arg2 harg2 arg3 harg3 arg4 harg4 arg20 x0 x1 x2 = H at hB ⊢
    exact short_hi x0 x1 x2 x7 _ 1 rfl 1024 128 rfl rfl _ _ _ _ _ hA _ _ _
      (fun r l => load_at x0 x1 x2 _ (View.canon H) 0 1 1 6 (fun e q l _ => hB e q l) rfl _ r l)
      (fun r l => load_at x0 x1 x2 _ (View.canon H) 0 1 1 7 (fun e q l _ => hB e q l) rfl _ r l)
      (fun r l => load_at x0 x1 x2 _ (View.canon H) 0 1 1 8 (fun e q l _ => hB e q l) rfl _ r l) r l
  · obtain ⟨a, q, k, rfl⟩ : ∃ (a : Fin 1) (q : Fin 512) (k : Fin 128), x = ix3 a q k := ⟨x 0, x 1, x 2, eq_ix3 x⟩
    simp only [ix3_1, ix3_2, ix3_0] at h0 h1 h2
    have hk : (k : ℕ) < 128 := x2_lt
    clear x0_lt x1_lt x2_lt h0
    obtain rfl : a = 0 := Subsingleton.elim _ _
    obtain rfl : r = q := Fin.ext h1
    have hs : s = 0 := Fin.ext (by clear h1; show (s : ℕ) = 0; omega)
    have hl : l = k := Fin.ext (by clear h1; subst hs; have : (j : ℕ) = 1024 + 128 * 0 + l := hj; omega)
    subst hs hl
    have hB := buf_A0 x0 x1 x2 c arg2 harg2 arg3 harg3 arg4 harg4 arg20
    generalize kernelRun0_A.sl.v22 (F := Ideal) c arg2 harg2 arg3 harg3 arg20 x0 x1 = h at hA ⊢
    generalize kernelRun0_A.sl.HS4_3 (F := Ideal) c arg2 harg2 arg3 harg3 arg4 harg4 arg20 x0 x1 x2 = H at hB ⊢
    exact short_lo x0 x1 x2 x7 _ 0 rfl 1024 0 rfl rfl _ _ _ _ _ hA _ _ _
      (fun r l => load_at x0 x1 x2 _ (View.canon H) 0 0 0 6 (fun e q l _ => hB e q l) rfl _ r l)
      (fun r l => load_at x0 x1 x2 _ (View.canon H) 0 0 0 7 (fun e q l _ => hB e q l) rfl _ r l)
      (fun r l => load_at x0 x1 x2 _ (View.canon H) 0 0 0 8 (fun e q l _ => hB e q l) rfl _ r l) r l

end Cert.ShortConvIdeal.Tile

end
-- ==== Proof.ShortTileB.lean ====
/- The short gated convolution of the mixer, one block of 512 rows that follows another: what the kernel's body keeps of it
   and what it stores, given the rows kept of the block before. -/
module

public import proofs.«01_k».proof.Proof.ShortTile
public import proofs.«01_k».proof.Proof.Gen.ShortConvIdeal.Frame.RunB
public import Idealize.ShloMosaic.Lib.WritesUnit

@[expose] public section

set_option maxRecDepth 16384

noncomputable section

namespace Cert.ShortConvIdeal.Tile

open Cert.ShortConvIdeal Cert.ShortConvIdeal.Gen Cert.Rows Idealize.ShloMosaic Idealize.ShloMosaic.TcCoe Idealize.SL.Sem

variable (x0 : FVec Ideal S1x512x1024 .f32) (x1 : FVec Ideal S6x1024 .f32) (x2 : FVec Ideal S1024x5120 .bf16)

variable (c : Dev nD) (arg2 : Memref sig .tc .vmem S1x512x1024 .f32) (harg2 : arg2.IsWhole) (arg3 : Memref sig .tc .vmem S6x1024 .f32) (harg3 : arg3.IsWhole) (arg4 : Memref sig .tc .vmem S1024x5120 .bf16) (harg4 : arg4.IsWhole)
  (arg20 : Memref sig .tc .vmem S512x1024 .bf16)

/-- The block's normalised rows, as the body reads them back. -/
theorem h_B (r : Fin 512) (k : Fin 1024) : kernelRun0_B.sl.v22 (F := Ideal) c arg2 harg2 arg3 harg3 arg20 x0 x1 (ix2 r k)
    = rms (fun d => x0 (ix3 0 r d)) (fun d => x1 (ix2 0 d)) k := by
  simp (disch := decide) only [kernelRun0_B.sl.v22, kernelRun0_B.sl.HS9_1, View.readCov_unit_lit', View.readAt_eq_ld, Memref.IsWhole.read_unread]
  pointwise [k0_pay11, rms]

/-- A group's two stored products over what the buffer held. -/
theorem over_at {κ : Kind} {sp : Space} (v : View sig κ sp S2x520x128 .f32) (f : v.ty.Contents (Elt Ideal)) (g : Fin 4)
    (o0 o1 : ℕ) (ho0 : o0 = 1280 * (g : ℕ) + 512) (ho1 : o1 = 1280 * (g : ℕ) + 768)
    (inb0 : ∀ a, (![0, o0] : Fin 2 → ℕ) a + S1024x256.size a ≤ S1024x5120.size a)
    (inb1 : ∀ a, (![0, o1] : Fin 2 → ℕ) a + S1024x256.size a ≤ S1024x5120.size a)
    (h : FVec Ideal S512x1024 .bf16) (hh : ∀ r k, h (ix2 r k) = rms (fun d => x0 (ix3 0 r d)) (fun d => x1 (ix2 0 d)) k)
    (e : Fin 2) (q : Fin 520) (l : Fin 128) :
    v.read (Elt Ideal) (v.writes (Elt Ideal) f
      [⟨Rect.unit (s := S2x520x128) ![1, 8, 0] S1x512x128.size inb_S2x520x128_S1x512x128_1_8_0,
        k0_pay106 (F := Ideal) h (View.ld x2 (Rect.unit (s := S1024x5120) ![0, o1] S1024x256.size inb1))⟩,
       ⟨Rect.unit (s := S2x520x128) ![0, 8, 0] S1x512x128.size inb_S2x520x128_S1x512x128_0_8_0,
        k0_pay106 (F := Ideal) h (View.ld x2 (Rect.unit (s := S1024x5120) ![0, o0] S1024x256.size inb0))⟩]) (ix3 e q l)
      = if hq : (q : ℕ) < 8 then v.read (Elt Ideal) f (ix3 e q l)
        else prodAt x0 x1 x2 ⟨2 * g + e, by omega⟩ ⟨q - 8, by omega⟩ l := by
  split
  · rw [View.read_writes_cons_unit_of_not_mem v f _ _ _ _ rfl 1 (Or.inl (by simpa using by assumption)),
      View.read_writes_cons_unit_of_not_mem v f _ _ _ _ rfl 1 (Or.inl (by simpa using by assumption))]
    rfl
  · rename_i hq
    have h1 : ∀ a, ((ix3 (1 : Fin 2) q l : S2x520x128.Idx) a).val = (![1, 8, 0] : Fin 3 → ℕ) a
        + ((ix3 (0 : Fin 1) (⟨q - 8, by omega⟩ : Fin 512) l : S1x512x128.Idx) a).val := by
      intro a; fin_cases a <;> simp; omega
    have h0 : ∀ a, ((ix3 (0 : Fin 2) q l : S2x520x128.Idx) a).val = (![0, 8, 0] : Fin 3 → ℕ) a
        + ((ix3 (0 : Fin 1) (⟨q - 8, by omega⟩ : Fin 512) l : S1x512x128.Idx) a).val := by
      intro a; fin_cases a <;> simp; omega
    obtain rfl | rfl : e = 0 ∨ e = 1 := by omega
    · rw [View.read_writes_cons_unit_of_not_mem v f _ _ _ _ rfl 0 (Or.inl (by simp))]
      refine (View.read_writes_cons_unit_of_mem v f _ _ _ _ (ix3 (0 : Fin 1) (⟨q - 8, by omega⟩ : Fin 512) l) rfl h0).trans ?_
      exact prod_at x0 x1 x2 ⟨2 * g + 0, by omega⟩ o0 (by simp; omega) inb0 h hh _ l
    · refine (View.read_writes_cons_unit_of_mem v f _ _ _ _ (ix3 (0 : Fin 1) (⟨q - 8, by omega⟩ : Fin 512) l) rfl h1).trans ?_
      exact prod_at x0 x1 x2 ⟨2 * g + 1, by omega⟩ o1 (by simp; omega) inb1 h hh _ l

/-- The first group's buffer. -/
theorem over_B0 {κ : Kind} {sp : Space} (v : View sig κ sp S2x520x128 .f32) (f : v.ty.Contents (Elt Ideal)) (e : Fin 2)
    (q : Fin 520) (l : Fin 128) :
    v.read (Elt Ideal) (v.writes (Elt Ideal) f
      (kernelRun0_B.sl.HS4_2 (F := Ideal) c arg2 harg2 arg3 harg3 arg4 harg4 arg20 x0 x1 x2)) (ix3 e q l)
      = if hq : (q : ℕ) < 8 then v.read (Elt Ideal) f (ix3 e q l)
        else prodAt x0 x1 x2 ⟨2 * 0 + e, by omega⟩ ⟨q - 8, by omega⟩ l := by
  simp only [kernelRun0_B.sl.HS4_2, View.readAt_eq_ld, Memref.IsWhole.read_unread]
  exact over_at x0 x1 x2 v f 0 512 768 rfl rfl _ _ _ (h_B x0 x1 c arg2 harg2 arg3 harg3 arg20) e q l

/-- The second group's buffer. -/
theorem over_B1 {κ : Kind} {sp : Space} (v : View sig κ sp S2x520x128 .f32) (f : v.ty.Contents (Elt Ideal)) (e : Fin 2)
    (q : Fin 520) (l : Fin 128) :
    v.read (Elt Ideal) (v.writes (Elt Ideal) f
      (kernelRun0_B.sl.HS5_2 (F := Ideal) c arg2 harg2 arg3 harg3 arg4 harg4 arg20 x0 x1 x2)) (ix3 e q l)
      = if hq : (q : ℕ) < 8 then v.read (Elt Ideal) f (ix3 e q l)
        else prodAt x0 x1 x2 ⟨2 * 1 + e, by omega⟩ ⟨q - 8, by omega⟩ l := by
  simp only [kernelRun0_B.sl.HS5_2, kernelRun0_B.sl.r_284, View.readAt_eq_ld, Memref.IsWhole.read_unread]
  exact over_at x0 x1 x2 v f 1 1792 2048 rfl rfl _ _ _ (h_B x0 x1 c arg2 harg2 arg3 harg3 arg20) e q l

/-- The third group's buffer. -/
theorem over_B2 {κ : Kind} {sp : Space} (v : View sig κ sp S2x520x128 .f32) (f : v.ty.Contents (Elt Ideal)) (e : Fin 2)
    (q : Fin 520) (l : Fin 128) :
    v.read (Elt Ideal) (v.writes (Elt Ideal) f
      (kernelRun0_B.sl.HS6_2 (F := Ideal) c arg2 harg2 arg3 harg3 arg4 harg4 arg20 x0 x1 x2)) (ix3 e q l)
      = if hq : (q : ℕ) < 8 then v.read (Elt Ideal) f (ix3 e q l)
        else prodAt x0 x1 x2 ⟨2 * 2 + e, by omega⟩ ⟨q - 8, by omega⟩ l := by
  simp only [kernelRun0_B.sl.HS6_2, kernelRun0_B.sl.r_460, View.readAt_eq_ld, Memref.IsWhole.read_unread]
  exact over_at x0 x1 x2 v f 2 3072 3328 rfl rfl _ _ _ (h_B x0 x1 c arg2 harg2 arg3 harg3 arg20) e q l

/-- The fourth group's buffer. -/
theorem over_B3 {κ : Kind} {sp : Space} (v : View sig κ sp S2x520x128 .f32) (f : v.ty.Contents (Elt Ideal)) (e : Fin 2)
    (q : Fin 520) (l : Fin 128) :
    v.read (Elt Ideal) (v.writes (Elt Ideal) f
      (kernelRun0_B.sl.HS7_2 (F := Ideal) c arg2 harg2 arg3 harg3 arg4 harg4 arg20 x0 x1 x2)) (ix3 e q l)
      = if hq : (q : ℕ) < 8 then v.read (Elt Ideal) f (ix3 e q l)
        else prodAt x0 x1 x2 ⟨2 * 3 + e, by omega⟩ ⟨q - 8, by omega⟩ l := by
  simp only [kernelRun0_B.sl.HS7_2, kernelRun0_B.sl.r_634, View.readAt_eq_ld, Memref.IsWhole.read_unread]
  exact over_at x0 x1 x2 v f 3 4352 4608 rfl rfl _ _ _ (h_B x0 x1 c arg2 harg2 arg3 harg3 arg20) e q l

/-- Of the two stored products alone, the rows from the eighth on. -/
theorem kept (L : List (View.Piece (Elt Ideal) S2x520x128 .f32)) (v : View sig .tc .vmem S2x520x128 .f32) (g : Fin 4)
    (hL : ∀ (f : v.ty.Contents (Elt Ideal)) (e : Fin 2) (q : Fin 520) (l : Fin 128),
      v.read (Elt Ideal) (v.writes (Elt Ideal) f L) (ix3 e q l) = if hq : (q : ℕ) < 8 then v.read (Elt Ideal) f (ix3 e q l)
        else prodAt x0 x1 x2 ⟨2 * g + e, by omega⟩ ⟨q - 8, by omega⟩ l)
    (halo : Fin 8 → Fin 8 → Fin 128 → EReal) (e : Fin 2) (q : Fin 520) (l : Fin 128) (hq : 8 ≤ (q : ℕ)) :
    View.canon L (ix3 e q l) = buf x0 x1 x2 halo ⟨2 * g + e, by omega⟩ q l := by
  rw [← View.read_writes_junk_apply_eq_canon v, hL, dif_neg (by omega)]
  unfold buf
  rw [dif_neg (by omega)]

/-- The eight rows each group keeps of the block before. -/
def haloOf (a b c d : FVec Ideal S2x520x128 .f32) (s : Fin 8) (q : Fin 8) (l : Fin 128) : EReal :=
  (![a, b, c, d] : Fin 4 → FVec Ideal S2x520x128 .f32) ⟨s / 2, by omega⟩ (ix3 ⟨s % 2, by omega⟩ ⟨q, by omega⟩ l)

omit x0 x1 x2 in
/-- A cast of an array to its own shape. -/
theorem pay_650 (v : FVec Ideal S2x8x128 .f32) : k0_pay650 (F := Ideal) v = v := by
  unfold k0_pay650
  exact shapeCast_self _ _

omit x0 x1 x2 in
/-- A cast of an array to its own shape. -/
theorem pay_1 (v : FVec Ideal S2x8x128 .f32) : k0_pay1 (F := Ideal) v = v := by
  unfold k0_pay1
  exact shapeCast_self _ _

omit x0 x1 x2 in
/-- A read of the last eight rows. -/
theorem last_at (L : List (View.Piece (Elt Ideal) S2x520x128 .f32))
    (inb : ∀ a, (![0, 512, 0] : Fin 3 → ℕ) a + S2x8x128.size a ≤ S2x520x128.size a) (e : Fin 2) (q : Fin 8)
    (l : Fin 128) :
    View.canon L ((Rect.unit (s := S2x520x128) ![0, 512, 0] S2x8x128.size inb).toLoadRect.idx (ix3 e q l))
      = View.canon L (ix3 e ⟨512 + q, by omega⟩ l) := by
  congr 1
  funext a
  refine Fin.ext ?_
  fin_cases a <;> simp [LoadRect.idx]

/-- The first eight rows of a buffer over which the body wrote its own last eight. -/
theorem tail_at (L : List (View.Piece (Elt Ideal) S2x520x128 .f32)) (g : Fin 4) (halo : Fin 8 → Fin 8 → Fin 128 → EReal)
    (hB : ∀ (e : Fin 2) (q : Fin 520) l, 8 ≤ (q : ℕ) → View.canon L (ix3 e q l) = buf x0 x1 x2 halo ⟨2 * g + e, by omega⟩ q l)
    (inb : ∀ a, (![0, 0, 0] : Fin 3 → ℕ) a + S2x8x128.size a ≤ S2x520x128.size a) (P : FVec Ideal S2x8x128 .f32)
    (hP : ∀ (e : Fin 2) (q : Fin 8) (l : Fin 128), P (ix3 e q l) = View.canon L (ix3 e ⟨512 + q, by omega⟩ l))
    (e : Fin 2) (q : Fin 8) (l : Fin 128) :
    View.canon ((⟨Rect.unit (s := S2x520x128) ![0, 0, 0] S2x8x128.size inb, P⟩ : View.Piece (Elt Ideal) S2x520x128 .f32) :: L)
      (ix3 e ⟨q, by omega⟩ l) = prodAt x0 x1 x2 ⟨2 * g + e, by omega⟩ ⟨504 + q, by omega⟩ l := by
  have hi : (Rect.unit (s := S2x520x128) ![0, 0, 0] S2x8x128.size inb).emb (ix3 e q l) = ix3 e ⟨q, by omega⟩ l := by
    funext a
    refine Fin.ext ?_
    show (![0, 0, 0] : Fin 3 → ℕ) a + 1 * ((ix3 e q l : S2x8x128.Idx) a).val = _
    fin_cases a <;> simp
  rw [← hi, View.canon_cons_emb, hP]
  refine (hB e ⟨512 + q, by omega⟩ l (by show 8 ≤ 512 + (q : ℕ); omega)).trans ?_
  unfold buf
  rw [dif_neg (by show ¬(512 + (q : ℕ) < 8); omega)]
  congr 1
  exact Fin.ext (by show 512 + (q : ℕ) - 8 = 504 + q; omega)

omit x0 x1 x2 in
/-- The first group's kept rows. -/
theorem hx0 (a b c d : FVec Ideal S2x520x128 .f32) (e : Fin 2) (q : Fin 8) (l : Fin 128) :
    haloOf a b c d ⟨2 * (0 : Fin 4) + e, by omega⟩ q l = a (ix3 e ⟨q, by omega⟩ l) := by
  obtain rfl | rfl : e = 0 ∨ e = 1 := by omega
  · rfl
  · rfl

omit x0 x1 x2 in
/-- The second group's kept rows. -/
theorem hx1 (a b c d : FVec Ideal S2x520x128 .f32) (e : Fin 2) (q : Fin 8) (l : Fin 128) :
    haloOf a b c d ⟨2 * (1 : Fin 4) + e, by omega⟩ q l = b (ix3 e ⟨q, by omega⟩ l) := by
  obtain rfl | rfl : e = 0 ∨ e = 1 := by omega
  · rfl
  · rfl

omit x0 x1 x2 in
/-- The third group's kept rows. -/
theorem hx2 (a b c d : FVec Ideal S2x520x128 .f32) (e : Fin 2) (q : Fin 8) (l : Fin 128) :
    haloOf a b c d ⟨2 * (2 : Fin 4) + e, by omega⟩ q l = c (ix3 e ⟨q, by omega⟩ l) := by
  obtain rfl | rfl : e = 0 ∨ e = 1 := by omega
  · rfl
  · rfl

omit x0 x1 x2 in
/-- The fourth group's kept rows. -/
theorem hx3 (a b c d : FVec Ideal S2x520x128 .f32) (e : Fin 2) (q : Fin 8) (l : Fin 128) :
    haloOf a b c d ⟨2 * (3 : Fin 4) + e, by omega⟩ q l = d (ix3 e ⟨q, by omega⟩ l) := by
  obtain rfl | rfl : e = 0 ∨ e = 1 := by omega
  · rfl
  · rfl

/-- A group's buffer: the kept rows, and the products over them. -/
theorem over_buf (L : List (View.Piece (Elt Ideal) S2x520x128 .f32)) (m : Memref sig .tc .vmem S2x520x128 .f32)
    (hm : m.IsWhole) (g : Fin 4) (xs : FVec Ideal S2x520x128 .f32) (halo : Fin 8 → Fin 8 → Fin 128 → EReal)
    (hx : ∀ (e : Fin 2) (q : Fin 8) l, halo ⟨2 * g + e, by omega⟩ q l = xs (ix3 e ⟨q, by omega⟩ l))
    (hL : ∀ (f : m.view.ty.Contents (Elt Ideal)) (e : Fin 2) (q : Fin 520) (l : Fin 128),
      m.view.read (Elt Ideal) (m.view.writes (Elt Ideal) f L) (ix3 e q l)
        = if hq : (q : ℕ) < 8 then m.view.read (Elt Ideal) f (ix3 e q l)
          else prodAt x0 x1 x2 ⟨2 * g + e, by omega⟩ ⟨q - 8, by omega⟩ l)
    (e : Fin 2) (q : Fin 520) (l : Fin 128) :
    m.view.read (Elt Ideal) (m.view.writes (Elt Ideal) (hm.unread xs) L) (ix3 e q l)
      = buf x0 x1 x2 halo ⟨2 * g + e, by omega⟩ q l := by
  rw [hL, Memref.IsWhole.read_unread]
  unfold buf
  split
  · rename_i hq
    exact (hx e ⟨q, hq⟩ l).symm
  · rfl

variable (i : grid0.Coords) (arg5 : Memref sig .tc .vmem S31x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S3x1024 .f32) (harg9 : arg9.IsWhole) (arg10 : Memref sig .tc .vmem S1x512x2048 .bf16) (harg10 : arg10.IsWhole) (arg11 : Memref sig .tc .vmem S2x544x128 .f32) (harg11 : arg11.IsWhole) (arg12 : Memref sig .tc .vmem S2x544x128 .f32) (harg12 : arg12.IsWhole) (arg13 : Memref sig .tc .vmem S2x544x128 .f32) (harg13 : arg13.IsWhole) (arg14 : Memref sig .tc .vmem S2x544x128 .f32) (harg14 : arg14.IsWhole) (arg15 : Memref sig .tc .vmem S2x520x128 .f32) (harg15 : arg15.IsWhole) (arg16 : Memref sig .tc .vmem S2x520x128 .f32) (harg16 : arg16.IsWhole) (arg17 : Memref sig .tc .vmem S2x520x128 .f32) (harg17 : arg17.IsWhole) (arg18 : Memref sig .tc .vmem S2x520x128 .f32) (harg18 : arg18.IsWhole) (arg19 : Memref sig .tc .vmem S512x1024 .f32) (harg19 : arg19.IsWhole) (harg20 : arg20.IsWhole) (hc0 : ¬cond0_0 i)
  (x3 : FVec Ideal S31x1024 .f32) (x4 x5 x6 : FVec Ideal S1x1024 .f32) (x7 : FVec Ideal S3x1024 .f32)
  (hcA : cond0_0 i) (xs0 xs1 xs2 xs3 : FVec Ideal S2x544x128 .f32) (xs4 xs5 xs6 xs7 : FVec Ideal S2x520x128 .f32)

set_option maxHeartbeats 2000000 in
/-- What the body leaves of the short convolution's columns at a block that follows another. -/
theorem out_B (r : Fin 512) (j : Fin 2048) (s : Fin 8) (l : Fin 128) (hj : (j : ℕ) = 1024 + 128 * (s : ℕ) + l) :
    View.canon (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 xs1 xs2 xs3 xs4 xs5 xs6 xs7).1 (ix3 0 r j)
      = shortAt x0 x1 x2 x7 (haloOf xs4 xs5 xs6 xs7) s r l := by
  have hA := h_B x0 x1 c arg2 harg2 arg3 harg3 arg20
  unfold kernelRun0_B
  dsimp only
  canon_tiles x h using (View.cover_of_tiledBy _ ![1, 64, 128] (by sl_kernel_rfl) _)
  iterate 8 (· exfalso; simp only [ix3_2] at h2; clear h0 h1; omega)
  all_goals
    simp only [
      kernelRun0_B.sl.r_638, kernelRun0_B.sl.r_635, kernelRun0_B.sl.v11574, kernelRun0_B.sl.v11581,
      kernelRun0_B.sl.v11587, kernelRun0_B.sl.r_636, kernelRun0_B.sl.v11548, kernelRun0_B.sl.v11555,
      kernelRun0_B.sl.r_637, kernelRun0_B.sl.v11561, kernelRun0_B.sl.r_461, kernelRun0_B.sl.v8426, kernelRun0_B.sl.v8433,
      kernelRun0_B.sl.v8439, kernelRun0_B.sl.r_462, kernelRun0_B.sl.v8400, kernelRun0_B.sl.v8407, kernelRun0_B.sl.v8413,
      kernelRun0_B.sl.r_285, kernelRun0_B.sl.v5244, kernelRun0_B.sl.v5251, kernelRun0_B.sl.v5257, kernelRun0_B.sl.v5218,
      kernelRun0_B.sl.v5225, kernelRun0_B.sl.v5231, kernelRun0_B.sl.r_109, kernelRun0_B.sl.r_108,
      kernelRun0_B.sl.cst_1402, kernelRun0_B.sl.r_110, kernelRun0_B.sl.v2062, kernelRun0_B.sl.v2069,
      kernelRun0_B.sl.v2075, kernelRun0_B.sl.v2036, kernelRun0_B.sl.v2043, kernelRun0_B.sl.v2049,
      View.readCov_eq_canon', View.readAt_eq_ld, Memref.IsWhole.read_unread,
      form_0, form_1, form_3, form_4, form_6, form_7]
  · obtain ⟨a, q, k, rfl⟩ : ∃ (a : Fin 1) (q : Fin 512) (k : Fin 128), x = ix3 a q k := ⟨x 0, x 1, x 2, eq_ix3 x⟩
    simp only [ix3_1, ix3_2, ix3_0] at h0 h1 h2
    have hk : (k : ℕ) < 128 := x2_lt
    clear x0_lt x1_lt x2_lt h0
    obtain rfl : a = 0 := Subsingleton.elim _ _
    obtain rfl : r = q := Fin.ext h1
    have hs : s = 7 := Fin.ext (by clear h1; show (s : ℕ) = 7; omega)
    have hl : l = k := Fin.ext (by clear h1; subst hs; have : (j : ℕ) = 1024 + 128 * 7 + l := hj; omega)
    subst hs hl
    have hB := over_B3 x0 x1 x2 c arg2 harg2 arg3 harg3 arg4 harg4 arg20 arg18.view
    generalize kernelRun0_B.sl.v22 (F := Ideal) c arg2 harg2 arg3 harg3 arg20 x0 x1 = h at hA ⊢
    generalize kernelRun0_B.sl.HS7_2 (F := Ideal) c arg2 harg2 arg3 harg3 arg4 harg4 arg20 x0 x1 x2 = H at hB ⊢
    exact short_hi x0 x1 x2 x7 _ 7 rfl 4864 896 rfl rfl _ _ _ _ _ hA _ _ _
      (fun r l => load_at x0 x1 x2 _ _ 3 7 1 6 (fun e q l _ => over_buf x0 x1 x2 H arg18 harg18 3 xs7 _ (hx3 _ _ _ _) hB e q l) rfl _ r l)
      (fun r l => load_at x0 x1 x2 _ _ 3 7 1 7 (fun e q l _ => over_buf x0 x1 x2 H arg18 harg18 3 xs7 _ (hx3 _ _ _ _) hB e q l) rfl _ r l)
      (fun r l => load_at x0 x1 x2 _ (View.canon H) 3 7 1 8 (kept x0 x1 x2 H arg18.view 3 hB _) rfl _ r l) r l
  · obtain ⟨a, q, k, rfl⟩ : ∃ (a : Fin 1) (q : Fin 512) (k : Fin 128), x = ix3 a q k := ⟨x 0, x 1, x 2, eq_ix3 x⟩
    simp only [ix3_1, ix3_2, ix3_0] at h0 h1 h2
    have hk : (k : ℕ) < 128 := x2_lt
    clear x0_lt x1_lt x2_lt h0
    obtain rfl : a = 0 := Subsingleton.elim _ _
    obtain rfl : r = q := Fin.ext h1
    have hs : s = 6 := Fin.ext (by clear h1; show (s : ℕ) = 6; omega)
    have hl : l = k := Fin.ext (by clear h1; subst hs; have : (j : ℕ) = 1024 + 128 * 6 + l := hj; omega)
    subst hs hl
    have hB := over_B3 x0 x1 x2 c arg2 harg2 arg3 harg3 arg4 harg4 arg20 arg18.view
    generalize kernelRun0_B.sl.v22 (F := Ideal) c arg2 harg2 arg3 harg3 arg20 x0 x1 = h at hA ⊢
    generalize kernelRun0_B.sl.HS7_2 (F := Ideal) c arg2 harg2 arg3 harg3 arg4 harg4 arg20 x0 x1 x2 = H at hB ⊢
    exact short_lo x0 x1 x2 x7 _ 6 rfl 4864 768 rfl rfl _ _ _ _ _ hA _ _ _
      (fun r l => load_at x0 x1 x2 _ _ 3 6 0 6 (fun e q l _ => over_buf x0 x1 x2 H arg18 harg18 3 xs7 _ (hx3 _ _ _ _) hB e q l) rfl _ r l)
      (fun r l => load_at x0 x1 x2 _ _ 3 6 0 7 (fun e q l _ => over_buf x0 x1 x2 H arg18 harg18 3 xs7 _ (hx3 _ _ _ _) hB e q l) rfl _ r l)
      (fun r l => load_at x0 x1 x2 _ (View.canon H) 3 6 0 8 (kept x0 x1 x2 H arg18.view 3 hB _) rfl _ r l) r l
  · obtain ⟨a, q, k, rfl⟩ : ∃ (a : Fin 1) (q : Fin 512) (k : Fin 128), x = ix3 a q k := ⟨x 0, x 1, x 2, eq_ix3 x⟩
    simp only [ix3_1, ix3_2, ix3_0] at h0 h1 h2
    have hk : (k : ℕ) < 128 := x2_lt
    clear x0_lt x1_lt x2_lt h0
    obtain rfl : a = 0 := Subsingleton.elim _ _
    obtain rfl : r = q := Fin.ext h1
    have hs : s = 5 := Fin.ext (by clear h1; show (s : ℕ) = 5; omega)
    have hl : l = k := Fin.ext (by clear h1; subst hs; have : (j : ℕ) = 1024 + 128 * 5 + l := hj; omega)
    subst hs hl
    have hB := over_B2 x0 x1 x2 c arg2 harg2 arg3 harg3 arg4 harg4 arg20 arg17.view
    generalize kernelRun0_B.sl.v22 (F := Ideal) c arg2 harg2 arg3 harg3 arg20 x0 x1 = h at hA ⊢
    generalize kernelRun0_B.sl.HS6_2 (F := Ideal) c arg2 harg2 arg3 harg3 arg4 harg4 arg20 x0 x1 x2 = H at hB ⊢
    exact short_hi x0 x1 x2 x7 _ 5 rfl 3584 640 rfl rfl _ _ _ _ _ hA _ _ _
      (fun r l => load_at x0 x1 x2 _ _ 2 5 1 6 (fun e q l _ => over_buf x0 x1 x2 H arg17 harg17 2 xs6 _ (hx2 _ _ _ _) hB e q l) rfl _ r l)
      (fun r l => load_at x0 x1 x2 _ _ 2 5 1 7 (fun e q l _ => over_buf x0 x1 x2 H arg17 harg17 2 xs6 _ (hx2 _ _ _ _) hB e q l) rfl _ r l)
      (fun r l => load_at x0 x1 x2 _ (View.canon H) 2 5 1 8 (kept x0 x1 x2 H arg17.view 2 hB _) rfl _ r l) r l
  · obtain ⟨a, q, k, rfl⟩ : ∃ (a : Fin 1) (q : Fin 512) (k : Fin 128), x = ix3 a q k := ⟨x 0, x 1, x 2, eq_ix3 x⟩
    simp only [ix3_1, ix3_2, ix3_0] at h0 h1 h2
    have hk : (k : ℕ) < 128 := x2_lt
    clear x0_lt x1_lt x2_lt h0
    obtain rfl : a = 0 := Subsingleton.elim _ _
    obtain rfl : r = q := Fin.ext h1
    have hs : s = 4 := Fin.ext (by clear h1; show (s : ℕ) = 4; omega)
    have hl : l = k := Fin.ext (by clear h1; subst hs; have : (j : ℕ) = 1024 + 128 * 4 + l := hj; omega)
    subst hs hl
    have hB := over_B2 x0 x1 x2 c arg2 harg2 arg3 harg3 arg4 harg4 arg20 arg17.view
    generalize kernelRun0_B.sl.v22 (F := Ideal) c arg2 harg2 arg3 harg3 arg20 x0 x1 = h at hA ⊢
    generalize kernelRun0_B.sl.HS6_2 (F := Ideal) c arg2 harg2 arg3 harg3 arg4 harg4 arg20 x0 x1 x2 = H at hB ⊢
    exact short_lo x0 x1 x2 x7 _ 4 rfl 3584 512 rfl rfl _ _ _ _ _ hA _ _ _
      (fun r l => load_at x0 x1 x2 _ _ 2 4 0 6 (fun e q l _ => over_buf x0 x1 x2 H arg17 harg17 2 xs6 _ (hx2 _ _ _ _) hB e q l) rfl _ r l)
      (fun r l => load_at x0 x1 x2 _ _ 2 4 0 7 (fun e q l _ => over_buf x0 x1 x2 H arg17 harg17 2 xs6 _ (hx2 _ _ _ _) hB e q l) rfl _ r l)
      (fun r l => load_at x0 x1 x2 _ (View.canon H) 2 4 0 8 (kept x0 x1 x2 H arg17.view 2 hB _) rfl _ r l) r l
  · obtain ⟨a, q, k, rfl⟩ : ∃ (a : Fin 1) (q : Fin 512) (k : Fin 128), x = ix3 a q k := ⟨x 0, x 1, x 2, eq_ix3 x⟩
    simp only [ix3_1, ix3_2, ix3_0] at h0 h1 h2
    have hk : (k : ℕ) < 128 := x2_lt
    clear x0_lt x1_lt x2_lt h0
    obtain rfl : a = 0 := Subsingleton.elim _ _
    obtain rfl : r = q := Fin.ext h1
    have hs : s = 3 := Fin.ext (by clear h1; show (s : ℕ) = 3; omega)
    have hl : l = k := Fin.ext (by clear h1; subst hs; have : (j : ℕ) = 1024 + 128 * 3 + l := hj; omega)
    subst hs hl
    have hB := over_B1 x0 x1 x2 c arg2 harg2 arg3 harg3 arg4 harg4 arg20 arg16.view
    generalize kernelRun0_B.sl.v22 (F := Ideal) c arg2 harg2 arg3 harg3 arg20 x0 x1 = h at hA ⊢
    generalize kernelRun0_B.sl.HS5_2 (F := Ideal) c arg2 harg2 arg3 harg3 arg4 harg4 arg20 x0 x1 x2 = H at hB ⊢
    exact short_hi x0 x1 x2 x7 _ 3 rfl 2304 384 rfl rfl _ _ _ _ _ hA _ _ _
      (fun r l => load_at x0 x1 x2 _ _ 1 3 1 6 (fun e q l _ => over_buf x0 x1 x2 H arg16 harg16 1 xs5 _ (hx1 _ _ _ _) hB e q l) rfl _ r l)
      (fun r l => load_at x0 x1 x2 _ _ 1 3 1 7 (fun e q l _ => over_buf x0 x1 x2 H arg16 harg16 1 xs5 _ (hx1 _ _ _ _) hB e q l) rfl _ r l)
      (fun r l => load_at x0 x1 x2 _ (View.canon H) 1 3 1 8 (kept x0 x1 x2 H arg16.view 1 hB _) rfl _ r l) r l
  · obtain ⟨a, q, k, rfl⟩ : ∃ (a : Fin 1) (q : Fin 512) (k : Fin 128), x = ix3 a q k := ⟨x 0, x 1, x 2, eq_ix3 x⟩
    simp only [ix3_1, ix3_2, ix3_0] at h0 h1 h2
    have hk : (k : ℕ) < 128 := x2_lt
    clear x0_lt x1_lt x2_lt h0
    obtain rfl : a = 0 := Subsingleton.elim _ _
    obtain rfl : r = q := Fin.ext h1
    have hs : s = 2 := Fin.ext (by clear h1; show (s : ℕ) = 2; omega)
    have hl : l = k := Fin.ext (by clear h1; subst hs; have : (j : ℕ) = 1024 + 128 * 2 + l := hj; omega)
    subst hs hl
    have hB := over_B1 x0 x1 x2 c arg2 harg2 arg3 harg3 arg4 harg4 arg20 arg16.view
    generalize kernelRun0_B.sl.v22 (F := Ideal) c arg2 harg2 arg3 harg3 arg20 x0 x1 = h at hA ⊢
    generalize kernelRun0_B.sl.HS5_2 (F := Ideal) c arg2 harg2 arg3 harg3 arg4 harg4 arg20 x0 x1 x2 = H at hB ⊢
    exact short_lo x0 x1 x2 x7 _ 2 rfl 2304 256 rfl rfl _ _ _ _ _ hA _ _ _
      (fun r l => load_at x0 x1 x2 _ _ 1 2 0 6 (fun e q l _ => over_buf x0 x1 x2 H arg16 harg16 1 xs5 _ (hx1 _ _ _ _) hB e q l) rfl _ r l)
      (fun r l => load_at x0 x1 x2 _ _ 1 2 0 7 (fun e q l _ => over_buf x0 x1 x2 H arg16 harg16 1 xs5 _ (hx1 _ _ _ _) hB e q l) rfl _ r l)
      (fun r l => load_at x0 x1 x2 _ (View.canon H) 1 2 0 8 (kept x0 x1 x2 H arg16.view 1 hB _) rfl _ r l) r l
  · obtain ⟨a, q, k, rfl⟩ : ∃ (a : Fin 1) (q : Fin 512) (k : Fin 128), x = ix3 a q k := ⟨x 0, x 1, x 2, eq_ix3 x⟩
    simp only [ix3_1, ix3_2, ix3_0] at h0 h1 h2
    have hk : (k : ℕ) < 128 := x2_lt
    clear x0_lt x1_lt x2_lt h0
    obtain rfl : a = 0 := Subsingleton.elim _ _
    obtain rfl : r = q := Fin.ext h1
    have hs : s = 1 := Fin.ext (by clear h1; show (s : ℕ) = 1; omega)
    have hl : l = k := Fin.ext (by clear h1; subst hs; have : (j : ℕ) = 1024 + 128 * 1 + l := hj; omega)
    subst hs hl
    have hB := over_B0 x0 x1 x2 c arg2 harg2 arg3 harg3 arg4 harg4 arg20 arg15.view
    generalize kernelRun0_B.sl.v22 (F := Ideal) c arg2 harg2 arg3 harg3 arg20 x0 x1 = h at hA ⊢
    generalize kernelRun0_B.sl.HS4_2 (F := Ideal) c arg2 harg2 arg3 harg3 arg4 harg4 arg20 x0 x1 x2 = H at hB ⊢
    exact short_hi x0 x1 x2 x7 _ 1 rfl 1024 128 rfl rfl _ _ _ _ _ hA _ _ _
      (fun r l => load_at x0 x1 x2 _ _ 0 1 1 6 (fun e q l _ => over_buf x0 x1 x2 H arg15 harg15 0 xs4 _ (hx0 _ _ _ _) hB e q l) rfl _ r l)
      (fun r l => load_at x0 x1 x2 _ _ 0 1 1 7 (fun e q l _ => over_buf x0 x1 x2 H arg15 harg15 0 xs4 _ (hx0 _ _ _ _) hB e q l) rfl _ r l)
      (fun r l => load_at x0 x1 x2 _ (View.canon H) 0 1 1 8 (kept x0 x1 x2 H arg15.view 0 hB _) rfl _ r l) r l
  · obtain ⟨a, q, k, rfl⟩ : ∃ (a : Fin 1) (q : Fin 512) (k : Fin 128), x = ix3 a q k := ⟨x 0, x 1, x 2, eq_ix3 x⟩
    simp only [ix3_1, ix3_2, ix3_0] at h0 h1 h2
    have hk : (k : ℕ) < 128 := x2_lt
    clear x0_lt x1_lt x2_lt h0
    obtain rfl : a = 0 := Subsingleton.elim _ _
    obtain rfl : r = q := Fin.ext h1
    have hs : s = 0 := Fin.ext (by clear h1; show (s : ℕ) = 0; omega)
    have hl : l = k := Fin.ext (by clear h1; subst hs; have : (j : ℕ) = 1024 + 128 * 0 + l := hj; omega)
    subst hs hl
    have hB := over_B0 x0 x1 x2 c arg2 harg2 arg3 harg3 arg4 harg4 arg20 arg15.view
    generalize kernelRun0_B.sl.v22 (F := Ideal) c arg2 harg2 arg3 harg3 arg20 x0 x1 = h at hA ⊢
    generalize kernelRun0_B.sl.HS4_2 (F := Ideal) c arg2 harg2 arg3 harg3 arg4 harg4 arg20 x0 x1 x2 = H at hB ⊢
    exact short_lo x0 x1 x2 x7 _ 0 rfl 1024 0 rfl rfl _ _ _ _ _ hA _ _ _
      (fun r l => load_at x0 x1 x2 _ _ 0 0 0 6 (fun e q l _ => over_buf x0 x1 x2 H arg15 harg15 0 xs4 _ (hx0 _ _ _ _) hB e q l) rfl _ r l)
      (fun r l => load_at x0 x1 x2 _ _ 0 0 0 7 (fun e q l _ => over_buf x0 x1 x2 H arg15 harg15 0 xs4 _ (hx0 _ _ _ _) hB e q l) rfl _ r l)
      (fun r l => load_at x0 x1 x2 _ (View.canon H) 0 0 0 8 (kept x0 x1 x2 H arg15.view 0 hB _) rfl _ r l) r l

/-- What the first group's buffer keeps for the next block: the last eight rows of its products. -/
theorem keep_A0 (e : Fin 2) (q : Fin 8) (l : Fin 128) :
    View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hcA x0 x1 x2 x3 x4 x5 x6 x7).2.2.2.2.2.1 (ix3 e ⟨q, by omega⟩ l)
      = prodAt x0 x1 x2 ⟨2 * (0 : Fin 4) + e, by omega⟩ ⟨504 + q, by omega⟩ l := by
  have hrun : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hcA x0 x1 x2 x3 x4 x5 x6 x7).2.2.2.2.2.1
      = (⟨Rect.unit (s := S2x520x128) ![0, 0, 0] S2x8x128.size inb_S2x520x128_S2x8x128_0_0_0, kernelRun0_A.sl.v13041 (F := Ideal) c arg2 harg2 arg3 harg3 arg4 harg4 arg15 arg20 x0 x1 x2⟩ :
        View.Piece (Elt Ideal) S2x520x128 .f32) :: kernelRun0_A.sl.HS4_3 (F := Ideal) c arg2 harg2 arg3 harg3 arg4 harg4 arg20 x0 x1 x2 := by rfl
  rw [hrun]
  clear hrun
  have b := fun (e : Fin 2) (q : Fin 520) l (_ : 8 ≤ (q : ℕ)) => buf_A0 x0 x1 x2 c arg2 harg2 arg3 harg3 arg4 harg4 arg20 e q l
  simp only [kernelRun0_A.sl.v13041, kernelRun0_A.sl.v13038, View.readCov_eq_canon', shapeCast_self, pay_650, pay_1]
  generalize kernelRun0_A.sl.HS4_3 (F := Ideal) c arg2 harg2 arg3 harg3 arg4 harg4 arg20 x0 x1 x2 = H at b ⊢
  exact tail_at x0 x1 x2 H 0 (fun _ _ _ => 0) b _ _ (fun e q l => last_at H _ e q l) e q l

/-- What the second group's buffer keeps for the next block: the last eight rows of its products. -/
theorem keep_A1 (e : Fin 2) (q : Fin 8) (l : Fin 128) :
    View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hcA x0 x1 x2 x3 x4 x5 x6 x7).2.2.2.2.2.2.1 (ix3 e ⟨q, by omega⟩ l)
      = prodAt x0 x1 x2 ⟨2 * (1 : Fin 4) + e, by omega⟩ ⟨504 + q, by omega⟩ l := by
  have hrun : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hcA x0 x1 x2 x3 x4 x5 x6 x7).2.2.2.2.2.2.1
      = (⟨Rect.unit (s := S2x520x128) ![0, 0, 0] S2x8x128.size inb_S2x520x128_S2x8x128_0_0_0, kernelRun0_A.sl.v13045 (F := Ideal) c arg2 harg2 arg3 harg3 arg4 harg4 arg16 arg20 x0 x1 x2⟩ :
        View.Piece (Elt Ideal) S2x520x128 .f32) :: kernelRun0_A.sl.HS5_3 (F := Ideal) c arg2 harg2 arg3 harg3 arg4 harg4 arg20 x0 x1 x2 := by rfl
  rw [hrun]
  clear hrun
  have b := fun (e : Fin 2) (q : Fin 520) l (_ : 8 ≤ (q : ℕ)) => buf_A1 x0 x1 x2 c arg2 harg2 arg3 harg3 arg4 harg4 arg20 e q l
  simp only [kernelRun0_A.sl.v13045, kernelRun0_A.sl.v13042, View.readCov_eq_canon', shapeCast_self, pay_650, pay_1]
  generalize kernelRun0_A.sl.HS5_3 (F := Ideal) c arg2 harg2 arg3 harg3 arg4 harg4 arg20 x0 x1 x2 = H at b ⊢
  exact tail_at x0 x1 x2 H 1 (fun _ _ _ => 0) b _ _ (fun e q l => last_at H _ e q l) e q l

/-- What the third group's buffer keeps for the next block: the last eight rows of its products. -/
theorem keep_A2 (e : Fin 2) (q : Fin 8) (l : Fin 128) :
    View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hcA x0 x1 x2 x3 x4 x5 x6 x7).2.2.2.2.2.2.2.1 (ix3 e ⟨q, by omega⟩ l)
      = prodAt x0 x1 x2 ⟨2 * (2 : Fin 4) + e, by omega⟩ ⟨504 + q, by omega⟩ l := by
  have hrun : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hcA x0 x1 x2 x3 x4 x5 x6 x7).2.2.2.2.2.2.2.1
      = (⟨Rect.unit (s := S2x520x128) ![0, 0, 0] S2x8x128.size inb_S2x520x128_S2x8x128_0_0_0, k0_pay650 (kernelRun0_A.sl.v13046 (F := Ideal) c arg2 harg2 arg3 harg3 arg4 harg4 arg17 arg20 x0 x1 x2)⟩ :
        View.Piece (Elt Ideal) S2x520x128 .f32) :: kernelRun0_A.sl.HS6_3 (F := Ideal) c arg2 harg2 arg3 harg3 arg4 harg4 arg20 x0 x1 x2 := by rfl
  rw [hrun]
  clear hrun
  have b := fun (e : Fin 2) (q : Fin 520) l (_ : 8 ≤ (q : ℕ)) => buf_A2 x0 x1 x2 c arg2 harg2 arg3 harg3 arg4 harg4 arg20 e q l
  simp only [kernelRun0_A.sl.v13046, View.readCov_eq_canon', shapeCast_self, pay_650, pay_1]
  generalize kernelRun0_A.sl.HS6_3 (F := Ideal) c arg2 harg2 arg3 harg3 arg4 harg4 arg20 x0 x1 x2 = H at b ⊢
  exact tail_at x0 x1 x2 H 2 (fun _ _ _ => 0) b _ _ (fun e q l => last_at H _ e q l) e q l

/-- What the fourth group's buffer keeps for the next block: the last eight rows of its products. -/
theorem keep_A3 (e : Fin 2) (q : Fin 8) (l : Fin 128) :
    View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hcA x0 x1 x2 x3 x4 x5 x6 x7).2.2.2.2.2.2.2.2.1 (ix3 e ⟨q, by omega⟩ l)
      = prodAt x0 x1 x2 ⟨2 * (3 : Fin 4) + e, by omega⟩ ⟨504 + q, by omega⟩ l := by
  have hrun : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hcA x0 x1 x2 x3 x4 x5 x6 x7).2.2.2.2.2.2.2.2.1
      = (⟨Rect.unit (s := S2x520x128) ![0, 0, 0] S2x8x128.size inb_S2x520x128_S2x8x128_0_0_0, k0_pay1 (kernelRun0_A.sl.v13050 (F := Ideal) c arg2 harg2 arg3 harg3 arg4 harg4 arg18 arg20 x0 x1 x2)⟩ :
        View.Piece (Elt Ideal) S2x520x128 .f32) :: kernelRun0_A.sl.HS7_3 (F := Ideal) c arg2 harg2 arg3 harg3 arg4 harg4 arg20 x0 x1 x2 := by rfl
  rw [hrun]
  clear hrun
  have b := fun (e : Fin 2) (q : Fin 520) l (_ : 8 ≤ (q : ℕ)) => buf_A3 x0 x1 x2 c arg2 harg2 arg3 harg3 arg4 harg4 arg20 e q l
  simp only [kernelRun0_A.sl.v13050, View.readCov_eq_canon', shapeCast_self, pay_650, pay_1]
  generalize kernelRun0_A.sl.HS7_3 (F := Ideal) c arg2 harg2 arg3 harg3 arg4 harg4 arg20 x0 x1 x2 = H at b ⊢
  exact tail_at x0 x1 x2 H 3 (fun _ _ _ => 0) b _ _ (fun e q l => last_at H _ e q l) e q l

/-- What the first group's buffer keeps for the next block: the last eight rows of its products. -/
theorem keep_B0 (e : Fin 2) (q : Fin 8) (l : Fin 128) :
    View.canon (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 xs1 xs2 xs3 xs4 xs5 xs6 xs7).2.2.2.2.2.1 (ix3 e ⟨q, by omega⟩ l)
      = prodAt x0 x1 x2 ⟨2 * (0 : Fin 4) + e, by omega⟩ ⟨504 + q, by omega⟩ l := by
  have hrun : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 xs1 xs2 xs3 xs4 xs5 xs6 xs7).2.2.2.2.2.1
      = (⟨Rect.unit (s := S2x520x128) ![0, 0, 0] S2x8x128.size inb_S2x520x128_S2x8x128_0_0_0, kernelRun0_B.sl.v13041 (F := Ideal) c arg2 harg2 arg3 harg3 arg4 harg4 arg15 arg20 x0 x1 x2⟩ :
        View.Piece (Elt Ideal) S2x520x128 .f32) :: kernelRun0_B.sl.HS4_2 (F := Ideal) c arg2 harg2 arg3 harg3 arg4 harg4 arg20 x0 x1 x2 := by rfl
  rw [hrun]
  clear hrun
  have b := kept x0 x1 x2 _ arg15.view 0 (over_B0 x0 x1 x2 c arg2 harg2 arg3 harg3 arg4 harg4 arg20 arg15.view) (fun _ _ _ => 0)
  simp only [kernelRun0_B.sl.v13041, kernelRun0_B.sl.v13038, View.readCov_eq_canon', shapeCast_self, pay_650, pay_1]
  generalize kernelRun0_B.sl.HS4_2 (F := Ideal) c arg2 harg2 arg3 harg3 arg4 harg4 arg20 x0 x1 x2 = H at b ⊢
  exact tail_at x0 x1 x2 H 0 (fun _ _ _ => 0) b _ _ (fun e q l => last_at H _ e q l) e q l

/-- What the second group's buffer keeps for the next block: the last eight rows of its products. -/
theorem keep_B1 (e : Fin 2) (q : Fin 8) (l : Fin 128) :
    View.canon (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 xs1 xs2 xs3 xs4 xs5 xs6 xs7).2.2.2.2.2.2.1 (ix3 e ⟨q, by omega⟩ l)
      = prodAt x0 x1 x2 ⟨2 * (1 : Fin 4) + e, by omega⟩ ⟨504 + q, by omega⟩ l := by
  have hrun : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 xs1 xs2 xs3 xs4 xs5 xs6 xs7).2.2.2.2.2.2.1
      = (⟨Rect.unit (s := S2x520x128) ![0, 0, 0] S2x8x128.size inb_S2x520x128_S2x8x128_0_0_0, kernelRun0_B.sl.v13045 (F := Ideal) c arg2 harg2 arg3 harg3 arg4 harg4 arg16 arg20 x0 x1 x2⟩ :
        View.Piece (Elt Ideal) S2x520x128 .f32) :: kernelRun0_B.sl.HS5_2 (F := Ideal) c arg2 harg2 arg3 harg3 arg4 harg4 arg20 x0 x1 x2 := by rfl
  rw [hrun]
  clear hrun
  have b := kept x0 x1 x2 _ arg16.view 1 (over_B1 x0 x1 x2 c arg2 harg2 arg3 harg3 arg4 harg4 arg20 arg16.view) (fun _ _ _ => 0)
  simp only [kernelRun0_B.sl.v13045, kernelRun0_B.sl.v13042, View.readCov_eq_canon', shapeCast_self, pay_650, pay_1]
  generalize kernelRun0_B.sl.HS5_2 (F := Ideal) c arg2 harg2 arg3 harg3 arg4 harg4 arg20 x0 x1 x2 = H at b ⊢
  exact tail_at x0 x1 x2 H 1 (fun _ _ _ => 0) b _ _ (fun e q l => last_at H _ e q l) e q l

/-- What the third group's buffer keeps for the next block: the last eight rows of its products. -/
theorem keep_B2 (e : Fin 2) (q : Fin 8) (l : Fin 128) :
    View.canon (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 xs1 xs2 xs3 xs4 xs5 xs6 xs7).2.2.2.2.2.2.2.1 (ix3 e ⟨q, by omega⟩ l)
      = prodAt x0 x1 x2 ⟨2 * (2 : Fin 4) + e, by omega⟩ ⟨504 + q, by omega⟩ l := by
  have hrun : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 xs1 xs2 xs3 xs4 xs5 xs6 xs7).2.2.2.2.2.2.2.1
      = (⟨Rect.unit (s := S2x520x128) ![0, 0, 0] S2x8x128.size inb_S2x520x128_S2x8x128_0_0_0, k0_pay650 (kernelRun0_B.sl.v13046 (F := Ideal) c arg2 harg2 arg3 harg3 arg4 harg4 arg17 arg20 x0 x1 x2)⟩ :
        View.Piece (Elt Ideal) S2x520x128 .f32) :: kernelRun0_B.sl.HS6_2 (F := Ideal) c arg2 harg2 arg3 harg3 arg4 harg4 arg20 x0 x1 x2 := by rfl
  rw [hrun]
  clear hrun
  have b := kept x0 x1 x2 _ arg17.view 2 (over_B2 x0 x1 x2 c arg2 harg2 arg3 harg3 arg4 harg4 arg20 arg17.view) (fun _ _ _ => 0)
  simp only [kernelRun0_B.sl.v13046, View.readCov_eq_canon', shapeCast_self, pay_650, pay_1]
  generalize kernelRun0_B.sl.HS6_2 (F := Ideal) c arg2 harg2 arg3 harg3 arg4 harg4 arg20 x0 x1 x2 = H at b ⊢
  exact tail_at x0 x1 x2 H 2 (fun _ _ _ => 0) b _ _ (fun e q l => last_at H _ e q l) e q l

/-- What the fourth group's buffer keeps for the next block: the last eight rows of its products. -/
theorem keep_B3 (e : Fin 2) (q : Fin 8) (l : Fin 128) :
    View.canon (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 xs1 xs2 xs3 xs4 xs5 xs6 xs7).2.2.2.2.2.2.2.2.1 (ix3 e ⟨q, by omega⟩ l)
      = prodAt x0 x1 x2 ⟨2 * (3 : Fin 4) + e, by omega⟩ ⟨504 + q, by omega⟩ l := by
  have hrun : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 xs1 xs2 xs3 xs4 xs5 xs6 xs7).2.2.2.2.2.2.2.2.1
      = (⟨Rect.unit (s := S2x520x128) ![0, 0, 0] S2x8x128.size inb_S2x520x128_S2x8x128_0_0_0, k0_pay1 (kernelRun0_B.sl.v13050 (F := Ideal) c arg2 harg2 arg3 harg3 arg4 harg4 arg18 arg20 x0 x1 x2)⟩ :
        View.Piece (Elt Ideal) S2x520x128 .f32) :: kernelRun0_B.sl.HS7_2 (F := Ideal) c arg2 harg2 arg3 harg3 arg4 harg4 arg20 x0 x1 x2 := by rfl
  rw [hrun]
  clear hrun
  have b := kept x0 x1 x2 _ arg18.view 3 (over_B3 x0 x1 x2 c arg2 harg2 arg3 harg3 arg4 harg4 arg20 arg18.view) (fun _ _ _ => 0)
  simp only [kernelRun0_B.sl.v13050, View.readCov_eq_canon', shapeCast_self, pay_650, pay_1]
  generalize kernelRun0_B.sl.HS7_2 (F := Ideal) c arg2 harg2 arg3 harg3 arg4 harg4 arg20 x0 x1 x2 = H at b ⊢
  exact tail_at x0 x1 x2 H 3 (fun _ _ _ => 0) b _ _ (fun e q l => last_at H _ e q l) e q l

end Cert.ShortConvIdeal.Tile

end
-- ==== Proof.ShortWeight.lean ====
/- The weights the short gated convolution's launch reads: slices of the input weights in another order. -/
module

public import proofs.«01_k».proof.Proof.Gen.ShortConvIdeal.Frame
public import Idealize.ShloMosaic.Lib.Pipeline.ValueKit
public import Idealize.ShloMosaic.Lib.StableHlo.RunRead
public import Idealize.ShloMosaic.Lib.Tactic.CleanTypes

@[expose] public section

set_option maxRecDepth 16384

noncomputable section

namespace Cert.ShortConvIdeal.Tile

open Cert.ShortConvIdeal Cert.ShortConvIdeal.Gen Idealize.ShloMosaic Idealize.ShloMosaic.TcCoe Idealize.SL.Sem
open Idealize.ShloMosaic.Pipeline (Dat)

variable (m : (ℓ : Loc nD τ sig) → Buf (Elt Ideal) ℓ)

/-- Which slice of the input weights each slice of the launch's layout is. -/
def src (q : Fin 40) : Fin 40 :=
  ![0, 8, 1, 9, 24, 32, 25, 33, 16, 17, 2, 10, 3, 11, 26, 34, 27, 35, 18, 19,
    4, 12, 5, 13, 28, 36, 29, 37, 20, 21, 6, 14, 7, 15, 30, 38, 31, 39, 22, 23] q

/-- 16 slices beside one another: column `128 n + l` is column `l` of slice `n`. -/
theorem beside_16 (f : Fin 16 → FVec Ideal S1024x128 .bf16) (k : Fin 1024) (n : Fin 16) (l : Fin 128) (h) :
    concatenate S1024x2048 1 [⟨S1024x128, f 0⟩, ⟨S1024x128, f 1⟩, ⟨S1024x128, f 2⟩, ⟨S1024x128, f 3⟩, ⟨S1024x128, f 4⟩, ⟨S1024x128, f 5⟩, ⟨S1024x128, f 6⟩, ⟨S1024x128, f 7⟩, ⟨S1024x128, f 8⟩, ⟨S1024x128, f 9⟩, ⟨S1024x128, f 10⟩, ⟨S1024x128, f 11⟩, ⟨S1024x128, f 12⟩, ⟨S1024x128, f 13⟩, ⟨S1024x128, f 14⟩, ⟨S1024x128, f 15⟩] h
      (ix2 k ⟨128 * n + l, by omega⟩) = f n (ix2 k l) :=
  concatenate_ofFn_apply (t := S1024x2048) (s₁ := S1024x128) (1 : Fin 2) f h rfl 128 rfl (ix2 k ⟨128 * n + l, by omega⟩) n
    (by show (128 * (n : ℕ) + l) / 128 = n; omega) (ix2 k l) (by show (l : ℕ) = (128 * (n : ℕ) + l) % 128; omega)
    (fun b hb => by
      obtain rfl : b = (0 : Fin 2) := by
        rcases b with ⟨_ | _ | b, hb'⟩
        · rfl
        · exact absurd rfl hb
        · exact absurd hb' (by show ¬ b + 2 < 2; omega)
      rfl)

/-- 8 slices beside one another: column `128 n + l` is column `l` of slice `n`. -/
theorem beside_8 (f : Fin 8 → FVec Ideal S1024x128 .bf16) (k : Fin 1024) (n : Fin 8) (l : Fin 128) (h) :
    concatenate S1024x1024 1 [⟨S1024x128, f 0⟩, ⟨S1024x128, f 1⟩, ⟨S1024x128, f 2⟩, ⟨S1024x128, f 3⟩, ⟨S1024x128, f 4⟩, ⟨S1024x128, f 5⟩, ⟨S1024x128, f 6⟩, ⟨S1024x128, f 7⟩] h
      (ix2 k ⟨128 * n + l, by omega⟩) = f n (ix2 k l) :=
  concatenate_ofFn_apply (t := S1024x1024) (s₁ := S1024x128) (1 : Fin 2) f h rfl 128 rfl (ix2 k ⟨128 * n + l, by omega⟩) n
    (by show (128 * (n : ℕ) + l) / 128 = n; omega) (ix2 k l) (by show (l : ℕ) = (128 * (n : ℕ) + l) % 128; omega)
    (fun b hb => by
      obtain rfl : b = (0 : Fin 2) := by
        rcases b with ⟨_ | _ | b, hb'⟩
        · rfl
        · exact absurd rfl hb
        · exact absurd hb' (by show ¬ b + 2 < 2; omega)
      rfl)

/-- The slices that make up buffer 41. -/
def part_41 (c : Dev nD) : Fin 16 → FVec Ideal S1024x128 .bf16 :=
  ![StableHlo.upto hostOps0 (fun b => m (c, b)) 41 (Proc.devRef .tc main_v1),
    StableHlo.upto hostOps0 (fun b => m (c, b)) 41 (Proc.devRef .tc main_v2),
    StableHlo.upto hostOps0 (fun b => m (c, b)) 41 (Proc.devRef .tc main_v3),
    StableHlo.upto hostOps0 (fun b => m (c, b)) 41 (Proc.devRef .tc main_v4),
    StableHlo.upto hostOps0 (fun b => m (c, b)) 41 (Proc.devRef .tc main_v5),
    StableHlo.upto hostOps0 (fun b => m (c, b)) 41 (Proc.devRef .tc main_v6),
    StableHlo.upto hostOps0 (fun b => m (c, b)) 41 (Proc.devRef .tc main_v7),
    StableHlo.upto hostOps0 (fun b => m (c, b)) 41 (Proc.devRef .tc main_v8),
    StableHlo.upto hostOps0 (fun b => m (c, b)) 41 (Proc.devRef .tc main_v9),
    StableHlo.upto hostOps0 (fun b => m (c, b)) 41 (Proc.devRef .tc main_v10),
    StableHlo.upto hostOps0 (fun b => m (c, b)) 41 (Proc.devRef .tc main_v11),
    StableHlo.upto hostOps0 (fun b => m (c, b)) 41 (Proc.devRef .tc main_v12),
    StableHlo.upto hostOps0 (fun b => m (c, b)) 41 (Proc.devRef .tc main_v13),
    StableHlo.upto hostOps0 (fun b => m (c, b)) 41 (Proc.devRef .tc main_v14),
    StableHlo.upto hostOps0 (fun b => m (c, b)) 41 (Proc.devRef .tc main_v15),
    StableHlo.upto hostOps0 (fun b => m (c, b)) 41 (Proc.devRef .tc main_v16)]

/-- A column of buffer 41 is a column of one of its slices. -/
theorem joined_41 (c : Dev nD) (k : Fin 1024) (n : Fin 16) (l : Fin 128) :
    (StableHlo.upto hostOps0 (fun b => m (c, b)) 44 (Proc.devRef .tc main_v41) : FVec Ideal S1024x2048 .bf16) (ix2 k ⟨128 * n + l, by omega⟩)
      = part_41 m c n (ix2 k l) := by
  have e : (StableHlo.upto hostOps0 (fun b => m (c, b)) 44 (Proc.devRef .tc main_v41) : FVec Ideal S1024x2048 .bf16)
      = concatenate S1024x2048 1 [⟨S1024x128, part_41 m c 0⟩, ⟨S1024x128, part_41 m c 1⟩, ⟨S1024x128, part_41 m c 2⟩, ⟨S1024x128, part_41 m c 3⟩, ⟨S1024x128, part_41 m c 4⟩, ⟨S1024x128, part_41 m c 5⟩, ⟨S1024x128, part_41 m c 6⟩, ⟨S1024x128, part_41 m c 7⟩, ⟨S1024x128, part_41 m c 8⟩, ⟨S1024x128, part_41 m c 9⟩, ⟨S1024x128, part_41 m c 10⟩, ⟨S1024x128, part_41 m c 11⟩, ⟨S1024x128, part_41 m c 12⟩, ⟨S1024x128, part_41 m c 13⟩, ⟨S1024x128, part_41 m c 14⟩, ⟨S1024x128, part_41 m c 15⟩]
      concatenates_S1024x128_S1024x128_S1024x128_S1024x128_S1024x128_S1024x128_S1024x128_S1024x128_S1024x128_S1024x128_S1024x128_S1024x128_S1024x128_S1024x128_S1024x128_S1024x128_S1024x2048_d1 := by
    refine (StableHlo.upto_last_write (n := 44) (i := 41) [main_v42, main_v43] rfl rfl (by decide) _).trans ?_
    unfold part_41
    generalize StableHlo.upto hostOps0 (fun b => m (c, b)) 41 = F
    refine (StableHlo.nary_result _ _ _ _ _ _).trans ?_
    dsimp only
    refine StableHlo.concatenate_congr _ _ ?_ _ _
    iterate 16 refine congrArg₂ List.cons (congrArg (Sigma.mk S1024x128) (by rfl)) ?_
    rfl
  exact (congrFun e _).trans (beside_16 _ k n l _)

/-- The slices that make up buffer 42. -/
def part_42 (c : Dev nD) : Fin 16 → FVec Ideal S1024x128 .bf16 :=
  ![StableHlo.upto hostOps0 (fun b => m (c, b)) 42 (Proc.devRef .tc main_v17),
    StableHlo.upto hostOps0 (fun b => m (c, b)) 42 (Proc.devRef .tc main_v18),
    StableHlo.upto hostOps0 (fun b => m (c, b)) 42 (Proc.devRef .tc main_v19),
    StableHlo.upto hostOps0 (fun b => m (c, b)) 42 (Proc.devRef .tc main_v20),
    StableHlo.upto hostOps0 (fun b => m (c, b)) 42 (Proc.devRef .tc main_v21),
    StableHlo.upto hostOps0 (fun b => m (c, b)) 42 (Proc.devRef .tc main_v22),
    StableHlo.upto hostOps0 (fun b => m (c, b)) 42 (Proc.devRef .tc main_v23),
    StableHlo.upto hostOps0 (fun b => m (c, b)) 42 (Proc.devRef .tc main_v24),
    StableHlo.upto hostOps0 (fun b => m (c, b)) 42 (Proc.devRef .tc main_v25),
    StableHlo.upto hostOps0 (fun b => m (c, b)) 42 (Proc.devRef .tc main_v26),
    StableHlo.upto hostOps0 (fun b => m (c, b)) 42 (Proc.devRef .tc main_v27),
    StableHlo.upto hostOps0 (fun b => m (c, b)) 42 (Proc.devRef .tc main_v28),
    StableHlo.upto hostOps0 (fun b => m (c, b)) 42 (Proc.devRef .tc main_v29),
    StableHlo.upto hostOps0 (fun b => m (c, b)) 42 (Proc.devRef .tc main_v30),
    StableHlo.upto hostOps0 (fun b => m (c, b)) 42 (Proc.devRef .tc main_v31),
    StableHlo.upto hostOps0 (fun b => m (c, b)) 42 (Proc.devRef .tc main_v32)]

/-- A column of buffer 42 is a column of one of its slices. -/
theorem joined_42 (c : Dev nD) (k : Fin 1024) (n : Fin 16) (l : Fin 128) :
    (StableHlo.upto hostOps0 (fun b => m (c, b)) 44 (Proc.devRef .tc main_v42) : FVec Ideal S1024x2048 .bf16) (ix2 k ⟨128 * n + l, by omega⟩)
      = part_42 m c n (ix2 k l) := by
  have e : (StableHlo.upto hostOps0 (fun b => m (c, b)) 44 (Proc.devRef .tc main_v42) : FVec Ideal S1024x2048 .bf16)
      = concatenate S1024x2048 1 [⟨S1024x128, part_42 m c 0⟩, ⟨S1024x128, part_42 m c 1⟩, ⟨S1024x128, part_42 m c 2⟩, ⟨S1024x128, part_42 m c 3⟩, ⟨S1024x128, part_42 m c 4⟩, ⟨S1024x128, part_42 m c 5⟩, ⟨S1024x128, part_42 m c 6⟩, ⟨S1024x128, part_42 m c 7⟩, ⟨S1024x128, part_42 m c 8⟩, ⟨S1024x128, part_42 m c 9⟩, ⟨S1024x128, part_42 m c 10⟩, ⟨S1024x128, part_42 m c 11⟩, ⟨S1024x128, part_42 m c 12⟩, ⟨S1024x128, part_42 m c 13⟩, ⟨S1024x128, part_42 m c 14⟩, ⟨S1024x128, part_42 m c 15⟩]
      concatenates_S1024x128_S1024x128_S1024x128_S1024x128_S1024x128_S1024x128_S1024x128_S1024x128_S1024x128_S1024x128_S1024x128_S1024x128_S1024x128_S1024x128_S1024x128_S1024x128_S1024x2048_d1 := by
    refine (StableHlo.upto_last_write (n := 44) (i := 42) [main_v43] rfl rfl (by decide) _).trans ?_
    unfold part_42
    generalize StableHlo.upto hostOps0 (fun b => m (c, b)) 42 = F
    refine (StableHlo.nary_result _ _ _ _ _ _).trans ?_
    dsimp only
    refine StableHlo.concatenate_congr _ _ ?_ _ _
    iterate 16 refine congrArg₂ List.cons (congrArg (Sigma.mk S1024x128) (by rfl)) ?_
    rfl
  exact (congrFun e _).trans (beside_16 _ k n l _)

/-- The slices that make up buffer 43. -/
def part_43 (c : Dev nD) : Fin 8 → FVec Ideal S1024x128 .bf16 :=
  ![StableHlo.upto hostOps0 (fun b => m (c, b)) 43 (Proc.devRef .tc main_v33),
    StableHlo.upto hostOps0 (fun b => m (c, b)) 43 (Proc.devRef .tc main_v34),
    StableHlo.upto hostOps0 (fun b => m (c, b)) 43 (Proc.devRef .tc main_v35),
    StableHlo.upto hostOps0 (fun b => m (c, b)) 43 (Proc.devRef .tc main_v36),
    StableHlo.upto hostOps0 (fun b => m (c, b)) 43 (Proc.devRef .tc main_v37),
    StableHlo.upto hostOps0 (fun b => m (c, b)) 43 (Proc.devRef .tc main_v38),
    StableHlo.upto hostOps0 (fun b => m (c, b)) 43 (Proc.devRef .tc main_v39),
    StableHlo.upto hostOps0 (fun b => m (c, b)) 43 (Proc.devRef .tc main_v40)]

/-- A column of buffer 43 is a column of one of its slices. -/
theorem joined_43 (c : Dev nD) (k : Fin 1024) (n : Fin 8) (l : Fin 128) :
    (StableHlo.upto hostOps0 (fun b => m (c, b)) 44 (Proc.devRef .tc main_v43) : FVec Ideal S1024x1024 .bf16) (ix2 k ⟨128 * n + l, by omega⟩)
      = part_43 m c n (ix2 k l) := by
  have e : (StableHlo.upto hostOps0 (fun b => m (c, b)) 44 (Proc.devRef .tc main_v43) : FVec Ideal S1024x1024 .bf16)
      = concatenate S1024x1024 1 [⟨S1024x128, part_43 m c 0⟩, ⟨S1024x128, part_43 m c 1⟩, ⟨S1024x128, part_43 m c 2⟩, ⟨S1024x128, part_43 m c 3⟩, ⟨S1024x128, part_43 m c 4⟩, ⟨S1024x128, part_43 m c 5⟩, ⟨S1024x128, part_43 m c 6⟩, ⟨S1024x128, part_43 m c 7⟩]
      concatenates_S1024x128_S1024x128_S1024x128_S1024x128_S1024x128_S1024x128_S1024x128_S1024x128_S1024x1024_d1 := by
    refine (StableHlo.upto_last_write (n := 44) (i := 43) [] rfl rfl (by decide) _).trans ?_
    unfold part_43
    generalize StableHlo.upto hostOps0 (fun b => m (c, b)) 43 = F
    refine (StableHlo.nary_result _ _ _ _ _ _).trans ?_
    dsimp only
    refine StableHlo.concatenate_congr _ _ ?_ _ _
    iterate 8 refine congrArg₂ List.cons (congrArg (Sigma.mk S1024x128) (by rfl)) ?_
    rfl
  exact (congrFun e _).trans (beside_8 _ k n l _)

/-- A slice of 128 columns of the input weights. -/
def slice (c : Dev nD) (p : Fin 40) (k : Fin 1024) (l : Fin 128) : EReal :=
  (m ((c : Thread nD τ).loc main_arg2) : FVec Ideal S1024x5120 .f32) (ix2 k ⟨128 * p + l, by omega⟩)

/-- Each of buffer 41's slices is a slice of the input weights. -/
theorem slices_41 (c : Dev nD) (k : Fin 1024) (n : Fin 16) (l : Fin 128) :
    part_41 m c n (ix2 k l) = slice m c (src ⟨0 + n, by omega⟩) k l := by
  unfold part_41
  after_reads_simp
  fin_cases n
  all_goals
    refine congrArg (m ((c : Thread nD τ).loc main_arg2) : FVec Ideal S1024x5120 .f32) ?_
    refine (eq_ix2 _).trans (congrArg₂ ix2 (Fin.ext (Nat.zero_add _)) (Fin.ext (congrArg (fun a => a + (l : ℕ)) ?_)))
    rfl

/-- Each of buffer 42's slices is a slice of the input weights. -/
theorem slices_42 (c : Dev nD) (k : Fin 1024) (n : Fin 16) (l : Fin 128) :
    part_42 m c n (ix2 k l) = slice m c (src ⟨16 + n, by omega⟩) k l := by
  unfold part_42
  after_reads_simp
  fin_cases n
  all_goals
    refine congrArg (m ((c : Thread nD τ).loc main_arg2) : FVec Ideal S1024x5120 .f32) ?_
    refine (eq_ix2 _).trans (congrArg₂ ix2 (Fin.ext (Nat.zero_add _)) (Fin.ext (congrArg (fun a => a + (l : ℕ)) ?_)))
    rfl

/-- Each of buffer 43's slices is a slice of the input weights. -/
theorem slices_43 (c : Dev nD) (k : Fin 1024) (n : Fin 8) (l : Fin 128) :
    part_43 m c n (ix2 k l) = slice m c (src ⟨32 + n, by omega⟩) k l := by
  unfold part_43
  after_reads_simp
  fin_cases n
  all_goals
    refine congrArg (m ((c : Thread nD τ).loc main_arg2) : FVec Ideal S1024x5120 .f32) ?_
    refine (eq_ix2 _).trans (congrArg₂ ix2 (Fin.ext (Nat.zero_add _)) (Fin.ext (congrArg (fun a => a + (l : ℕ)) ?_)))
    rfl

/-- The launch's weights are slices of the input weights in another order. -/
theorem weight_at (c : Dev nD) (k : Fin 1024) (q : Fin 40) (l : Fin 128) :
    (V m c main_v44 : FVec Ideal S1024x5120 .bf16) (ix2 k ⟨128 * q + l, by omega⟩) = slice m c (src q) k l := by
  have e : (V m c main_v44 : FVec Ideal S1024x5120 .bf16)
      = concatenate S1024x5120 1 [⟨S1024x2048, StableHlo.upto hostOps0 (fun b => m (c, b)) 44 (Proc.devRef .tc main_v41)⟩,
          ⟨S1024x2048, StableHlo.upto hostOps0 (fun b => m (c, b)) 44 (Proc.devRef .tc main_v42)⟩,
          ⟨S1024x1024, StableHlo.upto hostOps0 (fun b => m (c, b)) 44 (Proc.devRef .tc main_v43)⟩]
        concatenates_S1024x2048_S1024x2048_S1024x1024_S1024x5120_d1 := by
    show StableHlo.after (List.flatten [hostOps0]) (fun b => m (c, b)) (Proc.devRef .tc main_v44) = _
    rw [show List.flatten [hostOps0 (F := Ideal)] = hostOps0 from List.append_nil _]
    refine (StableHlo.after_last_write (i := 44) [main_v45, main_v46, main_v47] rfl rfl (by decide) _).trans ?_
    generalize StableHlo.upto hostOps0 (fun b => m (c, b)) 44 = F
    refine (StableHlo.nary_result _ _ _ _ _ _).trans ?_
    dsimp only
    refine StableHlo.concatenate_congr _ _ ?_ _ _
    refine congrArg₂ List.cons (congrArg (Sigma.mk S1024x2048) (by rfl)) ?_
    refine congrArg₂ List.cons (congrArg (Sigma.mk S1024x2048) (by rfl)) ?_
    refine congrArg₂ List.cons (congrArg (Sigma.mk S1024x1024) (by rfl)) ?_
    rfl
  refine (congrFun e _).trans ?_
  have off : ∀ {w : ℕ} (x : Fin w) (b : Fin 2), b ≠ 1 → ((ix2 k x : (⟨2, ![1024, w]⟩ : Shape).Idx) b : ℕ) = k := by
    intro w x b hb
    obtain rfl : b = (0 : Fin 2) := by omega
    rfl
  rcases Nat.lt_or_ge q 16 with h | h
  · refine (concatenate_apply_piece (t := S1024x5120) (1 : Fin 2) _ _ _ 0 (by show 0 < 3; omega) S1024x2048 _ rfl rfl 0 rfl
      (ix2 k ⟨128 * (q : ℕ) + l, by omega⟩) (fun b hb => (off _ b hb).trans (off _ b hb).symm) (Nat.zero_add _)).trans ?_
    refine (joined_41 m c k ⟨q, h⟩ l).trans ((slices_41 m c k _ l).trans ?_)
    exact congrArg (fun q => slice m c (src q) k l) (Fin.ext (Nat.zero_add _))
  rcases Nat.lt_or_ge q 32 with h' | h'
  · refine (concatenate_apply_piece (t := S1024x5120) (1 : Fin 2) _ _ _ 1 (by show 1 < 3; omega) S1024x2048 _ rfl rfl 2048 rfl
      (ix2 k ⟨128 * ((q : ℕ) - 16) + l, by omega⟩) (fun b hb => (off _ b hb).trans (off _ b hb).symm)
      (by show 2048 + (128 * ((q : ℕ) - 16) + (l : ℕ)) = 128 * (q : ℕ) + l; omega)).trans ?_
    refine (joined_42 m c k ⟨q - 16, by omega⟩ l).trans ((slices_42 m c k _ l).trans ?_)
    exact congrArg (fun q => slice m c (src q) k l) (Fin.ext (by show 16 + ((q : ℕ) - 16) = q; omega))
  · refine (concatenate_apply_piece (t := S1024x5120) (1 : Fin 2) _ _ _ 2 (by show 2 < 3; omega) S1024x1024 _ rfl rfl 4096 rfl
      (ix2 k ⟨128 * ((q : ℕ) - 32) + l, by omega⟩) (fun b hb => (off _ b hb).trans (off _ b hb).symm)
      (by show 4096 + (128 * ((q : ℕ) - 32) + (l : ℕ)) = 128 * (q : ℕ) + l; omega)).trans ?_
    refine (joined_43 m c k ⟨q - 32, by omega⟩ l).trans ((slices_43 m c k _ l).trans ?_)
    exact congrArg (fun q => slice m c (src q) k l) (Fin.ext (by show 32 + ((q : ℕ) - 32) = q; omega))

end Cert.ShortConvIdeal.Tile

end
-- ==== Proof.ShortSeq.lean ====
/- The sequences, weights and taps behind the blocks of the short gated convolution's call. -/
module

public import proofs.«01_k».proof.Proof.ShortRows
public import proofs.«01_k».proof.Proof.ShortTileB
public import proofs.«01_k».proof.Proof.ShortWeight
public import proofs.«01_k».proof.Proof.Gen.ShortConvIdeal.Frame
public import Idealize.ShloMosaic.Lib.Pipeline.ValueKit
public import Idealize.ShloMosaic.Lib.Tactic.CleanTypes

@[expose] public section

set_option maxRecDepth 16384

noncomputable section

namespace Cert.ShortConvIdeal.Tile

open Cert.ShortConvIdeal Cert.ShortConvIdeal.Gen Cert.Rows Idealize.ShloMosaic Idealize.ShloMosaic.TcCoe Idealize.SL.Sem
open Idealize.ShloMosaic.Pipeline (Dat)

variable (m : (ℓ : Loc nD τ sig) → Buf (Elt Ideal) ℓ)

/-- Where each window's block sits, at every grid point. -/
theorem idx : ∀ t : Fin cfg0.N, win0_0.index t = ![t.val / 4, t.val % 4, 0] ∧ win0_1.index t = ![0, 0]
    ∧ win0_2.index t = ![0, 0] ∧ win0_7.index t = ![0, 0] ∧ win0_8.index t = ![t.val / 4, t.val % 4, 0] :=
  (by decide +kernel : ∀ t : Fin grid0.N, _)

/-- There are sixty-four grid points. -/
theorem lt_N (t : Fin cfg0.N) : (t : ℕ) < 64 := lt_of_lt_of_eq t.isLt N_0

/-- The rows of sequence `b`. -/
def seq (c : Dev nD) (b : Fin 16) (s : Fin 2048) (d : Fin 1024) : EReal :=
  (m ((c : Thread nD τ).loc main_arg0) : FVec Ideal S16x2048x1024 .f32) (ix3 b s d)

/-- The gains of the normalisation. -/
def gain (c : Dev nD) (d : Fin 1024) : EReal := (m ((c : Thread nD τ).loc main_arg1) : FVec Ideal S6x1024 .f32) (ix2 0 d)

/-- The input weights. -/
def wt (c : Dev nD) (k : Fin 1024) (j : Fin 5120) : EReal := (m ((c : Thread nD τ).loc main_arg2) : FVec Ideal S1024x5120 .f32) (ix2 k j)

/-- The taps. -/
def tap (c : Dev nD) (k : Fin 3) (j : Fin 1024) : EReal := (m ((c : Thread nD τ).loc main_arg7) : FVec Ideal S3x1024 .f32) (ix2 k j)

/-- The sequence a grid point works on. -/
def bat (t : Fin cfg0.N) : Fin 16 := ⟨t / 4, by have := lt_N t; omega⟩

/-- The row of the sequence that a block's row is. -/
def place (t : Fin cfg0.N) (r : Fin 512) : Fin 2048 := ⟨t % 4 * 512 + r, by omega⟩

/-- Products of equal rows with equal weights are equal. -/
theorem row_congr {N M : ℕ} {x x' : Fin 1024 → EReal} {W : Fin 1024 → Fin N → EReal} {W' : Fin 1024 → Fin M → EReal} {j : Fin N} {j' : Fin M}
    (hx : ∀ k, x k = x' k) (hW : ∀ k, W k j = W' k j') : row x W j = row x' W' j' := by
  unfold row
  exact Finset.sum_congr rfl fun k _ => by rw [hx k, hW k]

/-- A block's projected rows are the sequence's. -/
theorem u_at (c : Dev nD) (t : Fin cfg0.N) (r : Fin 512) (q : Fin 40) (l : Fin 128) (j : Fin 5120) (hj : (j : ℕ) = 128 * q + l) :
    uAt (iblk m c 0 t) (iblk m c 1 t) (iblk m c 2 t) r j
      = shortU (seq m c (bat t)) (gain m c) (wt m c) (place t r) ⟨128 * src q + l, by omega⟩ := by
  have hb : 128 * (q : ℕ) + l < 5120 := by clear hj; omega
  obtain rfl : j = ⟨128 * q + l, hb⟩ := Fin.ext hj
  unfold uAt shortU
  refine row_congr (fun k => ?_) (fun k => ?_)
  · have e0 : ∀ d : Fin 1024, (iblk m c 0 t : FVec Ideal S1x512x1024 .f32) (ix3 0 r d) = seq m c (bat t) (place t r) d := by
      intro d
      blk_point [iblk, V, idx t, seq, bat, place]
    have e1 : ∀ d : Fin 1024, (iblk m c 1 t : FVec Ideal S6x1024 .f32) (ix2 0 d) = gain m c d := by
      intro d
      blk_point [iblk, V, idx t, gain]
    rw [funext e0, funext e1]
  · have e : (win0_2.blk t).view.emb (ix2 k ⟨128 * q + l, by omega⟩) = ix2 k ⟨128 * q + l, by omega⟩ := by
      blk_ext [idx t]
    blk_simp [iblk]
    rw [e]
    exact weight_at m c k q l

/-- Where the two factors of a product and the gate lie among the weight's slices, and where those come from. -/
theorem src_at : ∀ s : Fin 8, (src ⟨10 * (s / 2) + 4 + 2 * (s % 2), by omega⟩ : ℕ) = 24 + s
    ∧ (src ⟨10 * (s / 2) + 5 + 2 * (s % 2), by omega⟩ : ℕ) = 32 + s
    ∧ (src ⟨10 * (s / 2) + 8 + s % 2, by omega⟩ : ℕ) = 16 + s := by decide

/-- A block's products are the sequence's, two places further on for the zeros it starts with. -/
theorem prod_seq (c : Dev nD) (t : Fin cfg0.N) (s : Fin 8) (r : Fin 512) (l : Fin 128) (q : Fin 2050) (hq : (q : ℕ) = 2 + (t % 4 * 512 + r)) :
    prodAt (iblk m c 0 t) (iblk m c 1 t) (iblk m c 2 t) s r l
      = shortP (seq m c (bat t)) (gain m c) (wt m c) q ⟨128 * s + l, by omega⟩ := by
  obtain ⟨h1, h2, _⟩ := src_at s
  unfold prodAt shortP
  rw [dif_neg (by omega)]
  refine congrArg₂ (· * ·) ((u_at m c t r ⟨10 * (s / 2) + 4 + 2 * (s % 2), by omega⟩ l _ (by simp only; omega)).trans ?_)
    ((u_at m c t r ⟨10 * (s / 2) + 5 + 2 * (s % 2), by omega⟩ l _ (by simp only; omega)).trans ?_)
  · refine congrArg₂ (shortU _ _ _) (Fin.ext ?_) (Fin.ext ?_) <;> simp only [place] <;> omega
  · refine congrArg₂ (shortU _ _ _) (Fin.ext ?_) (Fin.ext ?_) <;> simp only [place] <;> omega

/-- A block's gate is the sequence's. -/
theorem gate_seq (c : Dev nD) (t : Fin cfg0.N) (s : Fin 8) (r : Fin 512) (l : Fin 128) (j : Fin 5120)
    (hj : (j : ℕ) = 1280 * (s / 2) + 1024 + 128 * (s % 2) + l) :
    uAt (iblk m c 0 t) (iblk m c 1 t) (iblk m c 2 t) r j
      = shortU (seq m c (bat t)) (gain m c) (wt m c) (place t r) ⟨2048 + (128 * s + l), by omega⟩ := by
  obtain ⟨_, _, h⟩ := src_at s
  refine (u_at m c t r ⟨10 * (s / 2) + 8 + s % 2, by omega⟩ l j (by simp only; omega)).trans ?_
  exact congrArg (shortU _ _ _ _) (Fin.ext (by simp only; omega))

end Cert.ShortConvIdeal.Tile

end
-- ==== Proof.ShortKept.lean ====
/- What a grid point of the short gated convolution's call leaves for the next. -/
module

public import proofs.«01_k».proof.Proof.ShortRows
public import proofs.«01_k».proof.Proof.ShortTileB
public import proofs.«01_k».proof.Proof.ShortWeight
public import proofs.«01_k».proof.Proof.Gen.ShortConvIdeal.Frame
public import Idealize.ShloMosaic.Lib.Pipeline.ValueKit
public import Idealize.ShloMosaic.Lib.Tactic.CleanTypes

@[expose] public section

set_option maxRecDepth 16384

noncomputable section

namespace Cert.ShortConvIdeal.Tile

open Cert.ShortConvIdeal Cert.ShortConvIdeal.Gen Cert.Rows Idealize.ShloMosaic Idealize.ShloMosaic.TcCoe Idealize.SL.Sem
open Idealize.ShloMosaic.Pipeline (Dat)

variable (m : (ℓ : Loc nD τ sig) → Buf (Elt Ideal) ℓ)

/-- What a grid point leaves for the next in the first pair of groups: the last eight rows of its products. -/
theorem kept_0 (c : Dev nD) (t : Fin cfg0.N) (e : Fin 2) (q : Fin 8) (l : Fin 128) :
    (outsAt0 m c t.val t.isLt).2.2.2.2.2.1 (ix3 e ⟨q, by omega⟩ l)
      = prodAt (iblk m c 0 t) (iblk m c 1 t) (iblk m c 2 t) ⟨2 * (0 : Fin 4) + e, by omega⟩ ⟨504 + q, by omega⟩ l := by
  by_cases h : t.val % 4 = 0
  · rw [outsAt0_A m c t h]
    dsimp only
    unfold sout0_A_4
    rw [View.read_writes_junk_eq_canon]
    exact keep_A0 ..
  · rw [outsAt0_B m c t h]
    dsimp only
    unfold sout0_B_4
    rw [View.read_writes_junk_eq_canon]
    exact keep_B0 ..

/-- What a grid point leaves for the next in the second pair of groups: the last eight rows of its products. -/
theorem kept_1 (c : Dev nD) (t : Fin cfg0.N) (e : Fin 2) (q : Fin 8) (l : Fin 128) :
    (outsAt0 m c t.val t.isLt).2.2.2.2.2.2.1 (ix3 e ⟨q, by omega⟩ l)
      = prodAt (iblk m c 0 t) (iblk m c 1 t) (iblk m c 2 t) ⟨2 * (1 : Fin 4) + e, by omega⟩ ⟨504 + q, by omega⟩ l := by
  by_cases h : t.val % 4 = 0
  · rw [outsAt0_A m c t h]
    dsimp only
    unfold sout0_A_5
    rw [View.read_writes_junk_eq_canon]
    exact keep_A1 ..
  · rw [outsAt0_B m c t h]
    dsimp only
    unfold sout0_B_5
    rw [View.read_writes_junk_eq_canon]
    exact keep_B1 ..

/-- What a grid point leaves for the next in the third pair of groups: the last eight rows of its products. -/
theorem kept_2 (c : Dev nD) (t : Fin cfg0.N) (e : Fin 2) (q : Fin 8) (l : Fin 128) :
    (outsAt0 m c t.val t.isLt).2.2.2.2.2.2.2.1 (ix3 e ⟨q, by omega⟩ l)
      = prodAt (iblk m c 0 t) (iblk m c 1 t) (iblk m c 2 t) ⟨2 * (2 : Fin 4) + e, by omega⟩ ⟨504 + q, by omega⟩ l := by
  by_cases h : t.val % 4 = 0
  · rw [outsAt0_A m c t h]
    dsimp only
    unfold sout0_A_6
    rw [View.read_writes_junk_eq_canon]
    exact keep_A2 ..
  · rw [outsAt0_B m c t h]
    dsimp only
    unfold sout0_B_6
    rw [View.read_writes_junk_eq_canon]
    exact keep_B2 ..

/-- What a grid point leaves for the next in the fourth pair of groups: the last eight rows of its products. -/
theorem kept_3 (c : Dev nD) (t : Fin cfg0.N) (e : Fin 2) (q : Fin 8) (l : Fin 128) :
    (outsAt0 m c t.val t.isLt).2.2.2.2.2.2.2.2 (ix3 e ⟨q, by omega⟩ l)
      = prodAt (iblk m c 0 t) (iblk m c 1 t) (iblk m c 2 t) ⟨2 * (3 : Fin 4) + e, by omega⟩ ⟨504 + q, by omega⟩ l := by
  by_cases h : t.val % 4 = 0
  · rw [outsAt0_A m c t h]
    dsimp only
    unfold sout0_A_7
    rw [View.read_writes_junk_eq_canon]
    exact keep_A3 ..
  · rw [outsAt0_B m c t h]
    dsimp only
    unfold sout0_B_7
    rw [View.read_writes_junk_eq_canon]
    exact keep_B3 ..

end Cert.ShortConvIdeal.Tile

end
-- ==== Proof.ShortValue.lean ====
/- The short gated convolution's result array, entry by entry, from the blocks' values and the rows each block keeps for the next. -/
module

public import proofs.«01_k».proof.Proof.ShortRows
public import proofs.«01_k».proof.Proof.ShortSeq
public import proofs.«01_k».proof.Proof.ShortKept
public import proofs.«01_k».proof.Proof.Gen.ShortConvIdeal.Frame
public import Idealize.ShloMosaic.Lib.Pipeline.ValueKit
public import Idealize.ShloMosaic.Lib.Tactic.CleanTypes

@[expose] public section

set_option maxRecDepth 16384

noncomputable section

namespace Cert.ShortConvIdeal.Tile

open Cert.ShortConvIdeal Cert.ShortConvIdeal.Gen Cert.Rows Idealize.ShloMosaic Idealize.ShloMosaic.TcCoe Idealize.SL.Sem
open Idealize.ShloMosaic.Pipeline (Dat)

variable (m : (ℓ : Loc nD τ sig) → Buf (Elt Ideal) ℓ)

/-- Rows kept for four pairs of groups are the rows of eight groups. -/
theorem halo_of {a b c d : FVec Ideal S2x520x128 .f32} (P : Fin 8 → Fin 8 → Fin 128 → EReal)
    (h0 : ∀ (e : Fin 2) (q : Fin 8) (l : Fin 128), a (ix3 e ⟨q, by omega⟩ l) = P ⟨2 * (0 : Fin 4) + e, by omega⟩ q l)
    (h1 : ∀ (e : Fin 2) (q : Fin 8) (l : Fin 128), b (ix3 e ⟨q, by omega⟩ l) = P ⟨2 * (1 : Fin 4) + e, by omega⟩ q l)
    (h2 : ∀ (e : Fin 2) (q : Fin 8) (l : Fin 128), c (ix3 e ⟨q, by omega⟩ l) = P ⟨2 * (2 : Fin 4) + e, by omega⟩ q l)
    (h3 : ∀ (e : Fin 2) (q : Fin 8) (l : Fin 128), d (ix3 e ⟨q, by omega⟩ l) = P ⟨2 * (3 : Fin 4) + e, by omega⟩ q l)
    (s q : Fin 8) (l : Fin 128) : haloOf a b c d s q l = P s q l := by
  obtain ⟨g, e, rfl⟩ : ∃ (g : Fin 4) (e : Fin 2), s = ⟨2 * g + e, by omega⟩ :=
    ⟨⟨s / 2, by omega⟩, ⟨s % 2, by omega⟩, Fin.ext (by simp only; omega)⟩
  obtain rfl | rfl | rfl | rfl : g = 0 ∨ g = 1 ∨ g = 2 ∨ g = 3 := by omega
  · exact (hx0 a b c d e q l).trans (h0 e q l)
  · exact (hx1 a b c d e q l).trans (h1 e q l)
  · exact (hx2 a b c d e q l).trans (h2 e q l)
  · exact (hx3 a b c d e q l).trans (h3 e q l)

/-- The rows kept before a block that does not start a sequence are the sequence's products just before it. -/
theorem halo_seq (c : Dev nD) (t : Fin cfg0.N) (h : ¬ t.val % 4 = 0) (s q : Fin 8) (l : Fin 128) (p : Fin 2050) (hp : (p : ℕ) + 6 = t % 4 * 512 + q) :
    haloOf (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 s q l
      = shortP (seq m c (bat t)) (gain m c) (wt m c) p ⟨128 * s + l, by omega⟩ := by
  have hb : bat ⟨t.val - 1, Nat.lt_of_le_of_lt (Nat.sub_le _ _) t.isLt⟩ = bat t := Fin.ext (by simp only [bat]; omega)
  have hk := prod_seq m c ⟨t.val - 1, Nat.lt_of_le_of_lt (Nat.sub_le _ _) t.isLt⟩ s ⟨504 + q, by omega⟩ l p (by simp only; omega)
  rw [hb] at hk
  refine Eq.trans ?_ hk
  exact halo_of (fun s q l => prodAt (iblk m c 0 ⟨t.val - 1, Nat.lt_of_le_of_lt (Nat.sub_le _ _) t.isLt⟩)
      (iblk m c 1 ⟨t.val - 1, Nat.lt_of_le_of_lt (Nat.sub_le _ _) t.isLt⟩) (iblk m c 2 ⟨t.val - 1, Nat.lt_of_le_of_lt (Nat.sub_le _ _) t.isLt⟩) s ⟨504 + q, by omega⟩ l)
    (kept_0 m c ⟨t.val - 1, Nat.lt_of_le_of_lt (Nat.sub_le _ _) t.isLt⟩) (kept_1 m c ⟨t.val - 1, Nat.lt_of_le_of_lt (Nat.sub_le _ _) t.isLt⟩)
    (kept_2 m c ⟨t.val - 1, Nat.lt_of_le_of_lt (Nat.sub_le _ _) t.isLt⟩) (kept_3 m c ⟨t.val - 1, Nat.lt_of_le_of_lt (Nat.sub_le _ _) t.isLt⟩) s q l

/-- A block's row buffer is the sequence's products from eight rows before the block, where the rows before are the sequence's. -/
theorem buf_seq (c : Dev nD) (t : Fin cfg0.N) (halo : Fin 8 → Fin 8 → Fin 128 → EReal) (s : Fin 8) (l : Fin 128)
    (hh : ∀ (q : Fin 8) (p : Fin 2050), (p : ℕ) + 6 = t % 4 * 512 + q →
      halo s q l = shortP (seq m c (bat t)) (gain m c) (wt m c) p ⟨128 * s + l, by omega⟩)
    (q : Fin 520) (p : Fin 2050) (hp : (p : ℕ) + 6 = t % 4 * 512 + q) :
    buf (iblk m c 0 t) (iblk m c 1 t) (iblk m c 2 t) halo s q l
      = shortP (seq m c (bat t)) (gain m c) (wt m c) p ⟨128 * s + l, by omega⟩ := by
  unfold buf
  split
  · exact hh _ p hp
  · exact prod_seq m c t s _ l p (by simp only; omega)

/-- A block's value of the convolution is the sequence's, where the rows before the block are the sequence's. -/
theorem short_seq (c : Dev nD) (t : Fin cfg0.N) (halo : Fin 8 → Fin 8 → Fin 128 → EReal) (s : Fin 8) (r : Fin 512) (l : Fin 128)
    (hh : ∀ (q : Fin 8) (p : Fin 2050), (p : ℕ) + 6 = t % 4 * 512 + q →
      halo s q l = shortP (seq m c (bat t)) (gain m c) (wt m c) p ⟨128 * s + l, by omega⟩) :
    shortAt (iblk m c 0 t) (iblk m c 1 t) (iblk m c 2 t) (iblk m c 7 t) halo s r l
      = short (seq m c (bat t)) (gain m c) (wt m c) (tap m c) (place t r) ⟨128 * s + l, by omega⟩ := by
  have e7 : ∀ (k : Fin 3) (d : Fin 1024), (iblk m c 7 t : FVec Ideal S3x1024 .f32) (ix2 k d) = tap m c k d := by
    intro k d
    blk_point [iblk, V, idx t, tap]
  unfold shortAt short
  rw [gate_seq m c t s r l _ rfl, e7, e7, e7, buf_seq m c t halo s l hh ⟨6 + r, by omega⟩ ⟨place t r, by omega⟩ (by simp only [place]; omega),
    buf_seq m c t halo s l hh ⟨7 + r, by omega⟩ ⟨1 + place t r, by omega⟩ (by simp only [place]; omega),
    buf_seq m c t halo s l hh ⟨8 + r, by omega⟩ ⟨2 + place t r, by omega⟩ (by simp only [place]; omega)]

/-- What a grid point leaves in its output block's upper columns. -/
theorem block_at (c : Dev nD) (t : Fin cfg0.N) (r : Fin 512) (j : Fin 2048) (s : Fin 8) (l : Fin 128) (hj : (j : ℕ) = 1024 + 128 * (s : ℕ) + l) :
    (outsAt0 m c t.val t.isLt).1 (ix3 0 r j)
      = short (seq m c (bat t)) (gain m c) (wt m c) (tap m c) (place t r) ⟨128 * s + l, by omega⟩ := by
  by_cases h : t.val % 4 = 0
  · rw [outsAt0_A m c t h]
    dsimp only
    unfold out0_A_8
    rw [View.read_writes_junk_eq_canon]
    refine (out_A (hj := hj) ..).trans ?_
    refine short_seq m c t _ s r l fun q p hp => ?_
    unfold shortP
    rw [dif_pos (by omega)]
  · rw [outsAt0_B m c t h]
    dsimp only
    unfold out0_B_8
    rw [View.read_writes_junk_eq_canon]
    refine (out_B (hj := hj) ..).trans ?_
    exact short_seq m c t _ s r l fun q p hp => halo_seq m c t h s q l p hp

/-- The result array's upper columns after the run are the convolution of the argument arrays. -/
theorem final_at (c : Dev nD) (i : S16x2048x2048.Idx) (d : Fin 1024) (hd : (i 2 : ℕ) = 1024 + d) :
    ((dats m 0 c).arrAt 8 (cfgs 0).N : FVec Ideal S16x2048x2048 .bf16) i
      = short (seq m c (i 0)) (gain m c) (wt m c) (tap m c) (i 1) d := by
  refine ((dats m 0 c).arrAt_forall_of_covers 8
    (fun i v => ∀ d : Fin 1024, (i 2 : ℕ) = 1024 + d → v = short (seq m c (i 0)) (gain m c) (wt m c) (tap m c) (i 1) d)
    (by decide +kernel) (fun t _ y => ?_) i) d hd
  blk_simp
  rw [after0_8]
  intro d hd
  obtain ⟨z, r, j, rfl⟩ : ∃ (z : Fin 1) (r : Fin 512) (j : Fin 2048), y = ix3 z r j := ⟨y 0, y 1, y 2, eq_ix3 y⟩
  obtain rfl : z = 0 := Subsingleton.elim _ _
  have e : (win0_8.blk t).view.emb (ix3 0 r j) = ix3 (bat t) (place t r) j := by
    blk_ext [idx t, bat, place]
  have hj : (j : ℕ) = 1024 + d := by
    rw [(idx t).2.2.2.2] at hd
    exact (Nat.zero_add _).symm.trans ((congrArg (· + (j : ℕ)) (Nat.zero_mul 2048).symm).trans hd)
  rw [e]
  refine (block_at m c t r j ⟨d / 128, by omega⟩ ⟨d % 128, by omega⟩ (by simp only; omega)).trans ?_
  exact congrArg (short _ _ _ _ _) (Fin.ext (by simp only; omega))

end Cert.ShortConvIdeal.Tile

end
-- ==== Proof.ShortRun.lean ====
/- The short gated convolution's run: the upper columns of the result array, which the host cuts out, and the arguments as they were. -/
module

public import proofs.«01_k».proof.Proof.ShortRows
public import proofs.«01_k».proof.Proof.ShortValue
public import proofs.«01_k».proof.Proof.Gen.ShortConvIdeal.Frame
public import Idealize.ShloMosaic.Lib.Pipeline.ValueKit
public import Idealize.ShloMosaic.Lib.Tactic.CleanTypes

@[expose] public section

set_option maxRecDepth 16384

noncomputable section

namespace Cert.ShortConvIdeal.Tile

open Cert.ShortConvIdeal Cert.ShortConvIdeal.Gen Cert.Rows Idealize.ShloMosaic Idealize.ShloMosaic.TcCoe Idealize.SL.Sem
open Idealize.ShloMosaic.Pipeline (Dat)

variable (m : (ℓ : Loc nD τ sig) → Buf (Elt Ideal) ℓ)

/-- The call's result as one function of its argument arrays. -/
def G (c : Dev nD) : FVec Ideal S16x2048x1024 .bf16 := fun i =>
  short (seq m c (i 0)) (gain m c) (wt m c) (tap m c) (i 1) (i 2)

/-- What the host's cut leaves is the convolution of the argument arrays. -/
theorem tail (c : Dev nD) : Pipeline.afterTail₀ cfgs (dats m) 0 (V0 m) [hostOps1] c main_v49 = G m c := by
  have h8 : Pipeline.withArrays (cfgs 0).spec c (V0 m c) (fun w => (dats m 0 c).arrAt w (cfgs 0).N) (Proc.devRef .tc main_v48)
      = (dats m 0 c).arrAt 8 (cfgs 0).N :=
    Pipeline.withArrays_arr (cfgs 0).spec (by decide) c (V0 m c) (fun w => (dats m 0 c).arrAt w (cfgs 0).N) 8
  unfold Pipeline.afterTail₀
  generalize Pipeline.withArrays (cfgs 0).spec c (V0 m c) (fun w => (dats m 0 c).arrAt w (cfgs 0).N) = F at h8 ⊢
  simp only [hostOps1, List.flatten_cons, List.flatten_nil, List.append_nil, StableHlo.after_cons, StableHlo.after_nil]
  refine (StableHlo.unary_result _ _ _ _ _ F).trans ?_
  rw [h8]
  funext i
  refine (extractStridedSlice_apply _ _ _ i (ix3 (i 0) (i 1) ⟨1024 + (i 2 : ℕ), by have : (i 2 : ℕ) < 1024 := (i 2).isLt; omega⟩) ?_).trans ?_
  · intro a
    fin_cases a
    · exact (Nat.zero_add _).symm
    · exact (Nat.zero_add _).symm
    · rfl
  · exact final_at m c _ (i 2) rfl

/-- Every run ends with the result at the convolution of the argument arrays, and the argument arrays as they were. -/
theorem run (ρ : Dev nD → PrngReg) : θ_run defs (onTc (τ := τ) (main (F := Ideal))) ⟨m, fun _ => 0, ρ⟩ (fun r => ∀ c : Dev nD,
      r.2.mem ((c.tc : Thread nD τ).loc main_v49) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h.2 c).2 main_v49 (by decide)).trans (tail m c), h.1 c⟩)
    (θ_run_and (unchanged m ρ) (run_main m ρ))

end Cert.ShortConvIdeal.Tile

end
-- ==== Proof.ShortRefValue.lean ====
/- The reference of the short gated convolution, read entry by entry. -/
module

public import proofs.«01_k».proof.Proof.ShortRows
public import proofs.«01_k».proof.Proof.Gen.ShortConvRefIdeal.Read
public import Idealize.ShloMosaic.Lib.Pointwise
public import Idealize.ShloMosaic.Lib.Tactic.CleanTypes

@[expose] public section

set_option maxRecDepth 16384

noncomputable section

namespace Cert.ShortConvRefIdeal.Rows

open Cert.ShortConvRefIdeal Cert.ShortConvRefIdeal.Gen Cert.ShortConvRefIdeal.Read Cert.Rows Idealize.ShloMosaic Idealize.ShloMosaic.TcCoe Idealize.SL.Sem

variable (x : FVec Ideal S16x2048x1024 .f32) (g : FVec Ideal S6x1024 .f32) (w : FVec Ideal S1024x5120 .f32)
  (f : FVec Ideal S3x1024 .f32)

/-- The normalised input. -/
theorem normed_at (b : Fin 16) (s : Fin 2048) (d : Fin 1024) :
    val_main_v14 (F := Ideal) x g (ix3 b s d) = rms (fun d => x (ix3 b s d)) (fun d => g (ix2 0 d)) d := by
  pointwise [val_main_v14, val_main_v13, val_main_v12, val_main_v11, val_main_v10, val_main_v9,
    val_main_v8, val_main_v7, val_main_v6, val_main_v5, val_main_v4, val_main_v3, val_main_v2, val_main_v1, val_main_v0,
    val_main_cst, val_main_cst_0, val_main_cst_1, rms]

/-- The projected input. -/
theorem proj_at (b : Fin 16) (s : Fin 2048) (j : Fin 5120) :
    val_main_v15 (F := Ideal) x g w (ix3 b s j)
      = shortU (fun s d => x (ix3 b s d)) (fun d => g (ix2 0 d)) (fun k j => w (ix2 k j)) s j := by
  unfold shortU row
  pointwise [val_main_v15, normed_at]

/-- The gates' product behind two rows of zeros. -/
theorem padded_at (b : Fin 16) (q : Fin 2050) (j : Fin 1024) :
    val_main_v20 (F := Ideal) x g w (ix3 b q j)
      = shortP (fun s d => x (ix3 b s d)) (fun d => g (ix2 0 d)) (fun k j => w (ix2 k j)) q j := by
  unfold shortP
  pointwise [val_main_v20, val_main_v19, val_main_v18, val_main_v17, val_main_call0_v0, val_main_c, proj_at]
  have hz : FloatOps.sitofp (F := Ideal) .f32 (0#32) = (0 : EReal) := by
    show (((0#32 : BitVec 32).toInt : ℝ) : EReal) = 0
    simp
  by_cases h : (q : ℕ) < 2
  · rw [dif_pos h, dif_neg (by omega)]
    exact hz
  · rw [dif_neg h, dif_pos (by omega)]

/-- The reference's result. -/
theorem result_at (b : Fin 16) (s : Fin 2048) (j : Fin 1024) :
    val_main_v44 (F := Ideal) x g w f (ix3 b s j)
      = short (fun s d => x (ix3 b s d)) (fun d => g (ix2 0 d)) (fun k j => w (ix2 k j)) (fun k j => f (ix2 k j)) s j := by
  unfold short
  pointwise [val_main_v44, val_main_v43, val_main_v42, val_main_v41, val_main_v40, val_main_v39, val_main_v38, val_main_v37,
    val_main_v36, val_main_v35, val_main_v34, val_main_v33, val_main_v32, val_main_v31, val_main_v30, val_main_v29,
    val_main_v28, val_main_v27, val_main_v26, val_main_v25, val_main_v24, val_main_v23, val_main_v22, val_main_v21,
    val_main_v16, val_main_cst_2, padded_at, proj_at]

end Cert.ShortConvRefIdeal.Rows

end
-- ==== Proof.Pairs.lean ====
/- The value claims: each call's result array equals its reference's, entry by entry. -/
module

public import proofs.«01_k».proof.Defs
public import proofs.«01_k».proof.Proof.Finite
public import proofs.«01_k».proof.Proof.AttnValue
public import proofs.«01_k».proof.Proof.AttnRefValue
public import proofs.«01_k».proof.Proof.FirstAttnValue
public import proofs.«01_k».proof.Proof.FirstAttnRefValue
public import proofs.«01_k».proof.Proof.MlpValue
public import proofs.«01_k».proof.Proof.MlpRefValue
public import proofs.«01_k».proof.Proof.KvValue
public import proofs.«01_k».proof.Proof.KvRefValue
public import proofs.«01_k».proof.Proof.ShortRun
public import proofs.«01_k».proof.Proof.ShortRefValue
public import proofs.«01_k».proof.Proof.Gen.AttnRefIdeal.Run
public import proofs.«01_k».proof.Proof.Gen.FirstAttnRefIdeal.Run
public import proofs.«01_k».proof.Proof.Gen.MlpRefIdeal.Run
public import proofs.«01_k».proof.Proof.Gen.KvRefIdeal.Run
public import proofs.«01_k».proof.Proof.Gen.ShortConvRefIdeal.Run
public import Idealize.ShloMosaic.Lib.Claim

@[expose] public section

set_option maxRecDepth 16384

noncomputable section

namespace Cert.Pairs

open Cert.Rows Idealize.ShloMosaic Idealize.ShloMosaic.TcCoe Idealize.SL.Sem

/-- The attention's reference leaves its arguments as they were; it has no counter. -/
theorem frame_attn_reference : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)

/-- The same under the precondition. -/
theorem frame_attn_reference_finite [Cert.Pre_keys_finite.Facts] : Cert.quiescent_AttnRefIdeal_pre_keys_finite := fun m ρ _ =>
  (θ_run Cert.AttnRefIdeal.defs _ _).mono (fun r h => ⟨fun c => (h c).2, sem_eq_zero_of_no_sems (by decide) r.2⟩)
    (Cert.AttnRefIdeal.Value.run (F := Ideal) m ρ)

/-- The first layer's attention's reference leaves its arguments as they were; it has no counter. -/
theorem frame_first_attn_reference : Cert.quiescent_FirstAttnRefIdeal := fun m ρ _ =>
  (θ_run Cert.FirstAttnRefIdeal.defs _ _).mono (fun r h => ⟨fun c => (h c).2, sem_eq_zero_of_no_sems (by decide) r.2⟩)
    (Cert.FirstAttnRefIdeal.Value.run (F := Ideal) m ρ)

/-- The first layer's under its precondition. -/
theorem frame_first_attn_reference_finite [Cert.Pre_first_keys_finite.Facts] : Cert.quiescent_FirstAttnRefIdeal_pre_first_keys_finite := fun m ρ _ =>
  (θ_run Cert.FirstAttnRefIdeal.defs _ _).mono (fun r h => ⟨fun c => (h c).2, sem_eq_zero_of_no_sems (by decide) r.2⟩)
    (Cert.FirstAttnRefIdeal.Value.run (F := Ideal) m ρ)

/-- The squared-ReLU block's reference leaves its arguments as they were; it has no counter. -/
theorem frame_mlp_reference : Cert.quiescent_MlpRefIdeal := fun m ρ _ =>
  (θ_run Cert.MlpRefIdeal.defs _ _).mono (fun r h => ⟨fun c => (h c).2, sem_eq_zero_of_no_sems (by decide) r.2⟩)
    (Cert.MlpRefIdeal.Value.run (F := Ideal) m ρ)

/-- The projection's reference leaves its arguments as they were; it has no counter. -/
theorem frame_kv_reference : Cert.quiescent_KvRefIdeal := fun m ρ _ =>
  (θ_run Cert.KvRefIdeal.defs _ _).mono (fun r h => ⟨fun c => (h c).2, sem_eq_zero_of_no_sems (by decide) r.2⟩)
    (Cert.KvRefIdeal.Value.run (F := Ideal) m ρ)

/-- The comparison with zero that holds of a difference says that the difference is zero. -/
theorem zero_of_test {a : EReal} (h : FloatOps.cmpf (F := Ideal) (φ := .f32) .oeq a (FloatOps.ofBits .f32 0x00000000#32) = 1#1) : a = 0 := by
  have hz : (FloatOps.ofBits .f32 0x00000000#32 : Ideal .f32) = (0 : EReal) := by
    change Ideal.ofBits .f32 0x00000000#32 = 0
    simp [Ideal.ofBits, Ideal.ieee]
  rw [hz] at h
  by_contra hn
  rw [Ideal.cmpf_def] at h
  simp [Ideal.cmp, hn] at h

/-- The key and value projection. -/
theorem kv : Cert.algebraic_KvIdeal_KvRefIdeal := by
  pair_intro
  · run_from Cert.KvIdeal.Gen.run_main m g
  · run_from Cert.KvRefIdeal.Value.run m' g'
    refine (Cert.KvRefIdeal.Read.val_main_v10_eq _ _).trans ?_
    rw [Cert.KvIdeal.Tile.final]
    funext i
    obtain ⟨l, r, j, rfl⟩ : ∃ (l : Fin 2) (r : Fin 4096) (j : Fin 2048), i = ix3 l r j := ⟨i 0, i 1, i 2, eq_ix3 i⟩
    exact Cert.KvRefIdeal.Rows.result_at _ _ l r j

/-- The squared-ReLU block. -/
theorem mlp : Cert.algebraic_MlpIdeal_MlpRefIdeal := by
  pair_intro
  · run_from Cert.MlpIdeal.Gen.run_main m g
  · run_from Cert.MlpRefIdeal.Value.run m' g'
    obtain ⟨h0, h1, h2, h3⟩ := hagree c
    rw [Cert.MlpIdeal.Tile.final]
    refine (Cert.MlpRefIdeal.Read.val_main_v40_eq m' c).trans ?_
    rw [h0, h1, h2, h3]
    funext i
    obtain ⟨b, r, j, rfl⟩ : ∃ (b : Fin 16) (r : Fin 2048) (j : Fin 1024), i = ix3 b r j := ⟨i 0, i 1, i 2, eq_ix3 i⟩
    exact Cert.MlpRefIdeal.Rows.result_at _ _ _ _ b r j

/-- The attention: where keys, gains and query weights are finite, the reciprocal taken once is the softmax's quotient. -/
theorem attn [Cert.Pre_keys_finite.Facts] : Cert.algebraic_AttnIdeal_AttnRefIdeal_pre_keys_finite := by
  pair_intro
  · run_from Cert.AttnIdeal.Gen.run_main m g
  · run_from Cert.AttnRefIdeal.Value.run m' g'
    obtain ⟨h0, h1, h2, h3, h4, h5, h6⟩ := hagree c
    obtain ⟨p2, p3, p5⟩ := hpre c
    rw [Cert.AttnIdeal.Tile.final]
    refine (Cert.AttnRefIdeal.Read.val_main_v81_eq m' c).trans ?_
    rw [h0, h1, h2, h3, h4, h5, h6]
    funext i
    obtain ⟨b, r, j, rfl⟩ : ∃ (b : Fin 16) (r : Fin 2048) (j : Fin 1024), i = ix3 b r j := ⟨i 0, i 1, i 2, eq_ix3 i⟩
    refine (Cert.AttnRefIdeal.Rows.result_at _ _ _ _ _ _ _ b r j).trans ?_
    have hkv : ∀ (k : Fin 256) (d : Fin 2048), Finite (m ((c.tc : Thread Cert.AttnIdeal.nD Cert.AttnIdeal.τ).loc Cert.AttnIdeal.main_arg2) (ix4 1 b k d)) :=
      fun k d => Finite.of_sub (zero_of_test (congrFun p2 (ix4 1 b k d)))
    have hg : ∀ d : Fin 1024, Finite (m ((c.tc : Thread Cert.AttnIdeal.nD Cert.AttnIdeal.τ).loc Cert.AttnIdeal.main_arg3) (ix3 1 2 d)) :=
      fun d => Finite.of_sub (zero_of_test (congrFun p3 (ix3 1 2 d)))
    have hq : ∀ k d : Fin 1024, Finite (m ((c.tc : Thread Cert.AttnIdeal.nD Cert.AttnIdeal.τ).loc Cert.AttnIdeal.main_arg5) (ix3 1 k d)) :=
      fun k d => Finite.of_sub (zero_of_test (congrFun p5 (ix3 1 k d)))
    rw [← attn_weight _ _ _ _ _ _ _ _ _ hkv hg hq]
    rfl

/-- The first layer's attention: where keys, gains and query weights are finite, the reciprocal taken once is the softmax's quotient. -/
theorem first_attn [Cert.Pre_first_keys_finite.Facts] : Cert.algebraic_FirstAttnIdeal_FirstAttnRefIdeal_pre_first_keys_finite := by
  pair_intro
  · run_from Cert.FirstAttnIdeal.Gen.run_main m g
  · run_from Cert.FirstAttnRefIdeal.Value.run m' g'
    obtain ⟨h0, h1, h2, h3, h4, h5, h6⟩ := hagree c
    obtain ⟨p2, p3, p5⟩ := hpre c
    rw [Cert.FirstAttnIdeal.Tile.final]
    refine (Cert.FirstAttnRefIdeal.Read.val_main_v81_eq m' c).trans ?_
    rw [h0, h1, h2, h3, h4, h5, h6]
    funext i
    obtain ⟨b, r, j, rfl⟩ : ∃ (b : Fin 16) (r : Fin 2048) (j : Fin 1024), i = ix3 b r j := ⟨i 0, i 1, i 2, eq_ix3 i⟩
    refine (Cert.FirstAttnRefIdeal.Rows.result_at _ _ _ _ _ _ _ b r j).trans ?_
    have hkv : ∀ (k : Fin 256) (d : Fin 2048), Finite (m ((c.tc : Thread Cert.FirstAttnIdeal.nD Cert.FirstAttnIdeal.τ).loc Cert.FirstAttnIdeal.main_arg2) (ix4 0 b k d)) :=
      fun k d => Finite.of_sub (zero_of_test (congrFun p2 (ix4 0 b k d)))
    have hg : ∀ d : Fin 1024, Finite (m ((c.tc : Thread Cert.FirstAttnIdeal.nD Cert.FirstAttnIdeal.τ).loc Cert.FirstAttnIdeal.main_arg3) (ix3 0 2 d)) :=
      fun d => Finite.of_sub (zero_of_test (congrFun p3 (ix3 0 2 d)))
    have hq : ∀ k d : Fin 1024, Finite (m ((c.tc : Thread Cert.FirstAttnIdeal.nD Cert.FirstAttnIdeal.τ).loc Cert.FirstAttnIdeal.main_arg5) (ix3 0 k d)) :=
      fun k d => Finite.of_sub (zero_of_test (congrFun p5 (ix3 0 k d)))
    rw [← attn_weight _ _ _ _ _ _ _ _ _ hkv hg hq]
    rfl

/-- The short convolution's reference leaves its arguments as they were; it has no counter. -/
theorem frame_short_conv_reference : Cert.quiescent_ShortConvRefIdeal := fun m ρ _ =>
  (θ_run Cert.ShortConvRefIdeal.defs _ _).mono (fun r h => ⟨fun c => (h c).2, sem_eq_zero_of_no_sems (by decide) r.2⟩)
    (Cert.ShortConvRefIdeal.Value.run (F := Ideal) m ρ)

/-- The short gated convolution. -/
theorem short_conv : Cert.algebraic_ShortConvIdeal_ShortConvRefIdeal := by
  pair_intro
  · run_from Cert.ShortConvIdeal.Tile.run m g
  · run_from Cert.ShortConvRefIdeal.Value.run m' g'
    obtain ⟨h0, h1, h2, h3, h4, h5, h6, h7⟩ := hagree c
    refine (Cert.ShortConvRefIdeal.Read.val_main_v44_eq m' c).trans ?_
    rw [h0, h1, h2, h7]
    funext i
    obtain ⟨b, r, j, rfl⟩ : ∃ (b : Fin 16) (r : Fin 2048) (j : Fin 1024), i = ix3 b r j := ⟨i 0, i 1, i 2, eq_ix3 i⟩
    exact Cert.ShortConvRefIdeal.Rows.result_at _ _ _ _ b r j

end Cert.Pairs

end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.FirstAttn
public import proofs.«01_k».proof.Proof.Gen.FirstAttn.Skeleton
public import proofs.«01_k».proof.Proof.Gen.FirstAttn.Launch
public import proofs.«01_k».proof.Proof.Gen.FirstAttn.Points
public import proofs.«01_k».proof.Proof.Gen.FirstAttn.Frame
public import proofs.«01_k».proof.Proof.Gen.FirstAttnIdeal
public import proofs.«01_k».proof.Proof.Gen.FirstAttnIdeal.Skeleton
public import proofs.«01_k».proof.Proof.Gen.FirstAttnIdeal.Launch
public import proofs.«01_k».proof.Proof.Gen.FirstAttnIdeal.Points
public import proofs.«01_k».proof.Proof.Gen.FirstAttnIdeal.Frame
public import proofs.«01_k».proof.Proof.Gen.FirstAttnRefIdeal
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.ShortConv
public import proofs.«01_k».proof.Proof.Gen.ShortConv.Skeleton
public import proofs.«01_k».proof.Proof.Gen.ShortConv.Launch
public import proofs.«01_k».proof.Proof.Gen.ShortConv.Points
public import proofs.«01_k».proof.Proof.Gen.ShortConv.Frame
public import proofs.«01_k».proof.Proof.Gen.ShortConvIdeal
public import proofs.«01_k».proof.Proof.Gen.ShortConvIdeal.Skeleton
public import proofs.«01_k».proof.Proof.Gen.ShortConvIdeal.Launch
public import proofs.«01_k».proof.Proof.Gen.ShortConvIdeal.Points
public import proofs.«01_k».proof.Proof.Gen.ShortConvIdeal.Frame
public import proofs.«01_k».proof.Proof.Gen.ShortConvRefIdeal
public import proofs.«01_k».proof.Proof.Gen.ShortConvRefIdeal.Run
public import proofs.«01_k».proof.Proof.Gen.ShortConvRefIdeal.Read
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvRefIdeal
public import proofs.«01_k».proof.Proof.Gen.Pre_keys_finite
public import proofs.«01_k».proof.Proof.Gen.Pre_first_keys_finite
public import proofs.«01_k».proof.Proof.Pairs
public import proofs.«01_k».proof.Proof.Gen.AttnRefIdeal.Run
public import proofs.«01_k».proof.Proof.Gen.FirstAttnRefIdeal.Run
public import proofs.«01_k».proof.Proof.Gen.FirstAttnRefIdeal.Read
public import proofs.«01_k».proof.Proof.Gen.AttnRefIdeal.Read
public import proofs.«01_k».proof.Proof.Gen.MlpRefIdeal.Run
public import proofs.«01_k».proof.Proof.Gen.MlpRefIdeal.Read
public import proofs.«01_k».proof.Proof.Gen.KvRefIdeal.Run
public import proofs.«01_k».proof.Proof.Gen.KvRefIdeal.Read
public import Idealize.ShloMosaic.Adequacy
public import Idealize.ShloMosaic.Init

@[expose] public section

noncomputable section

namespace Cert.Proof

open Idealize.ShloMosaic Idealize.SL.Sem Cert.Attn

/-- Every claim: the frames, each program's idealization, and the five calls' values. -/
theorem claim : Cert.Claim := ⟨Cert.Attn.Gen.facts, Cert.AttnIdeal.Gen.facts, Cert.AttnRefIdeal.Gen.facts,
  Cert.FirstAttn.Gen.facts, Cert.FirstAttnIdeal.Gen.facts, Cert.FirstAttnRefIdeal.Gen.facts, Cert.Mlp.Gen.facts,
  Cert.MlpIdeal.Gen.facts, Cert.MlpRefIdeal.Gen.facts, Cert.Kv.Gen.facts, Cert.KvIdeal.Gen.facts, Cert.KvRefIdeal.Gen.facts,
  Cert.ShortConv.Gen.facts, Cert.ShortConvIdeal.Gen.facts, Cert.ShortConvRefIdeal.Gen.facts,
  Cert.Pre_keys_finite.Gen.facts, Cert.Pre_first_keys_finite.Gen.facts,
  fun m ρ _ => Cert.Attn.Gen.frame m ρ, fun m ρ _ => Cert.AttnIdeal.Gen.frame m ρ, fun m ρ _ => Cert.AttnIdeal.Gen.frame m ρ,
  Cert.Pairs.frame_attn_reference, Cert.Pairs.frame_attn_reference_finite,
  fun m ρ _ => Cert.FirstAttn.Gen.frame m ρ, fun m ρ _ => Cert.FirstAttnIdeal.Gen.frame m ρ,
  fun m ρ _ => Cert.FirstAttnIdeal.Gen.frame m ρ,
  Cert.Pairs.frame_first_attn_reference, Cert.Pairs.frame_first_attn_reference_finite,
  fun m ρ _ => Cert.Mlp.Gen.frame m ρ, fun m ρ _ => Cert.MlpIdeal.Gen.frame m ρ, Cert.Pairs.frame_mlp_reference,
  fun m ρ _ => Cert.Kv.Gen.frame m ρ, fun m ρ _ => Cert.KvIdeal.Gen.frame m ρ, Cert.Pairs.frame_kv_reference,
  fun m ρ _ => Cert.ShortConv.Gen.frame m ρ, fun m ρ _ => Cert.ShortConvIdeal.Gen.frame m ρ, Cert.Pairs.frame_short_conv_reference,
  trivial, Cert.Pairs.attn, trivial, Cert.Pairs.first_attn, trivial, Cert.Pairs.mlp, trivial, Cert.Pairs.kv,
  trivial, Cert.Pairs.short_conv⟩

end Cert.Proof

end
